-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_args [hPre_attn_args : Cert.Pre_attn_args.Facts] (m : (ℓ : Loc Cert.AttnIdeal.nD Cert.AttnIdeal.τ Cert.AttnIdeal.sig) → Buf (Elt Ideal) ℓ) : Prop :=
  ∀ c : Dev Cert.AttnIdeal.nD,
    (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_attn_args.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_args [hPre_attn_args : Cert.Pre_attn_args.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_attn_args.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InGate (m : (ℓ : Loc Cert.InGate.nD Cert.InGate.τ Cert.InGate.sig) → Buf (Elt Bits) ℓ) : Prop :=
  True

def Pre_InGateIdeal (m : (ℓ : Loc Cert.InGateIdeal.nD Cert.InGateIdeal.τ Cert.InGateIdeal.sig) → Buf (Elt Ideal) ℓ) : Prop :=
  True

def Pre_InGateRefIdeal (m : (ℓ : Loc Cert.InGateRefIdeal.nD Cert.InGateRefIdeal.τ Cert.InGateRefIdeal.sig) → Buf (Elt Ideal) ℓ) : Prop :=
  True

def Pre_InConv (m : (ℓ : Loc Cert.InConv.nD Cert.InConv.τ Cert.InConv.sig) → Buf (Elt Bits) ℓ) : Prop :=
  True

def Pre_InConvIdeal (m : (ℓ : Loc Cert.InConvIdeal.nD Cert.InConvIdeal.τ Cert.InConvIdeal.sig) → Buf (Elt Ideal) ℓ) : Prop :=
  True

def Pre_InConvRefIdeal (m : (ℓ : Loc Cert.InConvRefIdeal.nD Cert.InConvRefIdeal.τ Cert.InConvRefIdeal.sig) → Buf (Elt Ideal) ℓ) : Prop :=
  True

def Pre_InRwkv (m : (ℓ : Loc Cert.InRwkv.nD Cert.InRwkv.τ Cert.InRwkv.sig) → Buf (Elt Bits) ℓ) : Prop :=
  True

def Pre_InRwkvIdeal (m : (ℓ : Loc Cert.InRwkvIdeal.nD Cert.InRwkvIdeal.τ Cert.InRwkvIdeal.sig) → Buf (Elt Ideal) ℓ) : Prop :=
  True

def Pre_InRwkvRefIdeal (m : (ℓ : Loc Cert.InRwkvRefIdeal.nD Cert.InRwkvRefIdeal.τ Cert.InRwkvRefIdeal.sig) → Buf (Elt Ideal) ℓ) : Prop :=
  True

def Pre_InMla (m : (ℓ : Loc Cert.InMla.nD Cert.InMla.τ Cert.InMla.sig) → Buf (Elt Bits) ℓ) : Prop :=
  True

def Pre_InMlaIdeal (m : (ℓ : Loc Cert.InMlaIdeal.nD Cert.InMlaIdeal.τ Cert.InMlaIdeal.sig) → Buf (Elt Ideal) ℓ) : Prop :=
  True

def Pre_InMlaIdeal_in_mla_args [hPre_in_mla_args : Cert.Pre_in_mla_args.Facts] (m : (ℓ : Loc Cert.InMlaIdeal.nD Cert.InMlaIdeal.τ Cert.InMlaIdeal.sig) → Buf (Elt Ideal) ℓ) : Prop :=
  ∀ c : Dev Cert.InMlaIdeal.nD,
    (Cert.Pre_in_mla_args.fn (F := Ideal) (m ((c.tc : Thread Cert.InMlaIdeal.nD Cert.InMlaIdeal.τ).loc Cert.InMlaIdeal.main_arg0)) (m ((c.tc : Thread Cert.InMlaIdeal.nD Cert.InMlaIdeal.τ).loc Cert.InMlaIdeal.main_arg1))).1 = (fun _ => 1#1)
    ∧ (Cert.Pre_in_mla_args.fn (F := Ideal) (m ((c.tc : Thread Cert.InMlaIdeal.nD Cert.InMlaIdeal.τ).loc Cert.InMlaIdeal.main_arg0)) (m ((c.tc : Thread Cert.InMlaIdeal.nD Cert.InMlaIdeal.τ).loc Cert.InMlaIdeal.main_arg1))).2 = (fun _ => 1#1)

def Pre_InMlaRefIdeal (m : (ℓ : Loc Cert.InMlaRefIdeal.nD Cert.InMlaRefIdeal.τ Cert.InMlaRefIdeal.sig) → Buf (Elt Ideal) ℓ) : Prop :=
  True

def Pre_InMlaRefIdeal_in_mla_args [hPre_in_mla_args : Cert.Pre_in_mla_args.Facts] (m : (ℓ : Loc Cert.InMlaRefIdeal.nD Cert.InMlaRefIdeal.τ Cert.InMlaRefIdeal.sig) → Buf (Elt Ideal) ℓ) : Prop :=
  ∀ c : Dev Cert.InMlaRefIdeal.nD,
    (Cert.Pre_in_mla_args.fn (F := Ideal) (m ((c.tc : Thread Cert.InMlaRefIdeal.nD Cert.InMlaRefIdeal.τ).loc Cert.InMlaRefIdeal.main_arg0)) (m ((c.tc : Thread Cert.InMlaRefIdeal.nD Cert.InMlaRefIdeal.τ).loc Cert.InMlaRefIdeal.main_arg1))).1 = (fun _ => 1#1)
    ∧ (Cert.Pre_in_mla_args.fn (F := Ideal) (m ((c.tc : Thread Cert.InMlaRefIdeal.nD Cert.InMlaRefIdeal.τ).loc Cert.InMlaRefIdeal.main_arg0)) (m ((c.tc : Thread Cert.InMlaRefIdeal.nD Cert.InMlaRefIdeal.τ).loc Cert.InMlaRefIdeal.main_arg1))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutLn (m : (ℓ : Loc Cert.OutLn.nD Cert.OutLn.τ Cert.OutLn.sig) → Buf (Elt Bits) ℓ) : Prop :=
  True

def Pre_OutLnIdeal (m : (ℓ : Loc Cert.OutLnIdeal.nD Cert.OutLnIdeal.τ Cert.OutLnIdeal.sig) → Buf (Elt Ideal) ℓ) : Prop :=
  True

def Pre_OutLnRefIdeal (m : (ℓ : Loc Cert.OutLnRefIdeal.nD Cert.OutLnRefIdeal.τ Cert.OutLnRefIdeal.sig) → Buf (Elt Ideal) ℓ) : Prop :=
  True

def Pre_MlaPrep (m : (ℓ : Loc Cert.MlaPrep.nD Cert.MlaPrep.τ Cert.MlaPrep.sig) → Buf (Elt Bits) ℓ) : Prop :=
  True

def Pre_MlaPrepIdeal (m : (ℓ : Loc Cert.MlaPrepIdeal.nD Cert.MlaPrepIdeal.τ Cert.MlaPrepIdeal.sig) → Buf (Elt Ideal) ℓ) : Prop :=
  True

def Pre_MlaPrepIdeal_mla_prep_args [hPre_mla_prep_args : Cert.Pre_mla_prep_args.Facts] (m : (ℓ : Loc Cert.MlaPrepIdeal.nD Cert.MlaPrepIdeal.τ Cert.MlaPrepIdeal.sig) → Buf (Elt Ideal) ℓ) : Prop :=
  ∀ c : Dev Cert.MlaPrepIdeal.nD,
    (Cert.Pre_mla_prep_args.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4))).1 = (fun _ => 1#1)
    ∧ (Cert.Pre_mla_prep_args.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4))).2.1 = (fun _ => 1#1)
    ∧ (Cert.Pre_mla_prep_args.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4))).2.2.1 = (fun _ => 1#1)
    ∧ (Cert.Pre_mla_prep_args.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4))).2.2.2.1 = (fun _ => 1#1)
    ∧ (Cert.Pre_mla_prep_args.fn (F := Ideal) (m ((c.tc : Thread Cert.MlaPrepIdeal.nD Cert.MlaPrepIdeal.τ).loc Cert.MlaPrepIdeal.main_arg0)) (m ((c.tc : Thread Cert.MlaPrepIdeal.nD Cert.MlaPrepIdeal.τ).loc Cert.MlaPrepIdeal.main_arg1)) (m ((c.tc : Thread Cert.MlaPrepIdeal.nD Cert.MlaPrepIdeal.τ).loc Cert.MlaPrepIdeal.main_arg2)) (m ((c.tc : Thread Cert.MlaPrepIdeal.nD Cert.MlaPrepIdeal.τ).loc Cert.MlaPrepIdeal.main_arg3)) (m ((c.tc : Thread Cert.MlaPrepIdeal.nD Cert.MlaPrepIdeal.τ).loc Cert.MlaPrepIdeal.main_arg4))).2.2.2.2 = (fun _ => 1#1)

def Pre_MlaPrepRefIdeal (m : (ℓ : Loc Cert.MlaPrepRefIdeal.nD Cert.MlaPrepRefIdeal.τ Cert.MlaPrepRefIdeal.sig) → Buf (Elt Ideal) ℓ) : Prop :=
  True

def Pre_MlaPrepRefIdeal_mla_prep_args [hPre_mla_prep_args : Cert.Pre_mla_prep_args.Facts] (m : (ℓ : Loc Cert.MlaPrepRefIdeal.nD Cert.MlaPrepRefIdeal.τ Cert.MlaPrepRefIdeal.sig) → Buf (Elt Ideal) ℓ) : Prop :=
  ∀ c : Dev Cert.MlaPrepRefIdeal.nD,
    (Cert.Pre_mla_prep_args.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4))).1 = (fun _ => 1#1)
    ∧ (Cert.Pre_mla_prep_args.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4))).2.1 = (fun _ => 1#1)
    ∧ (Cert.Pre_mla_prep_args.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4))).2.2.1 = (fun _ => 1#1)
    ∧ (Cert.Pre_mla_prep_args.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4))).2.2.2.1 = (fun _ => 1#1)
    ∧ (Cert.Pre_mla_prep_args.fn (F := Ideal) (m ((c.tc : Thread Cert.MlaPrepRefIdeal.nD Cert.MlaPrepRefIdeal.τ).loc Cert.MlaPrepRefIdeal.main_arg0)) (m ((c.tc : Thread Cert.MlaPrepRefIdeal.nD Cert.MlaPrepRefIdeal.τ).loc Cert.MlaPrepRefIdeal.main_arg1)) (m ((c.tc : Thread Cert.MlaPrepRefIdeal.nD Cert.MlaPrepRefIdeal.τ).loc Cert.MlaPrepRefIdeal.main_arg2)) (m ((c.tc : Thread Cert.MlaPrepRefIdeal.nD Cert.MlaPrepRefIdeal.τ).loc Cert.MlaPrepRefIdeal.main_arg3)) (m ((c.tc : Thread Cert.MlaPrepRefIdeal.nD Cert.MlaPrepRefIdeal.τ).loc Cert.MlaPrepRefIdeal.main_arg4))).2.2.2.2 = (fun _ => 1#1)

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostIdeal_rwkv_post_args [hPre_rwkv_post_args : Cert.Pre_rwkv_post_args.Facts] (m : (ℓ : Loc Cert.PostIdeal.nD Cert.PostIdeal.τ Cert.PostIdeal.sig) → Buf (Elt Ideal) ℓ) : Prop :=
  ∀ c : Dev Cert.PostIdeal.nD,
    (Cert.Pre_rwkv_post_args.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).1 = (fun _ => 1#1)
    ∧ (Cert.Pre_rwkv_post_args.fn (F := Ideal) (m ((c.tc : Thread Cert.PostIdeal.nD Cert.PostIdeal.τ).loc Cert.PostIdeal.main_arg0)) (m ((c.tc : Thread Cert.PostIdeal.nD Cert.PostIdeal.τ).loc Cert.PostIdeal.main_arg1)) (m ((c.tc : Thread Cert.PostIdeal.nD Cert.PostIdeal.τ).loc Cert.PostIdeal.main_arg2)) (m ((c.tc : Thread Cert.PostIdeal.nD Cert.PostIdeal.τ).loc Cert.PostIdeal.main_arg3)) (m ((c.tc : Thread Cert.PostIdeal.nD Cert.PostIdeal.τ).loc Cert.PostIdeal.main_arg4)) (m ((c.tc : Thread Cert.PostIdeal.nD Cert.PostIdeal.τ).loc Cert.PostIdeal.main_arg5))).2 = (fun _ => 1#1)

def Pre_PostRefIdeal (m : (ℓ : Loc Cert.PostRefIdeal.nD Cert.PostRefIdeal.τ Cert.PostRefIdeal.sig) → Buf (Elt Ideal) ℓ) : Prop :=
  True

def Pre_PostRefIdeal_rwkv_post_args [hPre_rwkv_post_args : Cert.Pre_rwkv_post_args.Facts] (m : (ℓ : Loc Cert.PostRefIdeal.nD Cert.PostRefIdeal.τ Cert.PostRefIdeal.sig) → Buf (Elt Ideal) ℓ) : Prop :=
  ∀ c : Dev Cert.PostRefIdeal.nD,
    (Cert.Pre_rwkv_post_args.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).1 = (fun _ => 1#1)
    ∧ (Cert.Pre_rwkv_post_args.fn (F := Ideal) (m ((c.tc : Thread Cert.PostRefIdeal.nD Cert.PostRefIdeal.τ).loc Cert.PostRefIdeal.main_arg0)) (m ((c.tc : Thread Cert.PostRefIdeal.nD Cert.PostRefIdeal.τ).loc Cert.PostRefIdeal.main_arg1)) (m ((c.tc : Thread Cert.PostRefIdeal.nD Cert.PostRefIdeal.τ).loc Cert.PostRefIdeal.main_arg2)) (m ((c.tc : Thread Cert.PostRefIdeal.nD Cert.PostRefIdeal.τ).loc Cert.PostRefIdeal.main_arg3)) (m ((c.tc : Thread Cert.PostRefIdeal.nD Cert.PostRefIdeal.τ).loc Cert.PostRefIdeal.main_arg4)) (m ((c.tc : Thread Cert.PostRefIdeal.nD Cert.PostRefIdeal.τ).loc Cert.PostRefIdeal.main_arg5))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_LnIn (m : (ℓ : Loc Cert.LnIn.nD Cert.LnIn.τ Cert.LnIn.sig) → Buf (Elt Bits) ℓ) : Prop :=
  True

def Pre_LnInIdeal (m : (ℓ : Loc Cert.LnInIdeal.nD Cert.LnInIdeal.τ Cert.LnInIdeal.sig) → Buf (Elt Ideal) ℓ) : Prop :=
  True

def Pre_LnInRefIdeal (m : (ℓ : Loc Cert.LnInRefIdeal.nD Cert.LnInRefIdeal.τ Cert.LnInRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_rwkv_prep_args [hPre_rwkv_prep_args : Cert.Pre_rwkv_prep_args.Facts] (m : (ℓ : Loc Cert.PrepIdeal.nD Cert.PrepIdeal.τ Cert.PrepIdeal.sig) → Buf (Elt Ideal) ℓ) : Prop :=
  ∀ c : Dev Cert.PrepIdeal.nD,
    (Cert.Pre_rwkv_prep_args.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).1 = (fun _ => 1#1)
    ∧ (Cert.Pre_rwkv_prep_args.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.1 = (fun _ => 1#1)
    ∧ (Cert.Pre_rwkv_prep_args.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.1 = (fun _ => 1#1)
    ∧ (Cert.Pre_rwkv_prep_args.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.1 = (fun _ => 1#1)
    ∧ (Cert.Pre_rwkv_prep_args.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6)) (m ((c.tc : Thread Cert.PrepIdeal.nD Cert.PrepIdeal.τ).loc Cert.PrepIdeal.main_arg7)) (m ((c.tc : Thread Cert.PrepIdeal.nD Cert.PrepIdeal.τ).loc Cert.PrepIdeal.main_arg8)) (m ((c.tc : Thread Cert.PrepIdeal.nD Cert.PrepIdeal.τ).loc Cert.PrepIdeal.main_arg9))).2.2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_rwkv_prep_args [hPre_rwkv_prep_args : Cert.Pre_rwkv_prep_args.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_rwkv_prep_args.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).1 = (fun _ => 1#1)
    ∧ (Cert.Pre_rwkv_prep_args.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.1 = (fun _ => 1#1)
    ∧ (Cert.Pre_rwkv_prep_args.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.1 = (fun _ => 1#1)
    ∧ (Cert.Pre_rwkv_prep_args.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.1 = (fun _ => 1#1)
    ∧ (Cert.Pre_rwkv_prep_args.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6)) (m ((c.tc : Thread Cert.PrepRefIdeal.nD Cert.PrepRefIdeal.τ).loc Cert.PrepRefIdeal.main_arg7)) (m ((c.tc : Thread Cert.PrepRefIdeal.nD Cert.PrepRefIdeal.τ).loc Cert.PrepRefIdeal.main_arg8)) (m ((c.tc : Thread Cert.PrepRefIdeal.nD Cert.PrepRefIdeal.τ).loc Cert.PrepRefIdeal.main_arg9))).2.2.2.2 = (fun _ => 1#1)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_attn_args [hAttnIdeal : Cert.AttnIdeal.Facts] [hPre_attn_args : Cert.Pre_attn_args.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_args m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_attn_args [hAttnRefIdeal : Cert.AttnRefIdeal.Facts] [hPre_attn_args : Cert.Pre_attn_args.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_args m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_InGate [hInGate : Cert.InGate.Facts] : Prop :=
  ∀ (m : (ℓ : Loc Cert.InGate.nD Cert.InGate.τ Cert.InGate.sig) → Buf (Elt Bits) ℓ) (g : Dev Cert.InGate.nD → PrngReg), Pre_InGate m →
    θ_run (Cert.InGate.defs (F := Bits)) (onTc (τ := Cert.InGate.τ) (Cert.InGate.main (F := Bits))) ⟨m, fun _ => 0, g⟩ (fun r => (∀ c : Dev Cert.InGate.nD,
      r.2.mem ((c.tc : Thread Cert.InGate.nD Cert.InGate.τ).loc Cert.InGate.main_arg0) = m ((c.tc : Thread Cert.InGate.nD Cert.InGate.τ).loc Cert.InGate.main_arg0)
      ∧ r.2.mem ((c.tc : Thread Cert.InGate.nD Cert.InGate.τ).loc Cert.InGate.main_arg1) = m ((c.tc : Thread Cert.InGate.nD Cert.InGate.τ).loc Cert.InGate.main_arg1))
      ∧ r.2.sem = fun _ => 0)

def quiescent_InGateIdeal [hInGateIdeal : Cert.InGateIdeal.Facts] : Prop :=
  ∀ (m : (ℓ : Loc Cert.InGateIdeal.nD Cert.InGateIdeal.τ Cert.InGateIdeal.sig) → Buf (Elt Ideal) ℓ) (g : Dev Cert.InGateIdeal.nD → PrngReg), Pre_InGateIdeal m →
    θ_run (Cert.InGateIdeal.defs (F := Ideal)) (onTc (τ := Cert.InGateIdeal.τ) (Cert.InGateIdeal.main (F := Ideal))) ⟨m, fun _ => 0, g⟩ (fun r => (∀ c : Dev Cert.InGateIdeal.nD,
      r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
      ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ r.2.sem = fun _ => 0)

def quiescent_InGateRefIdeal [hInGateRefIdeal : Cert.InGateRefIdeal.Facts] : Prop :=
  ∀ (m : (ℓ : Loc Cert.InGateRefIdeal.nD Cert.InGateRefIdeal.τ Cert.InGateRefIdeal.sig) → Buf (Elt Ideal) ℓ) (g : Dev Cert.InGateRefIdeal.nD → PrngReg), Pre_InGateRefIdeal m →
    θ_run (Cert.InGateRefIdeal.defs (F := Ideal)) (onTc (τ := Cert.InGateRefIdeal.τ) (Cert.InGateRefIdeal.main (F := Ideal))) ⟨m, fun _ => 0, g⟩ (fun r => (∀ c : Dev Cert.InGateRefIdeal.nD,
      r.2.mem ((c.tc : Thread Cert.InGateRefIdeal.nD Cert.InGateRefIdeal.τ).loc Cert.InGateRefIdeal.main_arg0) = m ((c.tc : Thread Cert.InGateRefIdeal.nD Cert.InGateRefIdeal.τ).loc Cert.InGateRefIdeal.main_arg0)
      ∧ r.2.mem ((c.tc : Thread Cert.InGateRefIdeal.nD Cert.InGateRefIdeal.τ).loc Cert.InGateRefIdeal.main_arg1) = m ((c.tc : Thread Cert.InGateRefIdeal.nD Cert.InGateRefIdeal.τ).loc Cert.InGateRefIdeal.main_arg1))
      ∧ r.2.sem = fun _ => 0)

def quiescent_InConv [hInConv : Cert.InConv.Facts] : Prop :=
  ∀ (m : (ℓ : Loc Cert.InConv.nD Cert.InConv.τ Cert.InConv.sig) → Buf (Elt Bits) ℓ) (g : Dev Cert.InConv.nD → PrngReg), Pre_InConv m →
    θ_run (Cert.InConv.defs (F := Bits)) (onTc (τ := Cert.InConv.τ) (Cert.InConv.main (F := Bits))) ⟨m, fun _ => 0, g⟩ (fun r => (∀ c : Dev Cert.InConv.nD,
      r.2.mem ((c.tc : Thread Cert.InConv.nD Cert.InConv.τ).loc Cert.InConv.main_arg0) = m ((c.tc : Thread Cert.InConv.nD Cert.InConv.τ).loc Cert.InConv.main_arg0)
      ∧ r.2.mem ((c.tc : Thread Cert.InConv.nD Cert.InConv.τ).loc Cert.InConv.main_arg1) = m ((c.tc : Thread Cert.InConv.nD Cert.InConv.τ).loc Cert.InConv.main_arg1))
      ∧ r.2.sem = fun _ => 0)

def quiescent_InConvIdeal [hInConvIdeal : Cert.InConvIdeal.Facts] : Prop :=
  ∀ (m : (ℓ : Loc Cert.InConvIdeal.nD Cert.InConvIdeal.τ Cert.InConvIdeal.sig) → Buf (Elt Ideal) ℓ) (g : Dev Cert.InConvIdeal.nD → PrngReg), Pre_InConvIdeal m →
    θ_run (Cert.InConvIdeal.defs (F := Ideal)) (onTc (τ := Cert.InConvIdeal.τ) (Cert.InConvIdeal.main (F := Ideal))) ⟨m, fun _ => 0, g⟩ (fun r => (∀ c : Dev Cert.InConvIdeal.nD,
      r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
      ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ r.2.sem = fun _ => 0)

def quiescent_InConvRefIdeal [hInConvRefIdeal : Cert.InConvRefIdeal.Facts] : Prop :=
  ∀ (m : (ℓ : Loc Cert.InConvRefIdeal.nD Cert.InConvRefIdeal.τ Cert.InConvRefIdeal.sig) → Buf (Elt Ideal) ℓ) (g : Dev Cert.InConvRefIdeal.nD → PrngReg), Pre_InConvRefIdeal m →
    θ_run (Cert.InConvRefIdeal.defs (F := Ideal)) (onTc (τ := Cert.InConvRefIdeal.τ) (Cert.InConvRefIdeal.main (F := Ideal))) ⟨m, fun _ => 0, g⟩ (fun r => (∀ c : Dev Cert.InConvRefIdeal.nD,
      r.2.mem ((c.tc : Thread Cert.InConvRefIdeal.nD Cert.InConvRefIdeal.τ).loc Cert.InConvRefIdeal.main_arg0) = m ((c.tc : Thread Cert.InConvRefIdeal.nD Cert.InConvRefIdeal.τ).loc Cert.InConvRefIdeal.main_arg0)
      ∧ r.2.mem ((c.tc : Thread Cert.InConvRefIdeal.nD Cert.InConvRefIdeal.τ).loc Cert.InConvRefIdeal.main_arg1) = m ((c.tc : Thread Cert.InConvRefIdeal.nD Cert.InConvRefIdeal.τ).loc Cert.InConvRefIdeal.main_arg1))
      ∧ r.2.sem = fun _ => 0)

def quiescent_InRwkv [hInRwkv : Cert.InRwkv.Facts] : Prop :=
  ∀ (m : (ℓ : Loc Cert.InRwkv.nD Cert.InRwkv.τ Cert.InRwkv.sig) → Buf (Elt Bits) ℓ) (g : Dev Cert.InRwkv.nD → PrngReg), Pre_InRwkv m →
    θ_run (Cert.InRwkv.defs (F := Bits)) (onTc (τ := Cert.InRwkv.τ) (Cert.InRwkv.main (F := Bits))) ⟨m, fun _ => 0, g⟩ (fun r => (∀ c : Dev Cert.InRwkv.nD,
      r.2.mem ((c.tc : Thread Cert.InRwkv.nD Cert.InRwkv.τ).loc Cert.InRwkv.main_arg0) = m ((c.tc : Thread Cert.InRwkv.nD Cert.InRwkv.τ).loc Cert.InRwkv.main_arg0)
      ∧ r.2.mem ((c.tc : Thread Cert.InRwkv.nD Cert.InRwkv.τ).loc Cert.InRwkv.main_arg1) = m ((c.tc : Thread Cert.InRwkv.nD Cert.InRwkv.τ).loc Cert.InRwkv.main_arg1))
      ∧ r.2.sem = fun _ => 0)

def quiescent_InRwkvIdeal [hInRwkvIdeal : Cert.InRwkvIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg), Pre_InRwkvIdeal m →
    θ_run (Cert.InRwkvIdeal.defs (F := Ideal)) (onTc (τ := Cert.InRwkvIdeal.τ) (Cert.InRwkvIdeal.main (F := Ideal))) ⟨m, fun _ => 0, g⟩ (fun r => (∀ c : Dev Cert.InRwkvIdeal.nD,
      r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
      ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ r.2.sem = fun _ => 0)

def quiescent_InRwkvRefIdeal [hInRwkvRefIdeal : Cert.InRwkvRefIdeal.Facts] : Prop :=
  ∀ (m : (ℓ : Loc Cert.InRwkvRefIdeal.nD Cert.InRwkvRefIdeal.τ Cert.InRwkvRefIdeal.sig) → Buf (Elt Ideal) ℓ) (g : Dev Cert.InRwkvRefIdeal.nD → PrngReg), Pre_InRwkvRefIdeal m →
    θ_run (Cert.InRwkvRefIdeal.defs (F := Ideal)) (onTc (τ := Cert.InRwkvRefIdeal.τ) (Cert.InRwkvRefIdeal.main (F := Ideal))) ⟨m, fun _ => 0, g⟩ (fun r => (∀ c : Dev Cert.InRwkvRefIdeal.nD,
      r.2.mem ((c.tc : Thread Cert.InRwkvRefIdeal.nD Cert.InRwkvRefIdeal.τ).loc Cert.InRwkvRefIdeal.main_arg0) = m ((c.tc : Thread Cert.InRwkvRefIdeal.nD Cert.InRwkvRefIdeal.τ).loc Cert.InRwkvRefIdeal.main_arg0)
      ∧ r.2.mem ((c.tc : Thread Cert.InRwkvRefIdeal.nD Cert.InRwkvRefIdeal.τ).loc Cert.InRwkvRefIdeal.main_arg1) = m ((c.tc : Thread Cert.InRwkvRefIdeal.nD Cert.InRwkvRefIdeal.τ).loc Cert.InRwkvRefIdeal.main_arg1))
      ∧ r.2.sem = fun _ => 0)

def quiescent_InMla [hInMla : Cert.InMla.Facts] : Prop :=
  ∀ (m : (ℓ : Loc Cert.InMla.nD Cert.InMla.τ Cert.InMla.sig) → Buf (Elt Bits) ℓ) (g : Dev Cert.InMla.nD → PrngReg), Pre_InMla m →
    θ_run (Cert.InMla.defs (F := Bits)) (onTc (τ := Cert.InMla.τ) (Cert.InMla.main (F := Bits))) ⟨m, fun _ => 0, g⟩ (fun r => (∀ c : Dev Cert.InMla.nD,
      r.2.mem ((c.tc : Thread Cert.InMla.nD Cert.InMla.τ).loc Cert.InMla.main_arg0) = m ((c.tc : Thread Cert.InMla.nD Cert.InMla.τ).loc Cert.InMla.main_arg0)
      ∧ r.2.mem ((c.tc : Thread Cert.InMla.nD Cert.InMla.τ).loc Cert.InMla.main_arg1) = m ((c.tc : Thread Cert.InMla.nD Cert.InMla.τ).loc Cert.InMla.main_arg1))
      ∧ r.2.sem = fun _ => 0)

def quiescent_InMlaIdeal [hInMlaIdeal : Cert.InMlaIdeal.Facts] : Prop :=
  ∀ (m : (ℓ : Loc Cert.InMlaIdeal.nD Cert.InMlaIdeal.τ Cert.InMlaIdeal.sig) → Buf (Elt Ideal) ℓ) (g : Dev Cert.InMlaIdeal.nD → PrngReg), Pre_InMlaIdeal m →
    θ_run (Cert.InMlaIdeal.defs (F := Ideal)) (onTc (τ := Cert.InMlaIdeal.τ) (Cert.InMlaIdeal.main (F := Ideal))) ⟨m, fun _ => 0, g⟩ (fun r => (∀ c : Dev Cert.InMlaIdeal.nD,
      r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
      ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ r.2.sem = fun _ => 0)

def quiescent_InMlaIdeal_pre_in_mla_args [hInMlaIdeal : Cert.InMlaIdeal.Facts] [hPre_in_mla_args : Cert.Pre_in_mla_args.Facts] : Prop :=
  ∀ (m : (ℓ : Loc Cert.InMlaIdeal.nD Cert.InMlaIdeal.τ Cert.InMlaIdeal.sig) → Buf (Elt Ideal) ℓ) (g : Dev Cert.InMlaIdeal.nD → PrngReg), Pre_InMlaIdeal_in_mla_args m →
    θ_run (Cert.InMlaIdeal.defs (F := Ideal)) (onTc (τ := Cert.InMlaIdeal.τ) (Cert.InMlaIdeal.main (F := Ideal))) ⟨m, fun _ => 0, g⟩ (fun r => (∀ c : Dev Cert.InMlaIdeal.nD,
      r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
      ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ r.2.sem = fun _ => 0)

def quiescent_InMlaRefIdeal [hInMlaRefIdeal : Cert.InMlaRefIdeal.Facts] : Prop :=
  ∀ (m : (ℓ : Loc Cert.InMlaRefIdeal.nD Cert.InMlaRefIdeal.τ Cert.InMlaRefIdeal.sig) → Buf (Elt Ideal) ℓ) (g : Dev Cert.InMlaRefIdeal.nD → PrngReg), Pre_InMlaRefIdeal m →
    θ_run (Cert.InMlaRefIdeal.defs (F := Ideal)) (onTc (τ := Cert.InMlaRefIdeal.τ) (Cert.InMlaRefIdeal.main (F := Ideal))) ⟨m, fun _ => 0, g⟩ (fun r => (∀ c : Dev Cert.InMlaRefIdeal.nD,
      r.2.mem ((c.tc : Thread Cert.InMlaRefIdeal.nD Cert.InMlaRefIdeal.τ).loc Cert.InMlaRefIdeal.main_arg0) = m ((c.tc : Thread Cert.InMlaRefIdeal.nD Cert.InMlaRefIdeal.τ).loc Cert.InMlaRefIdeal.main_arg0)
      ∧ r.2.mem ((c.tc : Thread Cert.InMlaRefIdeal.nD Cert.InMlaRefIdeal.τ).loc Cert.InMlaRefIdeal.main_arg1) = m ((c.tc : Thread Cert.InMlaRefIdeal.nD Cert.InMlaRefIdeal.τ).loc Cert.InMlaRefIdeal.main_arg1))
      ∧ r.2.sem = fun _ => 0)

def quiescent_InMlaRefIdeal_pre_in_mla_args [hInMlaRefIdeal : Cert.InMlaRefIdeal.Facts] [hPre_in_mla_args : Cert.Pre_in_mla_args.Facts] : Prop :=
  ∀ (m : (ℓ : Loc Cert.InMlaRefIdeal.nD Cert.InMlaRefIdeal.τ Cert.InMlaRefIdeal.sig) → Buf (Elt Ideal) ℓ) (g : Dev Cert.InMlaRefIdeal.nD → PrngReg), Pre_InMlaRefIdeal_in_mla_args m →
    θ_run (Cert.InMlaRefIdeal.defs (F := Ideal)) (onTc (τ := Cert.InMlaRefIdeal.τ) (Cert.InMlaRefIdeal.main (F := Ideal))) ⟨m, fun _ => 0, g⟩ (fun r => (∀ c : Dev Cert.InMlaRefIdeal.nD,
      r.2.mem ((c.tc : Thread Cert.InMlaRefIdeal.nD Cert.InMlaRefIdeal.τ).loc Cert.InMlaRefIdeal.main_arg0) = m ((c.tc : Thread Cert.InMlaRefIdeal.nD Cert.InMlaRefIdeal.τ).loc Cert.InMlaRefIdeal.main_arg0)
      ∧ r.2.mem ((c.tc : Thread Cert.InMlaRefIdeal.nD Cert.InMlaRefIdeal.τ).loc Cert.InMlaRefIdeal.main_arg1) = m ((c.tc : Thread Cert.InMlaRefIdeal.nD Cert.InMlaRefIdeal.τ).loc Cert.InMlaRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_OutLn [hOutLn : Cert.OutLn.Facts] : Prop :=
  ∀ (m : (ℓ : Loc Cert.OutLn.nD Cert.OutLn.τ Cert.OutLn.sig) → Buf (Elt Bits) ℓ) (g : Dev Cert.OutLn.nD → PrngReg), Pre_OutLn m →
    θ_run (Cert.OutLn.defs (F := Bits)) (onTc (τ := Cert.OutLn.τ) (Cert.OutLn.main (F := Bits))) ⟨m, fun _ => 0, g⟩ (fun r => (∀ c : Dev Cert.OutLn.nD,
      r.2.mem ((c.tc : Thread Cert.OutLn.nD Cert.OutLn.τ).loc Cert.OutLn.main_arg0) = m ((c.tc : Thread Cert.OutLn.nD Cert.OutLn.τ).loc Cert.OutLn.main_arg0)
      ∧ r.2.mem ((c.tc : Thread Cert.OutLn.nD Cert.OutLn.τ).loc Cert.OutLn.main_arg1) = m ((c.tc : Thread Cert.OutLn.nD Cert.OutLn.τ).loc Cert.OutLn.main_arg1)
      ∧ r.2.mem ((c.tc : Thread Cert.OutLn.nD Cert.OutLn.τ).loc Cert.OutLn.main_arg2) = m ((c.tc : Thread Cert.OutLn.nD Cert.OutLn.τ).loc Cert.OutLn.main_arg2)
      ∧ r.2.mem ((c.tc : Thread Cert.OutLn.nD Cert.OutLn.τ).loc Cert.OutLn.main_arg3) = m ((c.tc : Thread Cert.OutLn.nD Cert.OutLn.τ).loc Cert.OutLn.main_arg3)
      ∧ r.2.mem ((c.tc : Thread Cert.OutLn.nD Cert.OutLn.τ).loc Cert.OutLn.main_arg4) = m ((c.tc : Thread Cert.OutLn.nD Cert.OutLn.τ).loc Cert.OutLn.main_arg4))
      ∧ r.2.sem = fun _ => 0)

def quiescent_OutLnIdeal [hOutLnIdeal : Cert.OutLnIdeal.Facts] : Prop :=
  ∀ (m : (ℓ : Loc Cert.OutLnIdeal.nD Cert.OutLnIdeal.τ Cert.OutLnIdeal.sig) → Buf (Elt Ideal) ℓ) (g : Dev Cert.OutLnIdeal.nD → PrngReg), Pre_OutLnIdeal m →
    θ_run (Cert.OutLnIdeal.defs (F := Ideal)) (onTc (τ := Cert.OutLnIdeal.τ) (Cert.OutLnIdeal.main (F := Ideal))) ⟨m, fun _ => 0, g⟩ (fun r => (∀ c : Dev Cert.OutLnIdeal.nD,
      r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
      ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
      ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
      ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
      ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ r.2.sem = fun _ => 0)

def quiescent_OutLnRefIdeal [hOutLnRefIdeal : Cert.OutLnRefIdeal.Facts] : Prop :=
  ∀ (m : (ℓ : Loc Cert.OutLnRefIdeal.nD Cert.OutLnRefIdeal.τ Cert.OutLnRefIdeal.sig) → Buf (Elt Ideal) ℓ) (g : Dev Cert.OutLnRefIdeal.nD → PrngReg), Pre_OutLnRefIdeal m →
    θ_run (Cert.OutLnRefIdeal.defs (F := Ideal)) (onTc (τ := Cert.OutLnRefIdeal.τ) (Cert.OutLnRefIdeal.main (F := Ideal))) ⟨m, fun _ => 0, g⟩ (fun r => (∀ c : Dev Cert.OutLnRefIdeal.nD,
      r.2.mem ((c.tc : Thread Cert.OutLnRefIdeal.nD Cert.OutLnRefIdeal.τ).loc Cert.OutLnRefIdeal.main_arg0) = m ((c.tc : Thread Cert.OutLnRefIdeal.nD Cert.OutLnRefIdeal.τ).loc Cert.OutLnRefIdeal.main_arg0)
      ∧ r.2.mem ((c.tc : Thread Cert.OutLnRefIdeal.nD Cert.OutLnRefIdeal.τ).loc Cert.OutLnRefIdeal.main_arg1) = m ((c.tc : Thread Cert.OutLnRefIdeal.nD Cert.OutLnRefIdeal.τ).loc Cert.OutLnRefIdeal.main_arg1)
      ∧ r.2.mem ((c.tc : Thread Cert.OutLnRefIdeal.nD Cert.OutLnRefIdeal.τ).loc Cert.OutLnRefIdeal.main_arg2) = m ((c.tc : Thread Cert.OutLnRefIdeal.nD Cert.OutLnRefIdeal.τ).loc Cert.OutLnRefIdeal.main_arg2)
      ∧ r.2.mem ((c.tc : Thread Cert.OutLnRefIdeal.nD Cert.OutLnRefIdeal.τ).loc Cert.OutLnRefIdeal.main_arg3) = m ((c.tc : Thread Cert.OutLnRefIdeal.nD Cert.OutLnRefIdeal.τ).loc Cert.OutLnRefIdeal.main_arg3)
      ∧ r.2.mem ((c.tc : Thread Cert.OutLnRefIdeal.nD Cert.OutLnRefIdeal.τ).loc Cert.OutLnRefIdeal.main_arg4) = m ((c.tc : Thread Cert.OutLnRefIdeal.nD Cert.OutLnRefIdeal.τ).loc Cert.OutLnRefIdeal.main_arg4))
      ∧ r.2.sem = fun _ => 0)

def quiescent_MlaPrep [hMlaPrep : Cert.MlaPrep.Facts] : Prop :=
  ∀ (m : (ℓ : Loc Cert.MlaPrep.nD Cert.MlaPrep.τ Cert.MlaPrep.sig) → Buf (Elt Bits) ℓ) (g : Dev Cert.MlaPrep.nD → PrngReg), Pre_MlaPrep m →
    θ_run (Cert.MlaPrep.defs (F := Bits)) (onTc (τ := Cert.MlaPrep.τ) (Cert.MlaPrep.main (F := Bits))) ⟨m, fun _ => 0, g⟩ (fun r => (∀ c : Dev Cert.MlaPrep.nD,
      r.2.mem ((c.tc : Thread Cert.MlaPrep.nD Cert.MlaPrep.τ).loc Cert.MlaPrep.main_arg0) = m ((c.tc : Thread Cert.MlaPrep.nD Cert.MlaPrep.τ).loc Cert.MlaPrep.main_arg0)
      ∧ r.2.mem ((c.tc : Thread Cert.MlaPrep.nD Cert.MlaPrep.τ).loc Cert.MlaPrep.main_arg1) = m ((c.tc : Thread Cert.MlaPrep.nD Cert.MlaPrep.τ).loc Cert.MlaPrep.main_arg1)
      ∧ r.2.mem ((c.tc : Thread Cert.MlaPrep.nD Cert.MlaPrep.τ).loc Cert.MlaPrep.main_arg2) = m ((c.tc : Thread Cert.MlaPrep.nD Cert.MlaPrep.τ).loc Cert.MlaPrep.main_arg2)
      ∧ r.2.mem ((c.tc : Thread Cert.MlaPrep.nD Cert.MlaPrep.τ).loc Cert.MlaPrep.main_arg3) = m ((c.tc : Thread Cert.MlaPrep.nD Cert.MlaPrep.τ).loc Cert.MlaPrep.main_arg3)
      ∧ r.2.mem ((c.tc : Thread Cert.MlaPrep.nD Cert.MlaPrep.τ).loc Cert.MlaPrep.main_arg4) = m ((c.tc : Thread Cert.MlaPrep.nD Cert.MlaPrep.τ).loc Cert.MlaPrep.main_arg4))
      ∧ r.2.sem = fun _ => 0)

def quiescent_MlaPrepIdeal [hMlaPrepIdeal : Cert.MlaPrepIdeal.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ r.2.sem = fun _ => 0)

def quiescent_MlaPrepIdeal_pre_mla_prep_args [hMlaPrepIdeal : Cert.MlaPrepIdeal.Facts] [hPre_mla_prep_args : Cert.Pre_mla_prep_args.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg), Pre_MlaPrepIdeal_mla_prep_args m →
    θ_run (Cert.MlaPrepIdeal.defs (F := Ideal)) (onTc (τ := Cert.MlaPrepIdeal.τ) (Cert.MlaPrepIdeal.main (F := Ideal))) ⟨m, fun _ => 0, g⟩ (fun r => (∀ c : Dev Cert.MlaPrepIdeal.nD,
      r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
      ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
      ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
      ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
      ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ r.2.sem = fun _ => 0)

def quiescent_MlaPrepRefIdeal [hMlaPrepRefIdeal : Cert.MlaPrepRefIdeal.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4))
      ∧ r.2.sem = fun _ => 0)

def quiescent_MlaPrepRefIdeal_pre_mla_prep_args [hMlaPrepRefIdeal : Cert.MlaPrepRefIdeal.Facts] [hPre_mla_prep_args : Cert.Pre_mla_prep_args.Facts] : Prop :=
  ∀ (m : (ℓ : Loc Cert.MlaPrepRefIdeal.nD Cert.MlaPrepRefIdeal.τ Cert.MlaPrepRefIdeal.sig) → Buf (Elt Ideal) ℓ) (g : Dev Cert.MlaPrepRefIdeal.nD → PrngReg), Pre_MlaPrepRefIdeal_mla_prep_args m →
    θ_run (Cert.MlaPrepRefIdeal.defs (F := Ideal)) (onTc (τ := Cert.MlaPrepRefIdeal.τ) (Cert.MlaPrepRefIdeal.main (F := Ideal))) ⟨m, fun _ => 0, g⟩ (fun r => (∀ c : Dev Cert.MlaPrepRefIdeal.nD,
      r.2.mem ((c.tc : Thread Cert.MlaPrepRefIdeal.nD Cert.MlaPrepRefIdeal.τ).loc Cert.MlaPrepRefIdeal.main_arg0) = m ((c.tc : Thread Cert.MlaPrepRefIdeal.nD Cert.MlaPrepRefIdeal.τ).loc Cert.MlaPrepRefIdeal.main_arg0)
      ∧ r.2.mem ((c.tc : Thread Cert.MlaPrepRefIdeal.nD Cert.MlaPrepRefIdeal.τ).loc Cert.MlaPrepRefIdeal.main_arg1) = m ((c.tc : Thread Cert.MlaPrepRefIdeal.nD Cert.MlaPrepRefIdeal.τ).loc Cert.MlaPrepRefIdeal.main_arg1)
      ∧ r.2.mem ((c.tc : Thread Cert.MlaPrepRefIdeal.nD Cert.MlaPrepRefIdeal.τ).loc Cert.MlaPrepRefIdeal.main_arg2) = m ((c.tc : Thread Cert.MlaPrepRefIdeal.nD Cert.MlaPrepRefIdeal.τ).loc Cert.MlaPrepRefIdeal.main_arg2)
      ∧ r.2.mem ((c.tc : Thread Cert.MlaPrepRefIdeal.nD Cert.MlaPrepRefIdeal.τ).loc Cert.MlaPrepRefIdeal.main_arg3) = m ((c.tc : Thread Cert.MlaPrepRefIdeal.nD Cert.MlaPrepRefIdeal.τ).loc Cert.MlaPrepRefIdeal.main_arg3)
      ∧ r.2.mem ((c.tc : Thread Cert.MlaPrepRefIdeal.nD Cert.MlaPrepRefIdeal.τ).loc Cert.MlaPrepRefIdeal.main_arg4) = m ((c.tc : Thread Cert.MlaPrepRefIdeal.nD Cert.MlaPrepRefIdeal.τ).loc Cert.MlaPrepRefIdeal.main_arg4))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostIdeal_pre_rwkv_post_args [hPostIdeal : Cert.PostIdeal.Facts] [hPre_rwkv_post_args : Cert.Pre_rwkv_post_args.Facts] : Prop :=
  ∀ (m : (ℓ : Loc Cert.PostIdeal.nD Cert.PostIdeal.τ Cert.PostIdeal.sig) → Buf (Elt Ideal) ℓ) (g : Dev Cert.PostIdeal.nD → PrngReg), Pre_PostIdeal_rwkv_post_args m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_PostRefIdeal_pre_rwkv_post_args [hPostRefIdeal : Cert.PostRefIdeal.Facts] [hPre_rwkv_post_args : Cert.Pre_rwkv_post_args.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal_rwkv_post_args m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_LnIn [hLnIn : Cert.LnIn.Facts] : Prop :=
  ∀ (m : (ℓ : Loc Cert.LnIn.nD Cert.LnIn.τ Cert.LnIn.sig) → Buf (Elt Bits) ℓ) (g : Dev Cert.LnIn.nD → PrngReg), Pre_LnIn m →
    θ_run (Cert.LnIn.defs (F := Bits)) (onTc (τ := Cert.LnIn.τ) (Cert.LnIn.main (F := Bits))) ⟨m, fun _ => 0, g⟩ (fun r => (∀ c : Dev Cert.LnIn.nD,
      r.2.mem ((c.tc : Thread Cert.LnIn.nD Cert.LnIn.τ).loc Cert.LnIn.main_arg0) = m ((c.tc : Thread Cert.LnIn.nD Cert.LnIn.τ).loc Cert.LnIn.main_arg0)
      ∧ r.2.mem ((c.tc : Thread Cert.LnIn.nD Cert.LnIn.τ).loc Cert.LnIn.main_arg1) = m ((c.tc : Thread Cert.LnIn.nD Cert.LnIn.τ).loc Cert.LnIn.main_arg1)
      ∧ r.2.mem ((c.tc : Thread Cert.LnIn.nD Cert.LnIn.τ).loc Cert.LnIn.main_arg2) = m ((c.tc : Thread Cert.LnIn.nD Cert.LnIn.τ).loc Cert.LnIn.main_arg2))
      ∧ r.2.sem = fun _ => 0)

def quiescent_LnInIdeal [hLnInIdeal : Cert.LnInIdeal.Facts] : Prop :=
  ∀ (m : (ℓ : Loc Cert.LnInIdeal.nD Cert.LnInIdeal.τ Cert.LnInIdeal.sig) → Buf (Elt Ideal) ℓ) (g : Dev Cert.LnInIdeal.nD → PrngReg), Pre_LnInIdeal m →
    θ_run (Cert.LnInIdeal.defs (F := Ideal)) (onTc (τ := Cert.LnInIdeal.τ) (Cert.LnInIdeal.main (F := Ideal))) ⟨m, fun _ => 0, g⟩ (fun r => (∀ c : Dev Cert.LnInIdeal.nD,
      r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
      ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
      ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ r.2.sem = fun _ => 0)

def quiescent_LnInRefIdeal [hLnInRefIdeal : Cert.LnInRefIdeal.Facts] : Prop :=
  ∀ (m : (ℓ : Loc Cert.LnInRefIdeal.nD Cert.LnInRefIdeal.τ Cert.LnInRefIdeal.sig) → Buf (Elt Ideal) ℓ) (g : Dev Cert.LnInRefIdeal.nD → PrngReg), Pre_LnInRefIdeal m →
    θ_run (Cert.LnInRefIdeal.defs (F := Ideal)) (onTc (τ := Cert.LnInRefIdeal.τ) (Cert.LnInRefIdeal.main (F := Ideal))) ⟨m, fun _ => 0, g⟩ (fun r => (∀ c : Dev Cert.LnInRefIdeal.nD,
      r.2.mem ((c.tc : Thread Cert.LnInRefIdeal.nD Cert.LnInRefIdeal.τ).loc Cert.LnInRefIdeal.main_arg0) = m ((c.tc : Thread Cert.LnInRefIdeal.nD Cert.LnInRefIdeal.τ).loc Cert.LnInRefIdeal.main_arg0)
      ∧ r.2.mem ((c.tc : Thread Cert.LnInRefIdeal.nD Cert.LnInRefIdeal.τ).loc Cert.LnInRefIdeal.main_arg1) = m ((c.tc : Thread Cert.LnInRefIdeal.nD Cert.LnInRefIdeal.τ).loc Cert.LnInRefIdeal.main_arg1)
      ∧ r.2.mem ((c.tc : Thread Cert.LnInRefIdeal.nD Cert.LnInRefIdeal.τ).loc Cert.LnInRefIdeal.main_arg2) = m ((c.tc : Thread Cert.LnInRefIdeal.nD Cert.LnInRefIdeal.τ).loc Cert.LnInRefIdeal.main_arg2))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6)
      ∧ r.2.mem ((c.tc : Thread Cert.Prep.nD Cert.Prep.τ).loc Cert.Prep.main_arg7) = m ((c.tc : Thread Cert.Prep.nD Cert.Prep.τ).loc Cert.Prep.main_arg7)
      ∧ r.2.mem ((c.tc : Thread Cert.Prep.nD Cert.Prep.τ).loc Cert.Prep.main_arg8) = m ((c.tc : Thread Cert.Prep.nD Cert.Prep.τ).loc Cert.Prep.main_arg8)
      ∧ r.2.mem ((c.tc : Thread Cert.Prep.nD Cert.Prep.τ).loc Cert.Prep.main_arg9) = m ((c.tc : Thread Cert.Prep.nD Cert.Prep.τ).loc Cert.Prep.main_arg9))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepIdeal_pre_rwkv_prep_args [hPrepIdeal : Cert.PrepIdeal.Facts] [hPre_rwkv_prep_args : Cert.Pre_rwkv_prep_args.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_rwkv_prep_args m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
      ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
      ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
      ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def quiescent_PrepRefIdeal_pre_rwkv_prep_args [hPrepRefIdeal : Cert.PrepRefIdeal.Facts] [hPre_rwkv_prep_args : Cert.Pre_rwkv_prep_args.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_rwkv_prep_args m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6)
      ∧ r.2.mem ((c.tc : Thread Cert.PrepRefIdeal.nD Cert.PrepRefIdeal.τ).loc Cert.PrepRefIdeal.main_arg7) = m ((c.tc : Thread Cert.PrepRefIdeal.nD Cert.PrepRefIdeal.τ).loc Cert.PrepRefIdeal.main_arg7)
      ∧ r.2.mem ((c.tc : Thread Cert.PrepRefIdeal.nD Cert.PrepRefIdeal.τ).loc Cert.PrepRefIdeal.main_arg8) = m ((c.tc : Thread Cert.PrepRefIdeal.nD Cert.PrepRefIdeal.τ).loc Cert.PrepRefIdeal.main_arg8)
      ∧ r.2.mem ((c.tc : Thread Cert.PrepRefIdeal.nD Cert.PrepRefIdeal.τ).loc Cert.PrepRefIdeal.main_arg9) = m ((c.tc : Thread Cert.PrepRefIdeal.nD Cert.PrepRefIdeal.τ).loc Cert.PrepRefIdeal.main_arg9))
      ∧ r.2.sem = fun _ => 0)

def preserves_Attn_AttnIdeal : Prop :=
  True

def algebraic_AttnIdeal_AttnRefIdeal_pre_attn_args [hAttnIdeal : Cert.AttnIdeal.Facts] [hAttnRefIdeal : Cert.AttnRefIdeal.Facts] [hPre_attn_args : Cert.Pre_attn_args.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_args m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Ffn_FfnIdeal : Prop :=
  IdealRules.named_const.Statement Cert.FfnIdeal.κ "alpha" .f32 0x3FD744FD#32 ((Real.sqrt (Real.sqrt 8) : ℝ) : EReal)

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v4_0)) (v1 : (c : Dev Cert.FfnIdeal.nD) → Buf (Elt Ideal) ((c.tc : Thread Cert.FfnIdeal.nD Cert.FfnIdeal.τ).loc Cert.FfnIdeal.main_v4_1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4_0) = v0 c
          ∧ r.2.mem ((c.tc : Thread Cert.FfnIdeal.nD Cert.FfnIdeal.τ).loc Cert.FfnIdeal.main_v4_1) = v1 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_v36) = v1 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_InGate_InGateIdeal : Prop :=
  True

def algebraic_InGateIdeal_InGateRefIdeal [hInGateIdeal : Cert.InGateIdeal.Facts] [hInGateRefIdeal : Cert.InGateRefIdeal.Facts] : Prop :=
  ∀ (m : (ℓ : Loc Cert.InGateIdeal.nD Cert.InGateIdeal.τ Cert.InGateIdeal.sig) → Buf (Elt Ideal) ℓ) (g : Dev Cert.InGateIdeal.nD → PrngReg)
    (m' : (ℓ : Loc Cert.InGateRefIdeal.nD Cert.InGateRefIdeal.τ Cert.InGateRefIdeal.sig) → Buf (Elt Ideal) ℓ) (g' : Dev Cert.InGateRefIdeal.nD → PrngReg), Pre_InGateIdeal m →
    (∀ c : Dev Cert.InGateIdeal.nD,
      m' ((c.tc : Thread Cert.InGateRefIdeal.nD Cert.InGateRefIdeal.τ).loc Cert.InGateRefIdeal.main_arg0) = m ((c.tc : Thread Cert.InGateIdeal.nD Cert.InGateIdeal.τ).loc Cert.InGateIdeal.main_arg0)
      ∧ m' ((c.tc : Thread Cert.InGateRefIdeal.nD Cert.InGateRefIdeal.τ).loc Cert.InGateRefIdeal.main_arg1) = m ((c.tc : Thread Cert.InGateIdeal.nD Cert.InGateIdeal.τ).loc Cert.InGateIdeal.main_arg1)) →
    ∃ (v0 : (c : Dev Cert.InGateIdeal.nD) → Buf (Elt Ideal) ((c.tc : Thread Cert.InGateIdeal.nD Cert.InGateIdeal.τ).loc Cert.InGateIdeal.main_v2)),
      θ_run (Cert.InGateIdeal.defs (F := Ideal)) (onTc (τ := Cert.InGateIdeal.τ) (Cert.InGateIdeal.main (F := Ideal))) ⟨m, fun _ => 0, g⟩ (fun r => ∀ c : Dev Cert.InGateIdeal.nD,
          r.2.mem ((c.tc : Thread Cert.InGateIdeal.nD Cert.InGateIdeal.τ).loc Cert.InGateIdeal.main_v2) = v0 c
          ∧ r.2.mem ((c.tc : Thread Cert.InGateIdeal.nD Cert.InGateIdeal.τ).loc Cert.InGateIdeal.main_arg0) = m ((c.tc : Thread Cert.InGateIdeal.nD Cert.InGateIdeal.τ).loc Cert.InGateIdeal.main_arg0)
          ∧ r.2.mem ((c.tc : Thread Cert.InGateIdeal.nD Cert.InGateIdeal.τ).loc Cert.InGateIdeal.main_arg1) = m ((c.tc : Thread Cert.InGateIdeal.nD Cert.InGateIdeal.τ).loc Cert.InGateIdeal.main_arg1))
      ∧ θ_run (Cert.InGateRefIdeal.defs (F := Ideal)) (onTc (τ := Cert.InGateRefIdeal.τ) (Cert.InGateRefIdeal.main (F := Ideal))) ⟨m', fun _ => 0, g'⟩ (fun r => ∀ c : Dev Cert.InGateRefIdeal.nD,
          r.2.mem ((c.tc : Thread Cert.InGateRefIdeal.nD Cert.InGateRefIdeal.τ).loc Cert.InGateRefIdeal.main_v6) = v0 c
          ∧ r.2.mem ((c.tc : Thread Cert.InGateRefIdeal.nD Cert.InGateRefIdeal.τ).loc Cert.InGateRefIdeal.main_arg0) = m' ((c.tc : Thread Cert.InGateRefIdeal.nD Cert.InGateRefIdeal.τ).loc Cert.InGateRefIdeal.main_arg0)
          ∧ r.2.mem ((c.tc : Thread Cert.InGateRefIdeal.nD Cert.InGateRefIdeal.τ).loc Cert.InGateRefIdeal.main_arg1) = m' ((c.tc : Thread Cert.InGateRefIdeal.nD Cert.InGateRefIdeal.τ).loc Cert.InGateRefIdeal.main_arg1))

def preserves_InConv_InConvIdeal : Prop :=
  True

def algebraic_InConvIdeal_InConvRefIdeal [hInConvIdeal : Cert.InConvIdeal.Facts] [hInConvRefIdeal : Cert.InConvRefIdeal.Facts] : Prop :=
  ∀ (m : (ℓ : Loc Cert.InConvIdeal.nD Cert.InConvIdeal.τ Cert.InConvIdeal.sig) → Buf (Elt Ideal) ℓ) (g : Dev Cert.InConvIdeal.nD → PrngReg)
    (m' : (ℓ : Loc Cert.InConvRefIdeal.nD Cert.InConvRefIdeal.τ Cert.InConvRefIdeal.sig) → Buf (Elt Ideal) ℓ) (g' : Dev Cert.InConvRefIdeal.nD → PrngReg), Pre_InConvIdeal m →
    (∀ c : Dev Cert.InConvIdeal.nD,
      m' ((c.tc : Thread Cert.InConvRefIdeal.nD Cert.InConvRefIdeal.τ).loc Cert.InConvRefIdeal.main_arg0) = m ((c.tc : Thread Cert.InConvIdeal.nD Cert.InConvIdeal.τ).loc Cert.InConvIdeal.main_arg0)
      ∧ m' ((c.tc : Thread Cert.InConvRefIdeal.nD Cert.InConvRefIdeal.τ).loc Cert.InConvRefIdeal.main_arg1) = m ((c.tc : Thread Cert.InConvIdeal.nD Cert.InConvIdeal.τ).loc Cert.InConvIdeal.main_arg1)) →
    ∃ (v0 : (c : Dev Cert.InConvIdeal.nD) → Buf (Elt Ideal) ((c.tc : Thread Cert.InConvIdeal.nD Cert.InConvIdeal.τ).loc Cert.InConvIdeal.main_v2)),
      θ_run (Cert.InConvIdeal.defs (F := Ideal)) (onTc (τ := Cert.InConvIdeal.τ) (Cert.InConvIdeal.main (F := Ideal))) ⟨m, fun _ => 0, g⟩ (fun r => ∀ c : Dev Cert.InConvIdeal.nD,
          r.2.mem ((c.tc : Thread Cert.InConvIdeal.nD Cert.InConvIdeal.τ).loc Cert.InConvIdeal.main_v2) = v0 c
          ∧ r.2.mem ((c.tc : Thread Cert.InConvIdeal.nD Cert.InConvIdeal.τ).loc Cert.InConvIdeal.main_arg0) = m ((c.tc : Thread Cert.InConvIdeal.nD Cert.InConvIdeal.τ).loc Cert.InConvIdeal.main_arg0)
          ∧ r.2.mem ((c.tc : Thread Cert.InConvIdeal.nD Cert.InConvIdeal.τ).loc Cert.InConvIdeal.main_arg1) = m ((c.tc : Thread Cert.InConvIdeal.nD Cert.InConvIdeal.τ).loc Cert.InConvIdeal.main_arg1))
      ∧ θ_run (Cert.InConvRefIdeal.defs (F := Ideal)) (onTc (τ := Cert.InConvRefIdeal.τ) (Cert.InConvRefIdeal.main (F := Ideal))) ⟨m', fun _ => 0, g'⟩ (fun r => ∀ c : Dev Cert.InConvRefIdeal.nD,
          r.2.mem ((c.tc : Thread Cert.InConvRefIdeal.nD Cert.InConvRefIdeal.τ).loc Cert.InConvRefIdeal.main_v6) = v0 c
          ∧ r.2.mem ((c.tc : Thread Cert.InConvRefIdeal.nD Cert.InConvRefIdeal.τ).loc Cert.InConvRefIdeal.main_arg0) = m' ((c.tc : Thread Cert.InConvRefIdeal.nD Cert.InConvRefIdeal.τ).loc Cert.InConvRefIdeal.main_arg0)
          ∧ r.2.mem ((c.tc : Thread Cert.InConvRefIdeal.nD Cert.InConvRefIdeal.τ).loc Cert.InConvRefIdeal.main_arg1) = m' ((c.tc : Thread Cert.InConvRefIdeal.nD Cert.InConvRefIdeal.τ).loc Cert.InConvRefIdeal.main_arg1))

def preserves_InRwkv_InRwkvIdeal : Prop :=
  True

def algebraic_InRwkvIdeal_InRwkvRefIdeal [hInRwkvIdeal : Cert.InRwkvIdeal.Facts] [hInRwkvRefIdeal : Cert.InRwkvRefIdeal.Facts] : Prop :=
  ∀ (m : (ℓ : Loc Cert.InRwkvIdeal.nD Cert.InRwkvIdeal.τ Cert.InRwkvIdeal.sig) → Buf (Elt Ideal) ℓ) (g : Dev Cert.InRwkvIdeal.nD → PrngReg)
    (m' : (ℓ : Loc Cert.InRwkvRefIdeal.nD Cert.InRwkvRefIdeal.τ Cert.InRwkvRefIdeal.sig) → Buf (Elt Ideal) ℓ) (g' : Dev Cert.InRwkvRefIdeal.nD → PrngReg), Pre_InRwkvIdeal m →
    (∀ c : Dev Cert.InRwkvIdeal.nD,
      m' ((c.tc : Thread Cert.InRwkvRefIdeal.nD Cert.InRwkvRefIdeal.τ).loc Cert.InRwkvRefIdeal.main_arg0) = m ((c.tc : Thread Cert.InRwkvIdeal.nD Cert.InRwkvIdeal.τ).loc Cert.InRwkvIdeal.main_arg0)
      ∧ m' ((c.tc : Thread Cert.InRwkvRefIdeal.nD Cert.InRwkvRefIdeal.τ).loc Cert.InRwkvRefIdeal.main_arg1) = m ((c.tc : Thread Cert.InRwkvIdeal.nD Cert.InRwkvIdeal.τ).loc Cert.InRwkvIdeal.main_arg1)) →
    ∃ (v0 : (c : Dev Cert.InRwkvIdeal.nD) → Buf (Elt Ideal) ((c.tc : Thread Cert.InRwkvIdeal.nD Cert.InRwkvIdeal.τ).loc Cert.InRwkvIdeal.main_v4)),
      θ_run (Cert.InRwkvIdeal.defs (F := Ideal)) (onTc (τ := Cert.InRwkvIdeal.τ) (Cert.InRwkvIdeal.main (F := Ideal))) ⟨m, fun _ => 0, g⟩ (fun r => ∀ c : Dev Cert.InRwkvIdeal.nD,
          r.2.mem ((c.tc : Thread Cert.InRwkvIdeal.nD Cert.InRwkvIdeal.τ).loc Cert.InRwkvIdeal.main_v4) = v0 c
          ∧ r.2.mem ((c.tc : Thread Cert.InRwkvIdeal.nD Cert.InRwkvIdeal.τ).loc Cert.InRwkvIdeal.main_arg0) = m ((c.tc : Thread Cert.InRwkvIdeal.nD Cert.InRwkvIdeal.τ).loc Cert.InRwkvIdeal.main_arg0)
          ∧ r.2.mem ((c.tc : Thread Cert.InRwkvIdeal.nD Cert.InRwkvIdeal.τ).loc Cert.InRwkvIdeal.main_arg1) = m ((c.tc : Thread Cert.InRwkvIdeal.nD Cert.InRwkvIdeal.τ).loc Cert.InRwkvIdeal.main_arg1))
      ∧ θ_run (Cert.InRwkvRefIdeal.defs (F := Ideal)) (onTc (τ := Cert.InRwkvRefIdeal.τ) (Cert.InRwkvRefIdeal.main (F := Ideal))) ⟨m', fun _ => 0, g'⟩ (fun r => ∀ c : Dev Cert.InRwkvRefIdeal.nD,
          r.2.mem ((c.tc : Thread Cert.InRwkvRefIdeal.nD Cert.InRwkvRefIdeal.τ).loc Cert.InRwkvRefIdeal.main_v6) = v0 c
          ∧ r.2.mem ((c.tc : Thread Cert.InRwkvRefIdeal.nD Cert.InRwkvRefIdeal.τ).loc Cert.InRwkvRefIdeal.main_arg0) = m' ((c.tc : Thread Cert.InRwkvRefIdeal.nD Cert.InRwkvRefIdeal.τ).loc Cert.InRwkvRefIdeal.main_arg0)
          ∧ r.2.mem ((c.tc : Thread Cert.InRwkvRefIdeal.nD Cert.InRwkvRefIdeal.τ).loc Cert.InRwkvRefIdeal.main_arg1) = m' ((c.tc : Thread Cert.InRwkvRefIdeal.nD Cert.InRwkvRefIdeal.τ).loc Cert.InRwkvRefIdeal.main_arg1))

def preserves_InMla_InMlaIdeal : Prop :=
  True

def algebraic_InMlaIdeal_InMlaRefIdeal_pre_in_mla_args [hInMlaIdeal : Cert.InMlaIdeal.Facts] [hInMlaRefIdeal : Cert.InMlaRefIdeal.Facts] [hPre_in_mla_args : Cert.Pre_in_mla_args.Facts] : Prop :=
  ∀ (m : (ℓ : Loc Cert.InMlaIdeal.nD Cert.InMlaIdeal.τ Cert.InMlaIdeal.sig) → Buf (Elt Ideal) ℓ) (g : Dev Cert.InMlaIdeal.nD → PrngReg)
    (m' : (ℓ : Loc Cert.InMlaRefIdeal.nD Cert.InMlaRefIdeal.τ Cert.InMlaRefIdeal.sig) → Buf (Elt Ideal) ℓ) (g' : Dev Cert.InMlaRefIdeal.nD → PrngReg), Pre_InMlaIdeal_in_mla_args m →
    (∀ c : Dev Cert.InMlaIdeal.nD,
      m' ((c.tc : Thread Cert.InMlaRefIdeal.nD Cert.InMlaRefIdeal.τ).loc Cert.InMlaRefIdeal.main_arg0) = m ((c.tc : Thread Cert.InMlaIdeal.nD Cert.InMlaIdeal.τ).loc Cert.InMlaIdeal.main_arg0)
      ∧ m' ((c.tc : Thread Cert.InMlaRefIdeal.nD Cert.InMlaRefIdeal.τ).loc Cert.InMlaRefIdeal.main_arg1) = m ((c.tc : Thread Cert.InMlaIdeal.nD Cert.InMlaIdeal.τ).loc Cert.InMlaIdeal.main_arg1)) →
    ∃ (v0 : (c : Dev Cert.InMlaIdeal.nD) → Buf (Elt Ideal) ((c.tc : Thread Cert.InMlaIdeal.nD Cert.InMlaIdeal.τ).loc Cert.InMlaIdeal.main_v10)),
      θ_run (Cert.InMlaIdeal.defs (F := Ideal)) (onTc (τ := Cert.InMlaIdeal.τ) (Cert.InMlaIdeal.main (F := Ideal))) ⟨m, fun _ => 0, g⟩ (fun r => ∀ c : Dev Cert.InMlaIdeal.nD,
          r.2.mem ((c.tc : Thread Cert.InMlaIdeal.nD Cert.InMlaIdeal.τ).loc Cert.InMlaIdeal.main_v10) = v0 c
          ∧ r.2.mem ((c.tc : Thread Cert.InMlaIdeal.nD Cert.InMlaIdeal.τ).loc Cert.InMlaIdeal.main_arg0) = m ((c.tc : Thread Cert.InMlaIdeal.nD Cert.InMlaIdeal.τ).loc Cert.InMlaIdeal.main_arg0)
          ∧ r.2.mem ((c.tc : Thread Cert.InMlaIdeal.nD Cert.InMlaIdeal.τ).loc Cert.InMlaIdeal.main_arg1) = m ((c.tc : Thread Cert.InMlaIdeal.nD Cert.InMlaIdeal.τ).loc Cert.InMlaIdeal.main_arg1))
      ∧ θ_run (Cert.InMlaRefIdeal.defs (F := Ideal)) (onTc (τ := Cert.InMlaRefIdeal.τ) (Cert.InMlaRefIdeal.main (F := Ideal))) ⟨m', fun _ => 0, g'⟩ (fun r => ∀ c : Dev Cert.InMlaRefIdeal.nD,
          r.2.mem ((c.tc : Thread Cert.InMlaRefIdeal.nD Cert.InMlaRefIdeal.τ).loc Cert.InMlaRefIdeal.main_v11) = v0 c
          ∧ r.2.mem ((c.tc : Thread Cert.InMlaRefIdeal.nD Cert.InMlaRefIdeal.τ).loc Cert.InMlaRefIdeal.main_arg0) = m' ((c.tc : Thread Cert.InMlaRefIdeal.nD Cert.InMlaRefIdeal.τ).loc Cert.InMlaRefIdeal.main_arg0)
          ∧ r.2.mem ((c.tc : Thread Cert.InMlaRefIdeal.nD Cert.InMlaRefIdeal.τ).loc Cert.InMlaRefIdeal.main_arg1) = m' ((c.tc : Thread Cert.InMlaRefIdeal.nD Cert.InMlaRefIdeal.τ).loc Cert.InMlaRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_OutLn_OutLnIdeal : Prop :=
  IdealRules.named_const.Statement Cert.OutLnIdeal.κ "alpha" .f32 0x3FD744FD#32 ((Real.sqrt (Real.sqrt 8) : ℝ) : EReal)

def algebraic_OutLnIdeal_OutLnRefIdeal [hOutLnIdeal : Cert.OutLnIdeal.Facts] [hOutLnRefIdeal : Cert.OutLnRefIdeal.Facts] : Prop :=
  ∀ (m : (ℓ : Loc Cert.OutLnIdeal.nD Cert.OutLnIdeal.τ Cert.OutLnIdeal.sig) → Buf (Elt Ideal) ℓ) (g : Dev Cert.OutLnIdeal.nD → PrngReg)
    (m' : (ℓ : Loc Cert.OutLnRefIdeal.nD Cert.OutLnRefIdeal.τ Cert.OutLnRefIdeal.sig) → Buf (Elt Ideal) ℓ) (g' : Dev Cert.OutLnRefIdeal.nD → PrngReg), Pre_OutLnIdeal m →
    (∀ c : Dev Cert.OutLnIdeal.nD,
      m' ((c.tc : Thread Cert.OutLnRefIdeal.nD Cert.OutLnRefIdeal.τ).loc Cert.OutLnRefIdeal.main_arg0) = m ((c.tc : Thread Cert.OutLnIdeal.nD Cert.OutLnIdeal.τ).loc Cert.OutLnIdeal.main_arg0)
      ∧ m' ((c.tc : Thread Cert.OutLnRefIdeal.nD Cert.OutLnRefIdeal.τ).loc Cert.OutLnRefIdeal.main_arg1) = m ((c.tc : Thread Cert.OutLnIdeal.nD Cert.OutLnIdeal.τ).loc Cert.OutLnIdeal.main_arg1)
      ∧ m' ((c.tc : Thread Cert.OutLnRefIdeal.nD Cert.OutLnRefIdeal.τ).loc Cert.OutLnRefIdeal.main_arg2) = m ((c.tc : Thread Cert.OutLnIdeal.nD Cert.OutLnIdeal.τ).loc Cert.OutLnIdeal.main_arg2)
      ∧ m' ((c.tc : Thread Cert.OutLnRefIdeal.nD Cert.OutLnRefIdeal.τ).loc Cert.OutLnRefIdeal.main_arg3) = m ((c.tc : Thread Cert.OutLnIdeal.nD Cert.OutLnIdeal.τ).loc Cert.OutLnIdeal.main_arg3)
      ∧ m' ((c.tc : Thread Cert.OutLnRefIdeal.nD Cert.OutLnRefIdeal.τ).loc Cert.OutLnRefIdeal.main_arg4) = m ((c.tc : Thread Cert.OutLnIdeal.nD Cert.OutLnIdeal.τ).loc Cert.OutLnIdeal.main_arg4)) →
    ∃ (v0 : (c : Dev Cert.OutLnIdeal.nD) → Buf (Elt Ideal) ((c.tc : Thread Cert.OutLnIdeal.nD Cert.OutLnIdeal.τ).loc Cert.OutLnIdeal.main_v3_0)) (v1 : (c : Dev Cert.OutLnIdeal.nD) → Buf (Elt Ideal) ((c.tc : Thread Cert.OutLnIdeal.nD Cert.OutLnIdeal.τ).loc Cert.OutLnIdeal.main_v3_1)),
      θ_run (Cert.OutLnIdeal.defs (F := Ideal)) (onTc (τ := Cert.OutLnIdeal.τ) (Cert.OutLnIdeal.main (F := Ideal))) ⟨m, fun _ => 0, g⟩ (fun r => ∀ c : Dev Cert.OutLnIdeal.nD,
          r.2.mem ((c.tc : Thread Cert.OutLnIdeal.nD Cert.OutLnIdeal.τ).loc Cert.OutLnIdeal.main_v3_0) = v0 c
          ∧ r.2.mem ((c.tc : Thread Cert.OutLnIdeal.nD Cert.OutLnIdeal.τ).loc Cert.OutLnIdeal.main_v3_1) = v1 c
          ∧ r.2.mem ((c.tc : Thread Cert.OutLnIdeal.nD Cert.OutLnIdeal.τ).loc Cert.OutLnIdeal.main_arg0) = m ((c.tc : Thread Cert.OutLnIdeal.nD Cert.OutLnIdeal.τ).loc Cert.OutLnIdeal.main_arg0)
          ∧ r.2.mem ((c.tc : Thread Cert.OutLnIdeal.nD Cert.OutLnIdeal.τ).loc Cert.OutLnIdeal.main_arg1) = m ((c.tc : Thread Cert.OutLnIdeal.nD Cert.OutLnIdeal.τ).loc Cert.OutLnIdeal.main_arg1)
          ∧ r.2.mem ((c.tc : Thread Cert.OutLnIdeal.nD Cert.OutLnIdeal.τ).loc Cert.OutLnIdeal.main_arg2) = m ((c.tc : Thread Cert.OutLnIdeal.nD Cert.OutLnIdeal.τ).loc Cert.OutLnIdeal.main_arg2)
          ∧ r.2.mem ((c.tc : Thread Cert.OutLnIdeal.nD Cert.OutLnIdeal.τ).loc Cert.OutLnIdeal.main_arg3) = m ((c.tc : Thread Cert.OutLnIdeal.nD Cert.OutLnIdeal.τ).loc Cert.OutLnIdeal.main_arg3)
          ∧ r.2.mem ((c.tc : Thread Cert.OutLnIdeal.nD Cert.OutLnIdeal.τ).loc Cert.OutLnIdeal.main_arg4) = m ((c.tc : Thread Cert.OutLnIdeal.nD Cert.OutLnIdeal.τ).loc Cert.OutLnIdeal.main_arg4))
      ∧ θ_run (Cert.OutLnRefIdeal.defs (F := Ideal)) (onTc (τ := Cert.OutLnRefIdeal.τ) (Cert.OutLnRefIdeal.main (F := Ideal))) ⟨m', fun _ => 0, g'⟩ (fun r => ∀ c : Dev Cert.OutLnRefIdeal.nD,
          r.2.mem ((c.tc : Thread Cert.OutLnRefIdeal.nD Cert.OutLnRefIdeal.τ).loc Cert.OutLnRefIdeal.main_v30) = v0 c
          ∧ r.2.mem ((c.tc : Thread Cert.OutLnRefIdeal.nD Cert.OutLnRefIdeal.τ).loc Cert.OutLnRefIdeal.main_v31) = v1 c
          ∧ r.2.mem ((c.tc : Thread Cert.OutLnRefIdeal.nD Cert.OutLnRefIdeal.τ).loc Cert.OutLnRefIdeal.main_arg0) = m' ((c.tc : Thread Cert.OutLnRefIdeal.nD Cert.OutLnRefIdeal.τ).loc Cert.OutLnRefIdeal.main_arg0)
          ∧ r.2.mem ((c.tc : Thread Cert.OutLnRefIdeal.nD Cert.OutLnRefIdeal.τ).loc Cert.OutLnRefIdeal.main_arg1) = m' ((c.tc : Thread Cert.OutLnRefIdeal.nD Cert.OutLnRefIdeal.τ).loc Cert.OutLnRefIdeal.main_arg1)
          ∧ r.2.mem ((c.tc : Thread Cert.OutLnRefIdeal.nD Cert.OutLnRefIdeal.τ).loc Cert.OutLnRefIdeal.main_arg2) = m' ((c.tc : Thread Cert.OutLnRefIdeal.nD Cert.OutLnRefIdeal.τ).loc Cert.OutLnRefIdeal.main_arg2)
          ∧ r.2.mem ((c.tc : Thread Cert.OutLnRefIdeal.nD Cert.OutLnRefIdeal.τ).loc Cert.OutLnRefIdeal.main_arg3) = m' ((c.tc : Thread Cert.OutLnRefIdeal.nD Cert.OutLnRefIdeal.τ).loc Cert.OutLnRefIdeal.main_arg3)
          ∧ r.2.mem ((c.tc : Thread Cert.OutLnRefIdeal.nD Cert.OutLnRefIdeal.τ).loc Cert.OutLnRefIdeal.main_arg4) = m' ((c.tc : Thread Cert.OutLnRefIdeal.nD Cert.OutLnRefIdeal.τ).loc Cert.OutLnRefIdeal.main_arg4))

def preserves_MlaPrep_MlaPrepIdeal : Prop :=
  IdealRules.named_const.Statement Cert.MlaPrepIdeal.κ "scale" .f32 0x3DD53B95#32 (((Real.sqrt 192)⁻¹ * (Real.log 2)⁻¹ : ℝ) : EReal)

def algebraic_MlaPrepIdeal_MlaPrepRefIdeal_pre_mla_prep_args [hMlaPrepIdeal : Cert.MlaPrepIdeal.Facts] [hMlaPrepRefIdeal : Cert.MlaPrepRefIdeal.Facts] [hPre_mla_prep_args : Cert.Pre_mla_prep_args.Facts] : Prop :=
  ∀ (m : (ℓ : Loc Cert.MlaPrepIdeal.nD Cert.MlaPrepIdeal.τ Cert.MlaPrepIdeal.sig) → Buf (Elt Ideal) ℓ) (g : Dev Cert.MlaPrepIdeal.nD → PrngReg)
    (m' : (ℓ : Loc Cert.MlaPrepRefIdeal.nD Cert.MlaPrepRefIdeal.τ Cert.MlaPrepRefIdeal.sig) → Buf (Elt Ideal) ℓ) (g' : Dev Cert.MlaPrepRefIdeal.nD → PrngReg), Pre_MlaPrepIdeal_mla_prep_args m →
    (∀ c : Dev Cert.MlaPrepIdeal.nD,
      m' ((c.tc : Thread Cert.MlaPrepRefIdeal.nD Cert.MlaPrepRefIdeal.τ).loc Cert.MlaPrepRefIdeal.main_arg0) = m ((c.tc : Thread Cert.MlaPrepIdeal.nD Cert.MlaPrepIdeal.τ).loc Cert.MlaPrepIdeal.main_arg0)
      ∧ m' ((c.tc : Thread Cert.MlaPrepRefIdeal.nD Cert.MlaPrepRefIdeal.τ).loc Cert.MlaPrepRefIdeal.main_arg1) = m ((c.tc : Thread Cert.MlaPrepIdeal.nD Cert.MlaPrepIdeal.τ).loc Cert.MlaPrepIdeal.main_arg1)
      ∧ m' ((c.tc : Thread Cert.MlaPrepRefIdeal.nD Cert.MlaPrepRefIdeal.τ).loc Cert.MlaPrepRefIdeal.main_arg2) = m ((c.tc : Thread Cert.MlaPrepIdeal.nD Cert.MlaPrepIdeal.τ).loc Cert.MlaPrepIdeal.main_arg2)
      ∧ m' ((c.tc : Thread Cert.MlaPrepRefIdeal.nD Cert.MlaPrepRefIdeal.τ).loc Cert.MlaPrepRefIdeal.main_arg3) = m ((c.tc : Thread Cert.MlaPrepIdeal.nD Cert.MlaPrepIdeal.τ).loc Cert.MlaPrepIdeal.main_arg3)
      ∧ m' ((c.tc : Thread Cert.MlaPrepRefIdeal.nD Cert.MlaPrepRefIdeal.τ).loc Cert.MlaPrepRefIdeal.main_arg4) = m ((c.tc : Thread Cert.MlaPrepIdeal.nD Cert.MlaPrepIdeal.τ).loc Cert.MlaPrepIdeal.main_arg4)) →
    ∃ (v0 : (c : Dev Cert.MlaPrepIdeal.nD) → Buf (Elt Ideal) ((c.tc : Thread Cert.MlaPrepIdeal.nD Cert.MlaPrepIdeal.τ).loc Cert.MlaPrepIdeal.main_v43_0)) (v1 : (c : Dev Cert.MlaPrepIdeal.nD) → Buf (Elt Ideal) ((c.tc : Thread Cert.MlaPrepIdeal.nD Cert.MlaPrepIdeal.τ).loc Cert.MlaPrepIdeal.main_v43_1)) (v2 : (c : Dev Cert.MlaPrepIdeal.nD) → Buf (Elt Ideal) ((c.tc : Thread Cert.MlaPrepIdeal.nD Cert.MlaPrepIdeal.τ).loc Cert.MlaPrepIdeal.main_v43_2)),
      θ_run (Cert.MlaPrepIdeal.defs (F := Ideal)) (onTc (τ := Cert.MlaPrepIdeal.τ) (Cert.MlaPrepIdeal.main (F := Ideal))) ⟨m, fun _ => 0, g⟩ (fun r => ∀ c : Dev Cert.MlaPrepIdeal.nD,
          r.2.mem ((c.tc : Thread Cert.MlaPrepIdeal.nD Cert.MlaPrepIdeal.τ).loc Cert.MlaPrepIdeal.main_v43_0) = v0 c
          ∧ r.2.mem ((c.tc : Thread Cert.MlaPrepIdeal.nD Cert.MlaPrepIdeal.τ).loc Cert.MlaPrepIdeal.main_v43_1) = v1 c
          ∧ r.2.mem ((c.tc : Thread Cert.MlaPrepIdeal.nD Cert.MlaPrepIdeal.τ).loc Cert.MlaPrepIdeal.main_v43_2) = v2 c
          ∧ r.2.mem ((c.tc : Thread Cert.MlaPrepIdeal.nD Cert.MlaPrepIdeal.τ).loc Cert.MlaPrepIdeal.main_arg0) = m ((c.tc : Thread Cert.MlaPrepIdeal.nD Cert.MlaPrepIdeal.τ).loc Cert.MlaPrepIdeal.main_arg0)
          ∧ r.2.mem ((c.tc : Thread Cert.MlaPrepIdeal.nD Cert.MlaPrepIdeal.τ).loc Cert.MlaPrepIdeal.main_arg1) = m ((c.tc : Thread Cert.MlaPrepIdeal.nD Cert.MlaPrepIdeal.τ).loc Cert.MlaPrepIdeal.main_arg1)
          ∧ r.2.mem ((c.tc : Thread Cert.MlaPrepIdeal.nD Cert.MlaPrepIdeal.τ).loc Cert.MlaPrepIdeal.main_arg2) = m ((c.tc : Thread Cert.MlaPrepIdeal.nD Cert.MlaPrepIdeal.τ).loc Cert.MlaPrepIdeal.main_arg2)
          ∧ r.2.mem ((c.tc : Thread Cert.MlaPrepIdeal.nD Cert.MlaPrepIdeal.τ).loc Cert.MlaPrepIdeal.main_arg3) = m ((c.tc : Thread Cert.MlaPrepIdeal.nD Cert.MlaPrepIdeal.τ).loc Cert.MlaPrepIdeal.main_arg3)
          ∧ r.2.mem ((c.tc : Thread Cert.MlaPrepIdeal.nD Cert.MlaPrepIdeal.τ).loc Cert.MlaPrepIdeal.main_arg4) = m ((c.tc : Thread Cert.MlaPrepIdeal.nD Cert.MlaPrepIdeal.τ).loc Cert.MlaPrepIdeal.main_arg4))
      ∧ θ_run (Cert.MlaPrepRefIdeal.defs (F := Ideal)) (onTc (τ := Cert.MlaPrepRefIdeal.τ) (Cert.MlaPrepRefIdeal.main (F := Ideal))) ⟨m', fun _ => 0, g'⟩ (fun r => ∀ c : Dev Cert.MlaPrepRefIdeal.nD,
          r.2.mem ((c.tc : Thread Cert.MlaPrepRefIdeal.nD Cert.MlaPrepRefIdeal.τ).loc Cert.MlaPrepRefIdeal.main_v100) = v0 c
          ∧ r.2.mem ((c.tc : Thread Cert.MlaPrepRefIdeal.nD Cert.MlaPrepRefIdeal.τ).loc Cert.MlaPrepRefIdeal.main_v104) = v1 c
          ∧ r.2.mem ((c.tc : Thread Cert.MlaPrepRefIdeal.nD Cert.MlaPrepRefIdeal.τ).loc Cert.MlaPrepRefIdeal.main_v109) = v2 c
          ∧ r.2.mem ((c.tc : Thread Cert.MlaPrepRefIdeal.nD Cert.MlaPrepRefIdeal.τ).loc Cert.MlaPrepRefIdeal.main_arg0) = m' ((c.tc : Thread Cert.MlaPrepRefIdeal.nD Cert.MlaPrepRefIdeal.τ).loc Cert.MlaPrepRefIdeal.main_arg0)
          ∧ r.2.mem ((c.tc : Thread Cert.MlaPrepRefIdeal.nD Cert.MlaPrepRefIdeal.τ).loc Cert.MlaPrepRefIdeal.main_arg1) = m' ((c.tc : Thread Cert.MlaPrepRefIdeal.nD Cert.MlaPrepRefIdeal.τ).loc Cert.MlaPrepRefIdeal.main_arg1)
          ∧ r.2.mem ((c.tc : Thread Cert.MlaPrepRefIdeal.nD Cert.MlaPrepRefIdeal.τ).loc Cert.MlaPrepRefIdeal.main_arg2) = m' ((c.tc : Thread Cert.MlaPrepRefIdeal.nD Cert.MlaPrepRefIdeal.τ).loc Cert.MlaPrepRefIdeal.main_arg2)
          ∧ r.2.mem ((c.tc : Thread Cert.MlaPrepRefIdeal.nD Cert.MlaPrepRefIdeal.τ).loc Cert.MlaPrepRefIdeal.main_arg3) = m' ((c.tc : Thread Cert.MlaPrepRefIdeal.nD Cert.MlaPrepRefIdeal.τ).loc Cert.MlaPrepRefIdeal.main_arg3)
          ∧ r.2.mem ((c.tc : Thread Cert.MlaPrepRefIdeal.nD Cert.MlaPrepRefIdeal.τ).loc Cert.MlaPrepRefIdeal.main_arg4) = m' ((c.tc : Thread Cert.MlaPrepRefIdeal.nD Cert.MlaPrepRefIdeal.τ).loc Cert.MlaPrepRefIdeal.main_arg4))

def preserves_Post_PostIdeal : Prop :=
  True

def algebraic_PostIdeal_PostRefIdeal_pre_rwkv_post_args [hPostIdeal : Cert.PostIdeal.Facts] [hPostRefIdeal : Cert.PostRefIdeal.Facts] [hPre_rwkv_post_args : Cert.Pre_rwkv_post_args.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal_rwkv_post_args m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v10)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v10) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v31) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)) →
    ∃ (v0 : (c : Dev Cert.ConvIdeal.nD) → Buf (Elt Ideal) ((c.tc : Thread Cert.ConvIdeal.nD Cert.ConvIdeal.τ).loc Cert.ConvIdeal.main_v0)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v0) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v29) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_LnIn_LnInIdeal : Prop :=
  True

def algebraic_LnInIdeal_LnInRefIdeal [hLnInIdeal : Cert.LnInIdeal.Facts] [hLnInRefIdeal : Cert.LnInRefIdeal.Facts] : Prop :=
  ∀ (m : (ℓ : Loc Cert.LnInIdeal.nD Cert.LnInIdeal.τ Cert.LnInIdeal.sig) → Buf (Elt Ideal) ℓ) (g : Dev Cert.LnInIdeal.nD → PrngReg)
    (m' : (ℓ : Loc Cert.LnInRefIdeal.nD Cert.LnInRefIdeal.τ Cert.LnInRefIdeal.sig) → Buf (Elt Ideal) ℓ) (g' : Dev Cert.LnInRefIdeal.nD → PrngReg), Pre_LnInIdeal m →
    (∀ c : Dev Cert.LnInIdeal.nD,
      m' ((c.tc : Thread Cert.LnInRefIdeal.nD Cert.LnInRefIdeal.τ).loc Cert.LnInRefIdeal.main_arg0) = m ((c.tc : Thread Cert.LnInIdeal.nD Cert.LnInIdeal.τ).loc Cert.LnInIdeal.main_arg0)
      ∧ m' ((c.tc : Thread Cert.LnInRefIdeal.nD Cert.LnInRefIdeal.τ).loc Cert.LnInRefIdeal.main_arg1) = m ((c.tc : Thread Cert.LnInIdeal.nD Cert.LnInIdeal.τ).loc Cert.LnInIdeal.main_arg1)
      ∧ m' ((c.tc : Thread Cert.LnInRefIdeal.nD Cert.LnInRefIdeal.τ).loc Cert.LnInRefIdeal.main_arg2) = m ((c.tc : Thread Cert.LnInIdeal.nD Cert.LnInIdeal.τ).loc Cert.LnInIdeal.main_arg2)) →
    ∃ (v0 : (c : Dev Cert.LnInIdeal.nD) → Buf (Elt Ideal) ((c.tc : Thread Cert.LnInIdeal.nD Cert.LnInIdeal.τ).loc Cert.LnInIdeal.main_v3_0)) (v1 : (c : Dev Cert.LnInIdeal.nD) → Buf (Elt Ideal) ((c.tc : Thread Cert.LnInIdeal.nD Cert.LnInIdeal.τ).loc Cert.LnInIdeal.main_v3_1)),
      θ_run (Cert.LnInIdeal.defs (F := Ideal)) (onTc (τ := Cert.LnInIdeal.τ) (Cert.LnInIdeal.main (F := Ideal))) ⟨m, fun _ => 0, g⟩ (fun r => ∀ c : Dev Cert.LnInIdeal.nD,
          r.2.mem ((c.tc : Thread Cert.LnInIdeal.nD Cert.LnInIdeal.τ).loc Cert.LnInIdeal.main_v3_0) = v0 c
          ∧ r.2.mem ((c.tc : Thread Cert.LnInIdeal.nD Cert.LnInIdeal.τ).loc Cert.LnInIdeal.main_v3_1) = v1 c
          ∧ r.2.mem ((c.tc : Thread Cert.LnInIdeal.nD Cert.LnInIdeal.τ).loc Cert.LnInIdeal.main_arg0) = m ((c.tc : Thread Cert.LnInIdeal.nD Cert.LnInIdeal.τ).loc Cert.LnInIdeal.main_arg0)
          ∧ r.2.mem ((c.tc : Thread Cert.LnInIdeal.nD Cert.LnInIdeal.τ).loc Cert.LnInIdeal.main_arg1) = m ((c.tc : Thread Cert.LnInIdeal.nD Cert.LnInIdeal.τ).loc Cert.LnInIdeal.main_arg1)
          ∧ r.2.mem ((c.tc : Thread Cert.LnInIdeal.nD Cert.LnInIdeal.τ).loc Cert.LnInIdeal.main_arg2) = m ((c.tc : Thread Cert.LnInIdeal.nD Cert.LnInIdeal.τ).loc Cert.LnInIdeal.main_arg2))
      ∧ θ_run (Cert.LnInRefIdeal.defs (F := Ideal)) (onTc (τ := Cert.LnInRefIdeal.τ) (Cert.LnInRefIdeal.main (F := Ideal))) ⟨m', fun _ => 0, g'⟩ (fun r => ∀ c : Dev Cert.LnInRefIdeal.nD,
          r.2.mem ((c.tc : Thread Cert.LnInRefIdeal.nD Cert.LnInRefIdeal.τ).loc Cert.LnInRefIdeal.main_v24) = v0 c
          ∧ r.2.mem ((c.tc : Thread Cert.LnInRefIdeal.nD Cert.LnInRefIdeal.τ).loc Cert.LnInRefIdeal.main_v25) = v1 c
          ∧ r.2.mem ((c.tc : Thread Cert.LnInRefIdeal.nD Cert.LnInRefIdeal.τ).loc Cert.LnInRefIdeal.main_arg0) = m' ((c.tc : Thread Cert.LnInRefIdeal.nD Cert.LnInRefIdeal.τ).loc Cert.LnInRefIdeal.main_arg0)
          ∧ r.2.mem ((c.tc : Thread Cert.LnInRefIdeal.nD Cert.LnInRefIdeal.τ).loc Cert.LnInRefIdeal.main_arg1) = m' ((c.tc : Thread Cert.LnInRefIdeal.nD Cert.LnInRefIdeal.τ).loc Cert.LnInRefIdeal.main_arg1)
          ∧ r.2.mem ((c.tc : Thread Cert.LnInRefIdeal.nD Cert.LnInRefIdeal.τ).loc Cert.LnInRefIdeal.main_arg2) = m' ((c.tc : Thread Cert.LnInRefIdeal.nD Cert.LnInRefIdeal.τ).loc Cert.LnInRefIdeal.main_arg2))

def preserves_Prep_PrepIdeal : Prop :=
  IdealRules.named_const.Statement Cert.PrepIdeal.κ "tiny" .f32 0x179ABE15#32 (((2305843 / 2305843009213693952) * (2305843 / 2305843009213693952) : ℝ) : EReal)

def algebraic_PrepIdeal_PrepRefIdeal_pre_rwkv_prep_args [hPrepIdeal : Cert.PrepIdeal.Facts] [hPrepRefIdeal : Cert.PrepRefIdeal.Facts] [hPre_rwkv_prep_args : Cert.Pre_rwkv_prep_args.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_rwkv_prep_args m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)
      ∧ m' ((c.tc : Thread Cert.PrepRefIdeal.nD Cert.PrepRefIdeal.τ).loc Cert.PrepRefIdeal.main_arg7) = m ((c.tc : Thread Cert.PrepIdeal.nD Cert.PrepIdeal.τ).loc Cert.PrepIdeal.main_arg7)
      ∧ m' ((c.tc : Thread Cert.PrepRefIdeal.nD Cert.PrepRefIdeal.τ).loc Cert.PrepRefIdeal.main_arg8) = m ((c.tc : Thread Cert.PrepIdeal.nD Cert.PrepIdeal.τ).loc Cert.PrepIdeal.main_arg8)
      ∧ m' ((c.tc : Thread Cert.PrepRefIdeal.nD Cert.PrepRefIdeal.τ).loc Cert.PrepRefIdeal.main_arg9) = m ((c.tc : Thread Cert.PrepIdeal.nD Cert.PrepIdeal.τ).loc Cert.PrepIdeal.main_arg9)) →
    ∃ (v0 : (c : Dev Cert.PrepIdeal.nD) → Buf (Elt Ideal) ((c.tc : Thread Cert.PrepIdeal.nD Cert.PrepIdeal.τ).loc Cert.PrepIdeal.main_v27_0)) (v1 : (c : Dev Cert.PrepIdeal.nD) → Buf (Elt Ideal) ((c.tc : Thread Cert.PrepIdeal.nD Cert.PrepIdeal.τ).loc Cert.PrepIdeal.main_v27_1)) (v2 : (c : Dev Cert.PrepIdeal.nD) → Buf (Elt Ideal) ((c.tc : Thread Cert.PrepIdeal.nD Cert.PrepIdeal.τ).loc Cert.PrepIdeal.main_v27_2)) (v3 : (c : Dev Cert.PrepIdeal.nD) → Buf (Elt Ideal) ((c.tc : Thread Cert.PrepIdeal.nD Cert.PrepIdeal.τ).loc Cert.PrepIdeal.main_v27_5)) (v4 : (c : Dev Cert.PrepIdeal.nD) → Buf (Elt Ideal) ((c.tc : Thread Cert.PrepIdeal.nD Cert.PrepIdeal.τ).loc Cert.PrepIdeal.main_v27_6)) (v5 : (c : Dev Cert.PrepIdeal.nD) → Buf (Elt Ideal) ((c.tc : Thread Cert.PrepIdeal.nD Cert.PrepIdeal.τ).loc Cert.PrepIdeal.main_v27_7)) (v6 : (c : Dev Cert.PrepIdeal.nD) → Buf (Elt Ideal) ((c.tc : Thread Cert.PrepIdeal.nD Cert.PrepIdeal.τ).loc Cert.PrepIdeal.main_v27_8)) (v7 : (c : Dev Cert.PrepIdeal.nD) → Buf (Elt Ideal) ((c.tc : Thread Cert.PrepIdeal.nD Cert.PrepIdeal.τ).loc Cert.PrepIdeal.main_v27_9)) (v8 : (c : Dev Cert.PrepIdeal.nD) → Buf (Elt Ideal) ((c.tc : Thread Cert.PrepIdeal.nD Cert.PrepIdeal.τ).loc Cert.PrepIdeal.main_v27_10)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v27_0) = v0 c
          ∧ r.2.mem ((c.tc : Thread Cert.PrepIdeal.nD Cert.PrepIdeal.τ).loc Cert.PrepIdeal.main_v27_1) = v1 c
          ∧ r.2.mem ((c.tc : Thread Cert.PrepIdeal.nD Cert.PrepIdeal.τ).loc Cert.PrepIdeal.main_v27_2) = v2 c
          ∧ r.2.mem ((c.tc : Thread Cert.PrepIdeal.nD Cert.PrepIdeal.τ).loc Cert.PrepIdeal.main_v27_5) = v3 c
          ∧ r.2.mem ((c.tc : Thread Cert.PrepIdeal.nD Cert.PrepIdeal.τ).loc Cert.PrepIdeal.main_v27_6) = v4 c
          ∧ r.2.mem ((c.tc : Thread Cert.PrepIdeal.nD Cert.PrepIdeal.τ).loc Cert.PrepIdeal.main_v27_7) = v5 c
          ∧ r.2.mem ((c.tc : Thread Cert.PrepIdeal.nD Cert.PrepIdeal.τ).loc Cert.PrepIdeal.main_v27_8) = v6 c
          ∧ r.2.mem ((c.tc : Thread Cert.PrepIdeal.nD Cert.PrepIdeal.τ).loc Cert.PrepIdeal.main_v27_9) = v7 c
          ∧ r.2.mem ((c.tc : Thread Cert.PrepIdeal.nD Cert.PrepIdeal.τ).loc Cert.PrepIdeal.main_v27_10) = v8 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6)
          ∧ r.2.mem ((c.tc : Thread Cert.PrepIdeal.nD Cert.PrepIdeal.τ).loc Cert.PrepIdeal.main_arg7) = m ((c.tc : Thread Cert.PrepIdeal.nD Cert.PrepIdeal.τ).loc Cert.PrepIdeal.main_arg7)
          ∧ r.2.mem ((c.tc : Thread Cert.PrepIdeal.nD Cert.PrepIdeal.τ).loc Cert.PrepIdeal.main_arg8) = m ((c.tc : Thread Cert.PrepIdeal.nD Cert.PrepIdeal.τ).loc Cert.PrepIdeal.main_arg8)
          ∧ r.2.mem ((c.tc : Thread Cert.PrepIdeal.nD Cert.PrepIdeal.τ).loc Cert.PrepIdeal.main_arg9) = m ((c.tc : Thread Cert.PrepIdeal.nD Cert.PrepIdeal.τ).loc Cert.PrepIdeal.main_arg9))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v102) = v0 c
          ∧ r.2.mem ((c.tc : Thread Cert.PrepRefIdeal.nD Cert.PrepRefIdeal.τ).loc Cert.PrepRefIdeal.main_v104) = v1 c
          ∧ r.2.mem ((c.tc : Thread Cert.PrepRefIdeal.nD Cert.PrepRefIdeal.τ).loc Cert.PrepRefIdeal.main_v107) = v2 c
          ∧ r.2.mem ((c.tc : Thread Cert.PrepRefIdeal.nD Cert.PrepRefIdeal.τ).loc Cert.PrepRefIdeal.main_v109) = v3 c
          ∧ r.2.mem ((c.tc : Thread Cert.PrepRefIdeal.nD Cert.PrepRefIdeal.τ).loc Cert.PrepRefIdeal.main_v111) = v4 c
          ∧ r.2.mem ((c.tc : Thread Cert.PrepRefIdeal.nD Cert.PrepRefIdeal.τ).loc Cert.PrepRefIdeal.main_v113) = v5 c
          ∧ r.2.mem ((c.tc : Thread Cert.PrepRefIdeal.nD Cert.PrepRefIdeal.τ).loc Cert.PrepRefIdeal.main_v115) = v6 c
          ∧ r.2.mem ((c.tc : Thread Cert.PrepRefIdeal.nD Cert.PrepRefIdeal.τ).loc Cert.PrepRefIdeal.main_v118) = v7 c
          ∧ r.2.mem ((c.tc : Thread Cert.PrepRefIdeal.nD Cert.PrepRefIdeal.τ).loc Cert.PrepRefIdeal.main_v120) = v8 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6)
          ∧ r.2.mem ((c.tc : Thread Cert.PrepRefIdeal.nD Cert.PrepRefIdeal.τ).loc Cert.PrepRefIdeal.main_arg7) = m' ((c.tc : Thread Cert.PrepRefIdeal.nD Cert.PrepRefIdeal.τ).loc Cert.PrepRefIdeal.main_arg7)
          ∧ r.2.mem ((c.tc : Thread Cert.PrepRefIdeal.nD Cert.PrepRefIdeal.τ).loc Cert.PrepRefIdeal.main_arg8) = m' ((c.tc : Thread Cert.PrepRefIdeal.nD Cert.PrepRefIdeal.τ).loc Cert.PrepRefIdeal.main_arg8)
          ∧ r.2.mem ((c.tc : Thread Cert.PrepRefIdeal.nD Cert.PrepRefIdeal.τ).loc Cert.PrepRefIdeal.main_arg9) = m' ((c.tc : Thread Cert.PrepRefIdeal.nD Cert.PrepRefIdeal.τ).loc Cert.PrepRefIdeal.main_arg9))

def Claim : Prop :=
  ∃ (hAttn : Cert.Attn.Facts) (hAttnIdeal : Cert.AttnIdeal.Facts) (hAttnRefIdeal : Cert.AttnRefIdeal.Facts) (hFfn : Cert.Ffn.Facts) (hFfnIdeal : Cert.FfnIdeal.Facts) (hFfnRefIdeal : Cert.FfnRefIdeal.Facts) (hInGate : Cert.InGate.Facts) (hInGateIdeal : Cert.InGateIdeal.Facts) (hInGateRefIdeal : Cert.InGateRefIdeal.Facts) (hInConv : Cert.InConv.Facts) (hInConvIdeal : Cert.InConvIdeal.Facts) (hInConvRefIdeal : Cert.InConvRefIdeal.Facts) (hInRwkv : Cert.InRwkv.Facts) (hInRwkvIdeal : Cert.InRwkvIdeal.Facts) (hInRwkvRefIdeal : Cert.InRwkvRefIdeal.Facts) (hInMla : Cert.InMla.Facts) (hInMlaIdeal : Cert.InMlaIdeal.Facts) (hInMlaRefIdeal : Cert.InMlaRefIdeal.Facts) (hMerge : Cert.Merge.Facts) (hMergeIdeal : Cert.MergeIdeal.Facts) (hMergeRefIdeal : Cert.MergeRefIdeal.Facts) (hOutLn : Cert.OutLn.Facts) (hOutLnIdeal : Cert.OutLnIdeal.Facts) (hOutLnRefIdeal : Cert.OutLnRefIdeal.Facts) (hMlaPrep : Cert.MlaPrep.Facts) (hMlaPrepIdeal : Cert.MlaPrepIdeal.Facts) (hMlaPrepRefIdeal : Cert.MlaPrepRefIdeal.Facts) (hPost : Cert.Post.Facts) (hPostIdeal : Cert.PostIdeal.Facts) (hPostRefIdeal : Cert.PostRefIdeal.Facts) (hConv : Cert.Conv.Facts) (hConvIdeal : Cert.ConvIdeal.Facts) (hConvRefIdeal : Cert.ConvRefIdeal.Facts) (hLnIn : Cert.LnIn.Facts) (hLnInIdeal : Cert.LnInIdeal.Facts) (hLnInRefIdeal : Cert.LnInRefIdeal.Facts) (hPrep : Cert.Prep.Facts) (hPrepIdeal : Cert.PrepIdeal.Facts) (hPrepRefIdeal : Cert.PrepRefIdeal.Facts) (hPre_attn_args : Cert.Pre_attn_args.Facts) (hPre_in_mla_args : Cert.Pre_in_mla_args.Facts) (hPre_mla_prep_args : Cert.Pre_mla_prep_args.Facts) (hPre_rwkv_post_args : Cert.Pre_rwkv_post_args.Facts) (hPre_rwkv_prep_args : Cert.Pre_rwkv_prep_args.Facts),
    quiescent_Attn (hAttn := hAttn)
    ∧ quiescent_AttnIdeal (hAttnIdeal := hAttnIdeal)
    ∧ quiescent_AttnIdeal_pre_attn_args (hAttnIdeal := hAttnIdeal) (hPre_attn_args := hPre_attn_args)
    ∧ quiescent_AttnRefIdeal (hAttnRefIdeal := hAttnRefIdeal)
    ∧ quiescent_AttnRefIdeal_pre_attn_args (hAttnRefIdeal := hAttnRefIdeal) (hPre_attn_args := hPre_attn_args)
    ∧ quiescent_Ffn (hFfn := hFfn)
    ∧ quiescent_FfnIdeal (hFfnIdeal := hFfnIdeal)
    ∧ quiescent_FfnRefIdeal (hFfnRefIdeal := hFfnRefIdeal)
    ∧ quiescent_InGate (hInGate := hInGate)
    ∧ quiescent_InGateIdeal (hInGateIdeal := hInGateIdeal)
    ∧ quiescent_InGateRefIdeal (hInGateRefIdeal := hInGateRefIdeal)
    ∧ quiescent_InConv (hInConv := hInConv)
    ∧ quiescent_InConvIdeal (hInConvIdeal := hInConvIdeal)
    ∧ quiescent_InConvRefIdeal (hInConvRefIdeal := hInConvRefIdeal)
    ∧ quiescent_InRwkv (hInRwkv := hInRwkv)
    ∧ quiescent_InRwkvIdeal (hInRwkvIdeal := hInRwkvIdeal)
    ∧ quiescent_InRwkvRefIdeal (hInRwkvRefIdeal := hInRwkvRefIdeal)
    ∧ quiescent_InMla (hInMla := hInMla)
    ∧ quiescent_InMlaIdeal (hInMlaIdeal := hInMlaIdeal)
    ∧ quiescent_InMlaIdeal_pre_in_mla_args (hInMlaIdeal := hInMlaIdeal) (hPre_in_mla_args := hPre_in_mla_args)
    ∧ quiescent_InMlaRefIdeal (hInMlaRefIdeal := hInMlaRefIdeal)
    ∧ quiescent_InMlaRefIdeal_pre_in_mla_args (hInMlaRefIdeal := hInMlaRefIdeal) (hPre_in_mla_args := hPre_in_mla_args)
    ∧ quiescent_Merge (hMerge := hMerge)
    ∧ quiescent_MergeIdeal (hMergeIdeal := hMergeIdeal)
    ∧ quiescent_MergeRefIdeal (hMergeRefIdeal := hMergeRefIdeal)
    ∧ quiescent_OutLn (hOutLn := hOutLn)
    ∧ quiescent_OutLnIdeal (hOutLnIdeal := hOutLnIdeal)
    ∧ quiescent_OutLnRefIdeal (hOutLnRefIdeal := hOutLnRefIdeal)
    ∧ quiescent_MlaPrep (hMlaPrep := hMlaPrep)
    ∧ quiescent_MlaPrepIdeal (hMlaPrepIdeal := hMlaPrepIdeal)
    ∧ quiescent_MlaPrepIdeal_pre_mla_prep_args (hMlaPrepIdeal := hMlaPrepIdeal) (hPre_mla_prep_args := hPre_mla_prep_args)
    ∧ quiescent_MlaPrepRefIdeal (hMlaPrepRefIdeal := hMlaPrepRefIdeal)
    ∧ quiescent_MlaPrepRefIdeal_pre_mla_prep_args (hMlaPrepRefIdeal := hMlaPrepRefIdeal) (hPre_mla_prep_args := hPre_mla_prep_args)
    ∧ quiescent_Post (hPost := hPost)
    ∧ quiescent_PostIdeal (hPostIdeal := hPostIdeal)
    ∧ quiescent_PostIdeal_pre_rwkv_post_args (hPostIdeal := hPostIdeal) (hPre_rwkv_post_args := hPre_rwkv_post_args)
    ∧ quiescent_PostRefIdeal (hPostRefIdeal := hPostRefIdeal)
    ∧ quiescent_PostRefIdeal_pre_rwkv_post_args (hPostRefIdeal := hPostRefIdeal) (hPre_rwkv_post_args := hPre_rwkv_post_args)
    ∧ quiescent_Conv (hConv := hConv)
    ∧ quiescent_ConvIdeal (hConvIdeal := hConvIdeal)
    ∧ quiescent_ConvRefIdeal (hConvRefIdeal := hConvRefIdeal)
    ∧ quiescent_LnIn (hLnIn := hLnIn)
    ∧ quiescent_LnInIdeal (hLnInIdeal := hLnInIdeal)
    ∧ quiescent_LnInRefIdeal (hLnInRefIdeal := hLnInRefIdeal)
    ∧ quiescent_Prep (hPrep := hPrep)
    ∧ quiescent_PrepIdeal (hPrepIdeal := hPrepIdeal)
    ∧ quiescent_PrepIdeal_pre_rwkv_prep_args (hPrepIdeal := hPrepIdeal) (hPre_rwkv_prep_args := hPre_rwkv_prep_args)
    ∧ quiescent_PrepRefIdeal (hPrepRefIdeal := hPrepRefIdeal)
    ∧ quiescent_PrepRefIdeal_pre_rwkv_prep_args (hPrepRefIdeal := hPrepRefIdeal) (hPre_rwkv_prep_args := hPre_rwkv_prep_args)
    ∧ preserves_Attn_AttnIdeal
    ∧ algebraic_AttnIdeal_AttnRefIdeal_pre_attn_args (hAttnIdeal := hAttnIdeal) (hAttnRefIdeal := hAttnRefIdeal) (hPre_attn_args := hPre_attn_args)
    ∧ preserves_Ffn_FfnIdeal
    ∧ algebraic_FfnIdeal_FfnRefIdeal (hFfnIdeal := hFfnIdeal) (hFfnRefIdeal := hFfnRefIdeal)
    ∧ preserves_InGate_InGateIdeal
    ∧ algebraic_InGateIdeal_InGateRefIdeal (hInGateIdeal := hInGateIdeal) (hInGateRefIdeal := hInGateRefIdeal)
    ∧ preserves_InConv_InConvIdeal
    ∧ algebraic_InConvIdeal_InConvRefIdeal (hInConvIdeal := hInConvIdeal) (hInConvRefIdeal := hInConvRefIdeal)
    ∧ preserves_InRwkv_InRwkvIdeal
    ∧ algebraic_InRwkvIdeal_InRwkvRefIdeal (hInRwkvIdeal := hInRwkvIdeal) (hInRwkvRefIdeal := hInRwkvRefIdeal)
    ∧ preserves_InMla_InMlaIdeal
    ∧ algebraic_InMlaIdeal_InMlaRefIdeal_pre_in_mla_args (hInMlaIdeal := hInMlaIdeal) (hInMlaRefIdeal := hInMlaRefIdeal) (hPre_in_mla_args := hPre_in_mla_args)
    ∧ preserves_Merge_MergeIdeal
    ∧ algebraic_MergeIdeal_MergeRefIdeal (hMergeIdeal := hMergeIdeal) (hMergeRefIdeal := hMergeRefIdeal)
    ∧ preserves_OutLn_OutLnIdeal
    ∧ algebraic_OutLnIdeal_OutLnRefIdeal (hOutLnIdeal := hOutLnIdeal) (hOutLnRefIdeal := hOutLnRefIdeal)
    ∧ preserves_MlaPrep_MlaPrepIdeal
    ∧ algebraic_MlaPrepIdeal_MlaPrepRefIdeal_pre_mla_prep_args (hMlaPrepIdeal := hMlaPrepIdeal) (hMlaPrepRefIdeal := hMlaPrepRefIdeal) (hPre_mla_prep_args := hPre_mla_prep_args)
    ∧ preserves_Post_PostIdeal
    ∧ algebraic_PostIdeal_PostRefIdeal_pre_rwkv_post_args (hPostIdeal := hPostIdeal) (hPostRefIdeal := hPostRefIdeal) (hPre_rwkv_post_args := hPre_rwkv_post_args)
    ∧ preserves_Conv_ConvIdeal
    ∧ algebraic_ConvIdeal_ConvRefIdeal (hConvIdeal := hConvIdeal) (hConvRefIdeal := hConvRefIdeal)
    ∧ preserves_LnIn_LnInIdeal
    ∧ algebraic_LnInIdeal_LnInRefIdeal (hLnInIdeal := hLnInIdeal) (hLnInRefIdeal := hLnInRefIdeal)
    ∧ preserves_Prep_PrepIdeal
    ∧ algebraic_PrepIdeal_PrepRefIdeal_pre_rwkv_prep_args (hPrepIdeal := hPrepIdeal) (hPrepRefIdeal := hPrepRefIdeal) (hPre_rwkv_prep_args := hPre_rwkv_prep_args)
-- ==== Pre_attn_args.lean ====
abbrev S32768x2048 : Shape := ⟨2, ![32768, 2048]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32768x2048 32) (arg1 : IVec S_ 32) : IVec S32768x2048 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32768x2048 32 := broadcastInDim S32768x2048 ![] bcast_S_S32768x2048 v2
  let v4 : IVec S32768x2048 32 := Host.remsi arg0 v3
  let c_1 : IVec S_ 32 := constantI S_ 32 0#32
  let v5 : IVec S32768x2048 32 := broadcastInDim S32768x2048 ![] bcast_S_S32768x2048 c_1
  let v6 : IVec S32768x2048 1 := cmpi .ne v4 v5
  let c_2 : IVec S_ 32 := constantI S_ 32 0#32
  let v7 : IVec S32768x2048 32 := broadcastInDim S32768x2048 ![] bcast_S_S32768x2048 c_2
  let v8 : IVec S32768x2048 1 := cmpi .slt v4 v7
  let c_3 : IVec S_ 32 := constantI S_ 32 0#32
  let v9 : IVec S_ 1 := cmpi .slt v2 c_3
  let v10 : IVec S32768x2048 1 := broadcastInDim S32768x2048 ![] bcast_S_S32768x2048 v9
  let v11 : IVec S32768x2048 1 := cmpi .ne v8 v10
  let v12 : IVec S32768x2048 1 := andi v11 v6
  let v13 : IVec S32768x2048 32 := broadcastInDim S32768x2048 ![] bcast_S_S32768x2048 v2
  let v14 : IVec S32768x2048 32 := addi v4 v13
  let v15 : IVec S32768x2048 32 := select v12 v14 v4
  v15

def fn {F : FTy → Type} [FloatOps F] (main_arg0 : FVec F S32768x2048 .bf16) (main_arg1 : FVec F S32768x2048 .bf16) (main_arg2 : FVec F S32768x2048 .bf16) : IVec S32768x2048 1 × IVec S32768x2048 1 × IVec S32768x2048 1 :=
  let main_v0 : IVec S32768x2048 32 := iotaInDim S32768x2048 32 1
  let main_v1 : FVec F S32768x2048 .f32 := (extf .f32 · bitsLt_bf16_f32) main_arg0
  let main_v2 : FVec F S32768x2048 .f32 := Host.absf main_v1
  let main_cst : FVec F S_ .f32 := constant S_ .f32 0x7F800000#32
  let main_v3 : FVec F S32768x2048 .f32 := broadcastInDim S32768x2048 ![] bcast_S_S32768x2048 main_cst
  let main_v4 : IVec S32768x2048 1 := cmpf .olt main_v2 main_v3
  let main_v5 : FVec F S32768x2048 .f32 := (extf .f32 · bitsLt_bf16_f32) main_arg1
  let main_v6 : FVec F S32768x2048 .f32 := Host.absf main_v5
  let main_cst_0 : FVec F S_ .f32 := constant S_ .f32 0x7F800000#32
  let main_v7 : FVec F S32768x2048 .f32 := broadcastInDim S32768x2048 ![] bcast_S_S32768x2048 main_cst_0
  let main_v8 : IVec S32768x2048 1 := cmpf .olt main_v6 main_v7
  let main_c : IVec S_ 32 := constantI S_ 32 256#32
  let main_v9 : IVec S32768x2048 32 := fn_remainder (F := F) main_v0 main_c
  let main_c_1 : IVec S_ 32 := constantI S_ 32 128#32
  let main_v10 : IVec S32768x2048 32 := broadcastInDim S32768x2048 ![] bcast_S_S32768x2048 main_c_1
  let main_v11 : IVec S32768x2048 1 := cmpi .ne main_v9 main_v10
  let main_v12 : FVec F S32768x2048 .f32 := (extf .f32 · bitsLt_bf16_f32) main_arg2
  let main_cst_2 : FVec F S_ .f32 := constant S_ .f32 0x3F800000#32
  let main_v13 : FVec F S32768x2048 .f32 := broadcastInDim S32768x2048 ![] bcast_S_S32768x2048 main_cst_2
  let main_v14 : IVec S32768x2048 1 := cmpf .oeq main_v12 main_v13
  let main_v15 : IVec S32768x2048 1 := ori main_v11 main_v14
  (main_v4, main_v8, main_v15)
-- ==== Pre_in_mla_args.lean ====
abbrev S32768x2048 : Shape := ⟨2, ![32768, 2048]⟩
abbrev S2048x14048 : Shape := ⟨2, ![2048, 14048]⟩
abbrev S_ : Shape := ⟨0, ![]⟩

class Facts : Prop where
  bitsLt_bf16_f32 : FTy.bits .bf16 < FTy.bits .f32
  bcast_S_S32768x2048 : S_.BroadcastsInDim S32768x2048 (![] : Fin 0 → Fin S32768x2048.rank)
  bcast_S_S2048x14048 : S_.BroadcastsInDim S2048x14048 (![] : Fin 0 → Fin S2048x14048.rank)

variable [Facts]

def fn {F : FTy → Type} [FloatOps F] (main_arg0 : FVec F S32768x2048 .bf16) (main_arg1 : FVec F S2048x14048 .f32) : IVec S32768x2048 1 × IVec S2048x14048 1 :=
  let main_v0 : FVec F S32768x2048 .f32 := (extf .f32 · bitsLt_bf16_f32) main_arg0
  let main_v1 : FVec F S32768x2048 .f32 := Host.absf main_v0
  let main_cst : FVec F S_ .f32 := constant S_ .f32 0x7F800000#32
  let main_v2 : FVec F S32768x2048 .f32 := broadcastInDim S32768x2048 ![] bcast_S_S32768x2048 main_cst
  let main_v3 : IVec S32768x2048 1 := cmpf .olt main_v1 main_v2
  let main_v4 : FVec F S2048x14048 .f32 := Host.absf main_arg1
  let main_cst_0 : FVec F S_ .f32 := constant S_ .f32 0x7F800000#32
  let main_v5 : FVec F S2048x14048 .f32 := broadcastInDim S2048x14048 ![] bcast_S_S2048x14048 main_cst_0
  let main_v6 : IVec S2048x14048 1 := cmpf .olt main_v4 main_v5
  (main_v3, main_v6)
-- ==== Pre_mla_prep_args.lean ====
abbrev S32768x1536 : Shape := ⟨2, ![32768, 1536]⟩
abbrev S768 : Shape := ⟨1, ![768]⟩
abbrev S768x1536 : Shape := ⟨2, ![768, 1536]⟩
abbrev S512 : Shape := ⟨1, ![512]⟩
abbrev S512x2048 : Shape := ⟨2, ![512, 2048]⟩
abbrev S32768x64 : Shape := ⟨2, ![32768, 64]⟩
abbrev S768x8x192 : Shape := ⟨3, ![768, 8, 192]⟩
abbrev S768x8x32 : Shape := ⟨3, ![768, 8, 32]⟩
abbrev S32768x768 : Shape := ⟨2, ![32768, 768]⟩
abbrev S_ : Shape := ⟨0, ![]⟩
abbrev S32768x32 : Shape := ⟨2, ![32768, 32]⟩

class Facts : Prop where
  slices_S32768x1536_S32768x64_0_1280 : S32768x1536.Slices ![0, 1280] S32768x64
  slices_S32768x1536_S32768x64_0_1408 : S32768x1536.Slices ![0, 1408] S32768x64
  shapeCasts_S768x1536_S768x8x192 : S768x1536.ShapeCasts S768x8x192
  slices_S768x8x192_S768x8x32_0_0_160 : S768x8x192.Slices ![0, 0, 160] S768x8x32
  slices_S32768x1536_S32768x768_0_0 : S32768x1536.Slices ![0, 0] S32768x768
  bcast_S_S32768x768 : S_.BroadcastsInDim S32768x768 (![] : Fin 0 → Fin S32768x768.rank)
  bcast_S_S768 : S_.BroadcastsInDim S768 (![] : Fin 0 → Fin S768.rank)
  bcast_S_S768x8x32 : S_.BroadcastsInDim S768x8x32 (![] : Fin 0 → Fin S768x8x32.rank)
  slices_S32768x64_S32768x32_0_0 : S32768x64.Slices ![0, 0] S32768x32
  slices_S32768x64_S32768x32_0_32 : S32768x64.Slices ![0, 32] S32768x32

variable [Facts]

def fn {F : FTy → Type} [FloatOps F] (main_arg0 : FVec F S32768x1536 .f32) (main_arg1 : FVec F S768 .f32) (main_arg2 : FVec F S768x1536 .f32) (main_arg3 : FVec F S512 .f32) (main_arg4 : FVec F S512x2048 .f32) : IVec S32768x768 1 × IVec S768 1 × IVec S768x8x32 1 × IVec S32768x32 1 × IVec S32768x32 1 :=
  let main_v0 : FVec F S32768x64 .f32 := (extractStridedSlice S32768x64 ![0, 1280] · slices_S32768x1536_S32768x64_0_1280) main_arg0
  let main_v1 : FVec F S32768x64 .f32 := (extractStridedSlice S32768x64 ![0, 1408] · slices_S32768x1536_S32768x64_0_1408) main_arg0
  let main_v2 : FVec F S768x8x192 .f32 := shapeCast S768x8x192 main_arg2 shapeCasts_S768x1536_S768x8x192
  let main_v3 : FVec F S768x8x32 .f32 := (extractStridedSlice S768x8x32 ![0, 0, 160] · slices_S768x8x192_S768x8x32_0_0_160) main_v2
  let main_v4 : FVec F S32768x768 .f32 := (extractStridedSlice S32768x768 ![0, 0] · slices_S32768x1536_S32768x768_0_0) main_arg0
  let main_v5 : FVec F S32768x768 .f32 := Host.absf main_v4
  let main_cst : FVec F S_ .f32 := constant S_ .f32 0x7F800000#32
  let main_v6 : FVec F S32768x768 .f32 := broadcastInDim S32768x768 ![] bcast_S_S32768x768 main_cst
  let main_v7 : IVec S32768x768 1 := cmpf .olt main_v5 main_v6
  let main_v8 : FVec F S768 .f32 := Host.absf main_arg1
  let main_cst_0 : FVec F S_ .f32 := constant S_ .f32 0x7F800000#32
  let main_v9 : FVec F S768 .f32 := broadcastInDim S768 ![] bcast_S_S768 main_cst_0
  let main_v10 : IVec S768 1 := cmpf .olt main_v8 main_v9
  let main_v11 : FVec F S768x8x32 .f32 := Host.absf main_v3
  let main_cst_1 : FVec F S_ .f32 := constant S_ .f32 0x7F800000#32
  let main_v12 : FVec F S768x8x32 .f32 := broadcastInDim S768x8x32 ![] bcast_S_S768x8x32 main_cst_1
  let main_v13 : IVec S768x8x32 1 := cmpf .olt main_v11 main_v12
  let main_v14 : FVec F S32768x32 .f32 := (extractStridedSlice S32768x32 ![0, 0] · slices_S32768x64_S32768x32_0_0) main_v1
  let main_v15 : FVec F S32768x32 .f32 := (extractStridedSlice S32768x32 ![0, 32] · slices_S32768x64_S32768x32_0_32) main_v0
  let main_v16 : FVec F S32768x32 .f32 := Host.negf main_v15
  let main_v17 : IVec S32768x32 1 := cmpf .oeq main_v14 main_v16
  let main_v18 : FVec F S32768x32 .f32 := (extractStridedSlice S32768x32 ![0, 32] · slices_S32768x64_S32768x32_0_32) main_v1
  let main_v19 : FVec F S32768x32 .f32 := (extractStridedSlice S32768x32 ![0, 0] · slices_S32768x64_S32768x32_0_0) main_v0
  let main_v20 : IVec S32768x32 1 := cmpf .oeq main_v18 main_v19
  (main_v7, main_v10, main_v13, main_v17, main_v20)
-- ==== Pre_rwkv_post_args.lean ====
abbrev S32768x1024 : Shape := ⟨2, ![32768, 1024]⟩
abbrev S1024 : Shape := ⟨1, ![1024]⟩
abbrev S_ : Shape := ⟨0, ![]⟩

class Facts : Prop where
  bcast_S_S32768x1024 : S_.BroadcastsInDim S32768x1024 (![] : Fin 0 → Fin S32768x1024.rank)

variable [Facts]

def fn {F : FTy → Type} [FloatOps F] (main_arg0 : FVec F S32768x1024 .f32) (main_arg1 : FVec F S32768x1024 .f32) (main_arg2 : FVec F S32768x1024 .bf16) (main_arg3 : FVec F S32768x1024 .bf16) (main_arg4 : FVec F S1024 .f32) (main_arg5 : FVec F S1024 .f32) : IVec S32768x1024 1 × IVec S32768x1024 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_v3 : FVec F S32768x1024 .f32 := Host.absf main_arg1
  let main_cst_0 : FVec F S_ .f32 := constant S_ .f32 0x7F800000#32
  let main_v4 : FVec F S32768x1024 .f32 := broadcastInDim S32768x1024 ![] bcast_S_S32768x1024 main_cst_0
  let main_v5 : IVec S32768x1024 1 := cmpf .olt main_v3 main_v4
  (main_v2, main_v5)
-- ==== Pre_rwkv_prep_args.lean ====
abbrev S32768x3584 : Shape := ⟨2, ![32768, 3584]⟩
abbrev S2x3488 : Shape := ⟨2, ![2, 3488]⟩
abbrev S1x2048 : Shape := ⟨2, ![1, 2048]⟩
abbrev S128x2048 : Shape := ⟨2, ![128, 2048]⟩
abbrev S2x1024 : Shape := ⟨2, ![2, 1024]⟩
abbrev S2x64x1024 : Shape := ⟨3, ![2, 64, 1024]⟩
abbrev S160x1024 : Shape := ⟨2, ![160, 1024]⟩
abbrev S1024 : Shape := ⟨1, ![1024]⟩
abbrev S16x64 : Shape := ⟨2, ![16, 64]⟩
abbrev S_ : Shape := ⟨0, ![]⟩

class Facts : Prop where
  bcast_S_S32768x3584 : S_.BroadcastsInDim S32768x3584 (![] : Fin 0 → Fin S32768x3584.rank)
  bcast_S_S2x3488 : S_.BroadcastsInDim S2x3488 (![] : Fin 0 → Fin S2x3488.rank)
  bcast_S_S1024 : S_.BroadcastsInDim S1024 (![] : Fin 0 → Fin S1024.rank)
  bcast_S_S16x64 : S_.BroadcastsInDim S16x64 (![] : Fin 0 → Fin S16x64.rank)

variable [Facts]

def fn {F : FTy → Type} [FloatOps F] (main_arg0 : FVec F S32768x3584 .f32) (main_arg1 : FVec F S2x3488 .f32) (main_arg2 : FVec F S1x2048 .f32) (main_arg3 : FVec F S128x2048 .bf16) (main_arg4 : FVec F S2x1024 .f32) (main_arg5 : FVec F S2x64x1024 .f32) (main_arg6 : FVec F S160x1024 .f32) (main_arg7 : FVec F S1024 .f32) (main_arg8 : FVec F S1024 .f32) (main_arg9 : FVec F S16x64 .f32) : IVec S32768x3584 1 × IVec S2x3488 1 × IVec S1024 1 × IVec S1024 1 × IVec S16x64 1 :=
  let main_v0 : FVec F S32768x3584 .f32 := Host.absf main_arg0
  let main_cst : FVec F S_ .f32 := constant S_ .f32 0x7F800000#32
  let main_v1 : FVec F S32768x3584 .f32 := broadcastInDim S32768x3584 ![] bcast_S_S32768x3584 main_cst
  let main_v2 : IVec S32768x3584 1 := cmpf .olt main_v0 main_v1
  let main_v3 : FVec F S2x3488 .f32 := Host.absf main_arg1
  let main_cst_0 : FVec F S_ .f32 := constant S_ .f32 0x7F800000#32
  let main_v4 : FVec F S2x3488 .f32 := broadcastInDim S2x3488 ![] bcast_S_S2x3488 main_cst_0
  let main_v5 : IVec S2x3488 1 := cmpf .olt main_v3 main_v4
  let main_v6 : FVec F S1024 .f32 := Host.absf main_arg7
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024 .f32 := Host.absf main_arg8
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S16x64 .f32 := Host.absf main_arg9
  let main_cst_3 : FVec F S_ .f32 := constant S_ .f32 0x7F800000#32
  let main_v13 : FVec F S16x64 .f32 := broadcastInDim S16x64 ![] bcast_S_S16x64 main_cst_3
  let main_v14 : IVec S16x64 1 := cmpf .olt main_v12 main_v13
  (main_v2, main_v5, main_v8, main_v11, main_v14)
-- ==== Attn.lean ====
abbrev S32768x2048 : Shape := ⟨2, ![32768, 2048]⟩
abbrev S32768x1024 : Shape := ⟨2, ![32768, 1024]⟩
abbrev S1024x256 : Shape := ⟨2, ![1024, 256]⟩
abbrev S4096x256 : Shape := ⟨2, ![4096, 256]⟩
abbrev S1024x128 : Shape := ⟨2, ![1024, 128]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 4
  | .vmem => 8
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x1024, .bf16⟩
  | .local _ .vmem, ⟨0, _⟩ => ⟨S1024x256, .bf16⟩
  | .local _ .vmem, ⟨1, _⟩ => ⟨S1024x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S1024x128, .bf16⟩
  | .local _ .vmem, ⟨7, _⟩ => ⟨S1024x128, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== AttnRefIdeal.lean ====
abbrev S32768x2048 : Shape := ⟨2, ![32768, 2048]⟩
abbrev S8x4096x8x256 : Shape := ⟨4, ![8, 4096, 8, 256]⟩
abbrev S8x4096x8x128 : Shape := ⟨4, ![8, 4096, 8, 128]⟩
abbrev S8x8x4096x4096 : Shape := ⟨4, ![8, 8, 4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S32768x1024 : Shape := ⟨2, ![32768, 1024]⟩

abbrev nBuf : Space → Nat
  | .hbm => 33
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S32768x2048, .bf16⟩
  | .hbm, ⟨2, _⟩ => ⟨S32768x2048, .bf16⟩
  | .hbm, ⟨3, _⟩ => ⟨S32768x2048, .f32⟩
  | .hbm, ⟨4, _⟩ => ⟨S8x4096x8x256, .f32⟩
  | .hbm, ⟨5, _⟩ => ⟨S8x4096x8x128, .f32⟩
  | .hbm, ⟨6, _⟩ => ⟨S32768x2048, .f32⟩
  | .hbm, ⟨7, _⟩ => ⟨S8x4096x8x256, .f32⟩
  | .hbm, ⟨8, _⟩ => ⟨S32768x2048, .f32⟩
  | .hbm, ⟨9, _⟩ => ⟨S8x4096x8x256, .f32⟩
  | .hbm, ⟨10, _⟩ => ⟨S8x8x4096x4096, .f32⟩
  | .hbm, ⟨11, _⟩ => ⟨S_, .f32⟩
  | .hbm, ⟨12, _⟩ => ⟨S_, .f32⟩
  | .hbm, ⟨13, _⟩ => ⟨S8x8x4096x4096, .f32⟩
  | .hbm, ⟨14, _⟩ => ⟨S8x8x4096x4096, .f32⟩
  | .hbm, ⟨15, _⟩ => ⟨S_, .f32⟩
  | .hbm, ⟨16, _⟩ => ⟨S8x8x4096, .f32⟩
  | .hbm, ⟨17, _⟩ => ⟨S_, .f32⟩
  | .hbm, ⟨18, _⟩ => ⟨S8x8x4096, .f32⟩
  | .hbm, ⟨19, _⟩ => ⟨S8x8x4096, .f32⟩
  | .hbm, ⟨20, _⟩ => ⟨S8x8x4096x1, .f32⟩
  | .hbm, ⟨21, _⟩ => ⟨S8x8x4096x4096, .f32⟩
  | .hbm, ⟨22, _⟩ => ⟨S8x8x4096x4096, .f32⟩
  | .hbm, ⟨23, _⟩ => ⟨S8x8x4096x4096, .f32⟩
  | .hbm, ⟨24, _⟩ => ⟨S_, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x128x4096, .f32⟩
  | .hbm, ⟨30, _⟩ => ⟨S8x4096x8x128, .f32⟩
  | .hbm, ⟨31, _⟩ => ⟨S32768x1024, .f32⟩
  | .hbm, ⟨32, _⟩ => ⟨S32768x1024, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Ffn.lean ====
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S1x2048 : Shape := ⟨2, ![1, 2048]⟩
abbrev S512x2048 : Shape := ⟨2, ![512, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 17
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S5632x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S2048x11264, .bf16⟩
  | .hbm, ⟨7, _⟩ => ⟨S5632x2048, .bf16⟩
  | .hbm, ⟨8, _⟩ => ⟨S1x2048, .f32⟩
  | .hbm, ⟨9, _⟩ => ⟨S1x2048, .f32⟩
  | .hbm, ⟨10, _⟩ => ⟨S32768x2048, .f32⟩
  | .hbm, ⟨11, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S512x2048, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![64, 11], ![false, false]⟩

def k0_cond2 (i : grid0.Coords) : BitVec 1 :=
  let arg1 : BitVec 32 := BitVec.ofNat 32 (i 1).val
  let c10_i32 : BitVec 32 := 10#32
  let v22 : BitVec 1 := Scalar.cmpi .eq arg1 c10_i32
  let v23 : BitVec 32 := Scalar.extui v22
  let c0_i32_14 : BitVec 32 := 0#32
  let v24 : BitVec 1 := Scalar.cmpi .ne v23 c0_i32_14
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnIdeal.lean ====
variable {F : FTy → Type} [FloatOps F] [Named F]
def κ : String → Option EReal := fun
  | "alpha" => some ((Real.sqrt (Real.sqrt 8) : ℝ) : EReal)
  | _ => none
-- ==== FfnRefIdeal.lean ====
abbrev S32768x2048 : Shape := ⟨2, ![32768, 2048]⟩
abbrev S2048x11264 : Shape := ⟨2, ![2048, 11264]⟩
abbrev S5632x2048 : Shape := ⟨2, ![5632, 2048]⟩
abbrev S2048 : Shape := ⟨1, ![2048]⟩
abbrev S32768x11264 : Shape := ⟨2, ![32768, 11264]⟩
abbrev S32768x5632 : Shape := ⟨2, ![32768, 5632]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S5632x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .f32⟩
  | .hbm, ⟨7, _⟩ => ⟨S32768x11264, .f32⟩
  | .hbm, ⟨8, _⟩ => ⟨S32768x5632, .f32⟩
  | .hbm, ⟨9, _⟩ => ⟨S32768x5632, .f32⟩
  | .hbm, ⟨10, _⟩ => ⟨S32768x5632, .f32⟩
  | .hbm, ⟨11, _⟩ => ⟨S32768x5632, .f32⟩
  | .hbm, ⟨12, _⟩ => ⟨S_, .f32⟩
  | .hbm, ⟨13, _⟩ => ⟨S32768x5632, .f32⟩
  | .hbm, ⟨14, _⟩ => ⟨S32768x5632, .f32⟩
  | .hbm, ⟨15, _⟩ => ⟨S_, .f32⟩
  | .hbm, ⟨16, _⟩ => ⟨S32768x5632, .f32⟩
  | .hbm, ⟨17, _⟩ => ⟨S32768x5632, .f32⟩
  | .hbm, ⟨18, _⟩ => ⟨S32768x5632, .f32⟩
  | .hbm, ⟨19, _⟩ => ⟨S32768x5632, .f32⟩
  | .hbm, ⟨20, _⟩ => ⟨S32768x2048, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S32768x2048, .f32⟩
  | .hbm, ⟨25, _⟩ => ⟨S32768x2048, .f32⟩
  | .hbm, ⟨26, _⟩ => ⟨S32768x2048, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S32768x2048, .f32⟩
  | .hbm, ⟨43, _⟩ => ⟨S32768x2048, .f32⟩
  | .hbm, ⟨44, _⟩ => ⟨S_, .f32⟩
  | .hbm, ⟨45, _⟩ => ⟨S32768x1, .f32⟩
  | .hbm, ⟨46, _⟩ => ⟨S32768x1, .f32⟩
  | .hbm, ⟨47, _⟩ => ⟨S32768x1, .f32⟩
  | .hbm, ⟨48, _⟩ => ⟨S32768x2048, .f32⟩
  | .hbm, ⟨49, _⟩ => ⟨S32768x2048, .f32⟩
  | .hbm, ⟨50, _⟩ => ⟨S1x2048, .f32⟩
  | .hbm, ⟨51, _⟩ => ⟨S32768x2048, .f32⟩
  | .hbm, ⟨52, _⟩ => ⟨S32768x2048, .f32⟩
  | .hbm, ⟨53, _⟩ => ⟨S1x2048, .f32⟩
  | .hbm, ⟨54, _⟩ => ⟨S32768x2048, .f32⟩
  | .hbm, ⟨55, _⟩ => ⟨S32768x2048, .f32⟩
  | .hbm, ⟨56, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_0 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== InGate.lean ====
abbrev S32768x2048 : Shape := ⟨2, ![32768, 2048]⟩
abbrev S2048x14048 : Shape := ⟨2, ![2048, 14048]⟩
abbrev S2048x6144 : Shape := ⟨2, ![2048, 6144]⟩
abbrev S32768x6144 : Shape := ⟨2, ![32768, 6144]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S2048x6144, .f32⟩
  | .hbm, ⟨3, _⟩ => ⟨S2048x6144, .bf16⟩
  | .hbm, ⟨4, _⟩ => ⟨S32768x6144, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InGateRefIdeal.lean ====
abbrev S32768x2048 : Shape := ⟨2, ![32768, 2048]⟩
abbrev S2048x14048 : Shape := ⟨2, ![2048, 14048]⟩
abbrev S32768x14048 : Shape := ⟨2, ![32768, 14048]⟩
abbrev S32768x1344 : Shape := ⟨2, ![32768, 1344]⟩
abbrev S32768x3488 : Shape := ⟨2, ![32768, 3488]⟩
abbrev S32768x3072 : Shape := ⟨2, ![32768, 3072]⟩
abbrev S32768x6144 : Shape := ⟨2, ![32768, 6144]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S32768x2048, .f32⟩
  | .hbm, ⟨3, _⟩ => ⟨S32768x14048, .f32⟩
  | .hbm, ⟨4, _⟩ => ⟨S32768x1344, .f32⟩
  | .hbm, ⟨5, _⟩ => ⟨S32768x3488, .f32⟩
  | .hbm, ⟨6, _⟩ => ⟨S32768x3072, .f32⟩
  | .hbm, ⟨7, _⟩ => ⟨S32768x6144, .f32⟩
  | .hbm, ⟨8, _⟩ => ⟨S32768x6144, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InConv.lean ====
abbrev S32768x2048 : Shape := ⟨2, ![32768, 2048]⟩
abbrev S2048x14048 : Shape := ⟨2, ![2048, 14048]⟩
abbrev S2048x3072 : Shape := ⟨2, ![2048, 3072]⟩
abbrev S32768x3072 : Shape := ⟨2, ![32768, 3072]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S2048x3072, .f32⟩
  | .hbm, ⟨3, _⟩ => ⟨S2048x3072, .bf16⟩
  | .hbm, ⟨4, _⟩ => ⟨S32768x3072, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InConvRefIdeal.lean ====
abbrev S32768x2048 : Shape := ⟨2, ![32768, 2048]⟩
abbrev S2048x14048 : Shape := ⟨2, ![2048, 14048]⟩
abbrev S32768x14048 : Shape := ⟨2, ![32768, 14048]⟩
abbrev S32768x1344 : Shape := ⟨2, ![32768, 1344]⟩
abbrev S32768x3488 : Shape := ⟨2, ![32768, 3488]⟩
abbrev S32768x3072 : Shape := ⟨2, ![32768, 3072]⟩
abbrev S32768x6144 : Shape := ⟨2, ![32768, 6144]⟩

abbrev nBuf : Space → Nat
  | .hbm => 9
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S32768x2048, .f32⟩
  | .hbm, ⟨3, _⟩ => ⟨S32768x14048, .f32⟩
  | .hbm, ⟨4, _⟩ => ⟨S32768x1344, .f32⟩
  | .hbm, ⟨5, _⟩ => ⟨S32768x3488, .f32⟩
  | .hbm, ⟨6, _⟩ => ⟨S32768x3072, .f32⟩
  | .hbm, ⟨7, _⟩ => ⟨S32768x6144, .f32⟩
  | .hbm, ⟨8, _⟩ => ⟨S32768x3072, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== InRwkv.lean ====
abbrev S32768x2048 : Shape := ⟨2, ![32768, 2048]⟩
abbrev S2048x14048 : Shape := ⟨2, ![2048, 14048]⟩
abbrev S2048x3488 : Shape := ⟨2, ![2048, 3488]⟩
abbrev S_ : Shape := ⟨0, ![]⟩
abbrev S2048x96 : Shape := ⟨2, ![2048, 96]⟩
abbrev S2048x3584 : Shape := ⟨2, ![2048, 3584]⟩
abbrev S32768x3584 : Shape := ⟨2, ![32768, 3584]⟩
abbrev S1024x2048 : Shape := ⟨2, ![1024, 2048]⟩
abbrev S2048x1792 : Shape := ⟨2, ![2048, 1792]⟩
abbrev S1024x1792 : Shape := ⟨2, ![1024, 1792]⟩

abbrev nBuf : Space → Nat
  | .hbm => 8
  | .vmem => 6
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S2048x3488, .f32⟩
  | .hbm, ⟨3, _⟩ => ⟨S_, .f32⟩
  | .hbm, ⟨4, _⟩ => ⟨S2048x96, .f32⟩
  | .hbm, ⟨5, _⟩ => ⟨S2048x3584, .f32⟩
  | .hbm, ⟨6, _⟩ => ⟨S2048x3584, .bf16⟩
  | .hbm, ⟨7, _⟩ => ⟨S32768x3584, .f32⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .f32⟩
  | .local _ .vmem, ⟨5, _⟩ => ⟨S1024x1792, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRwkvRefIdeal.lean ====
abbrev S32768x2048 : Shape := ⟨2, ![32768, 2048]⟩
abbrev S2048x14048 : Shape := ⟨2, ![2048, 14048]⟩
abbrev S32768x14048 : Shape := ⟨2, ![32768, 14048]⟩
abbrev S32768x1344 : Shape := ⟨2, ![32768, 1344]⟩
abbrev S32768x3488 : Shape := ⟨2, ![32768, 3488]⟩
abbrev S32768x3072 : Shape := ⟨2, ![32768, 3072]⟩
abbrev S32768x6144 : Shape := ⟨2, ![32768, 6144]⟩
abbrev S_ : Shape := ⟨0, ![]⟩
abbrev S32768x3584 : Shape := ⟨2, ![32768, 3584]⟩

abbrev nBuf : Space → Nat
  | .hbm => 11
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S32768x2048, .f32⟩
  | .hbm, ⟨3, _⟩ => ⟨S32768x14048, .f32⟩
  | .hbm, ⟨4, _⟩ => ⟨S32768x1344, .f32⟩
  | .hbm, ⟨5, _⟩ => ⟨S32768x3488, .f32⟩
  | .hbm, ⟨6, _⟩ => ⟨S32768x3072, .f32⟩
  | .hbm, ⟨7, _⟩ => ⟨S32768x6144, .f32⟩
  | .hbm, ⟨8, _⟩ => ⟨S_, .i32⟩
  | .hbm, ⟨9, _⟩ => ⟨S_, .f32⟩
  | .hbm, ⟨10, _⟩ => ⟨S32768x3584, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InMla.lean ====
abbrev S32768x2048 : Shape := ⟨2, ![32768, 2048]⟩
abbrev S2048x14048 : Shape := ⟨2, ![2048, 14048]⟩
abbrev S2048x64 : Shape := ⟨2, ![2048, 64]⟩
abbrev S2048x32 : Shape := ⟨2, ![2048, 32]⟩
abbrev S2048x1344 : Shape := ⟨2, ![2048, 1344]⟩
abbrev S_ : Shape := ⟨0, ![]⟩
abbrev S2048x1536 : Shape := ⟨2, ![2048, 1536]⟩
abbrev S32768x1536 : Shape := ⟨2, ![32768, 1536]⟩
abbrev S1024x2048 : Shape := ⟨2, ![1024, 2048]⟩
abbrev S1024x1536 : Shape := ⟨2, ![1024, 1536]⟩

abbrev nBuf : Space → Nat
  | .hbm => 15
  | .vmem => 5
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S2048x64, .f32⟩
  | .hbm, ⟨3, _⟩ => ⟨S2048x32, .f32⟩
  | .hbm, ⟨4, _⟩ => ⟨S2048x32, .f32⟩
  | .hbm, ⟨5, _⟩ => ⟨S2048x32, .f32⟩
  | .hbm, ⟨6, _⟩ => ⟨S2048x64, .f32⟩
  | .hbm, ⟨7, _⟩ => ⟨S2048x1344, .f32⟩
  | .hbm, ⟨8, _⟩ => ⟨S_, .f32⟩
  | .hbm, ⟨9, _⟩ => ⟨S2048x64, .f32⟩
  | .hbm, ⟨10, _⟩ => ⟨S_, .f32⟩
  | .hbm, ⟨11, _⟩ => ⟨S2048x64, .f32⟩
  | .hbm, ⟨12, _⟩ => ⟨S2048x1536, .f32⟩
  | .hbm, ⟨13, _⟩ => ⟨S2048x1536, .bf16⟩
  | .hbm, ⟨14, _⟩ => ⟨S32768x1536, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S1024x1536, .f32⟩
  | .local _ .vmem, ⟨4, _⟩ => ⟨S1024x1536, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InMlaRefIdeal.lean ====
abbrev S32768x2048 : Shape := ⟨2, ![32768, 2048]⟩
abbrev S2048x14048 : Shape := ⟨2, ![2048, 14048]⟩
abbrev S32768x14048 : Shape := ⟨2, ![32768, 14048]⟩
abbrev S32768x1344 : Shape := ⟨2, ![32768, 1344]⟩
abbrev S32768x3488 : Shape := ⟨2, ![32768, 3488]⟩
abbrev S32768x3072 : Shape := ⟨2, ![32768, 3072]⟩
abbrev S32768x6144 : Shape := ⟨2, ![32768, 6144]⟩
abbrev S32768x64 : Shape := ⟨2, ![32768, 64]⟩
abbrev S32768x32 : Shape := ⟨2, ![32768, 32]⟩
abbrev S_ : Shape := ⟨0, ![]⟩
abbrev S32768x1536 : Shape := ⟨2, ![32768, 1536]⟩

abbrev nBuf : Space → Nat
  | .hbm => 15
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x14048, .f32⟩
  | .hbm, ⟨2, _⟩ => ⟨S32768x2048, .f32⟩
  | .hbm, ⟨3, _⟩ => ⟨S32768x14048, .f32⟩
  | .hbm, ⟨4, _⟩ => ⟨S32768x1344, .f32⟩
  | .hbm, ⟨5, _⟩ => ⟨S32768x3488, .f32⟩
  | .hbm, ⟨6, _⟩ => ⟨S32768x3072, .f32⟩
  | .hbm, ⟨7, _⟩ => ⟨S32768x6144, .f32⟩
  | .hbm, ⟨8, _⟩ => ⟨S32768x64, .f32⟩
  | .hbm, ⟨9, _⟩ => ⟨S32768x32, .f32⟩
  | .hbm, ⟨10, _⟩ => ⟨S32768x32, .f32⟩
  | .hbm, ⟨11, _⟩ => ⟨S_, .f32⟩
  | .hbm, ⟨12, _⟩ => ⟨S32768x64, .f32⟩
  | .hbm, ⟨13, _⟩ => ⟨S32768x32, .f32⟩
  | .hbm, ⟨14, _⟩ => ⟨S32768x1536, .f32⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Merge.lean ====
abbrev S32768x1024 : Shape := ⟨2, ![32768, 1024]⟩
abbrev S32768x6144 : Shape := ⟨2, ![32768, 6144]⟩
abbrev S3x1024x2048 : Shape := ⟨3, ![3, 1024, 2048]⟩
abbrev S32768x2048 : Shape := ⟨2, ![32768, 2048]⟩
abbrev S1024x1024 : Shape := ⟨2, ![1024, 1024]⟩
abbrev S3x1024x1024 : Shape := ⟨3, ![3, 1024, 1024]⟩
abbrev S1x1024x1024 : Shape := ⟨3, ![1, 1024, 1024]⟩

abbrev nBuf : Space → Nat
  | .hbm => 7
  | .vmem => 16
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S3x1024x2048, .f32⟩
  | .hbm, ⟨5, _⟩ => ⟨S3x1024x2048, .bf16⟩
  | .hbm, ⟨6, _⟩ => ⟨S32768x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S3x1024x1024, .bf16⟩
  | .local _ .vmem, ⟨13, _⟩ => ⟨S3x1024x1024, .bf16⟩
  | .local _ .vmem, ⟨14, _⟩ => ⟨S1024x1024, .bf16⟩
  | .local _ .vmem, ⟨15, _⟩ => ⟨S1024x1024, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![arg1.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S32768x1024 : Shape := ⟨2, ![32768, 1024]⟩
abbrev S32768x6144 : Shape := ⟨2, ![32768, 6144]⟩
abbrev S3x1024x2048 : Shape := ⟨3, ![3, 1024, 2048]⟩
abbrev S32768x1x1024 : Shape := ⟨3, ![32768, 1, 1024]⟩
abbrev S32768x3x1024 : Shape := ⟨3, ![32768, 3, 1024]⟩
abbrev S32768x3x2048 : Shape := ⟨3, ![32768, 3, 2048]⟩
abbrev S_ : Shape := ⟨0, ![]⟩
abbrev S3x2048x32768 : Shape := ⟨3, ![3, 2048, 32768]⟩
abbrev S32768x2048 : Shape := ⟨2, ![32768, 2048]⟩

abbrev nBuf : Space → Nat
  | .hbm => 28
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .bf16⟩
  | .hbm, ⟨3, _⟩ => ⟨S32768x6144, .bf16⟩
  | .hbm, ⟨4, _⟩ => ⟨S3x1024x2048, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1x1024, .f32⟩
  | .hbm, ⟨9, _⟩ => ⟨S32768x1x1024, .f32⟩
  | .hbm, ⟨10, _⟩ => ⟨S32768x1x1024, .f32⟩
  | .hbm, ⟨11, _⟩ => ⟨S32768x3x1024, .f32⟩
  | .hbm, ⟨12, _⟩ => ⟨S32768x6144, .f32⟩
  | .hbm, ⟨13, _⟩ => ⟨S32768x3x2048, .f32⟩
  | .hbm, ⟨14, _⟩ => ⟨S32768x3x2048, .f32⟩
  | .hbm, ⟨15, _⟩ => ⟨S32768x3x2048, .f32⟩
  | .hbm, ⟨16, _⟩ => ⟨S_, .f32⟩
  | .hbm, ⟨17, _⟩ => ⟨S32768x3x2048, .f32⟩
  | .hbm, ⟨18, _⟩ => ⟨S32768x3x2048, .f32⟩
  | .hbm, ⟨19, _⟩ => ⟨S_, .f32⟩
  | .hbm, ⟨20, _⟩ => ⟨S32768x3x2048, .f32⟩
  | .hbm, ⟨21, _⟩ => ⟨S32768x3x2048, .f32⟩
  | .hbm, ⟨22, _⟩ => ⟨S3x2048x32768, .f32⟩
  | .hbm, ⟨23, _⟩ => ⟨S32768x3x2048, .f32⟩
  | .hbm, ⟨24, _⟩ => ⟨S32768x3x2048, .f32⟩
  | .hbm, ⟨25, _⟩ => ⟨S_, .f32⟩
  | .hbm, ⟨26, _⟩ => ⟨S32768x2048, .f32⟩
  | .hbm, ⟨27, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== OutLn.lean ====
abbrev S32768x2048 : Shape := ⟨2, ![32768, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S2048x2048, .bf16⟩
  | .hbm, ⟨6, _⟩ => ⟨S1x2048, .f32⟩
  | .hbm, ⟨7, _⟩ => ⟨S1x2048, .f32⟩
  | .hbm, ⟨8, _⟩ => ⟨S32768x2048, .f32⟩
  | .hbm, ⟨9, _⟩ => ⟨S32768x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== OutLnIdeal.lean ====
variable {F : FTy → Type} [FloatOps F] [Named F]
def κ : String → Option EReal := fun
  | "alpha" => some ((Real.sqrt (Real.sqrt 8) : ℝ) : EReal)
  | _ => none
-- ==== OutLnRefIdeal.lean ====
abbrev S32768x2048 : Shape := ⟨2, ![32768, 2048]⟩
abbrev S2048x2048 : Shape := ⟨2, ![2048, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32768x2048, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== MlaPrep.lean ====
abbrev S32768x1536 : Shape := ⟨2, ![32768, 1536]⟩
abbrev S768 : Shape := ⟨1, ![768]⟩
abbrev S768x1536 : Shape := ⟨2, ![768, 1536]⟩
abbrev S512 : Shape := ⟨1, ![512]⟩
abbrev S512x2048 : Shape := ⟨2, ![512, 2048]⟩
abbrev S768x8x192 : Shape := ⟨3, ![768, 8, 192]⟩
abbrev S768x8x32 : Shape := ⟨3, ![768, 8, 32]⟩
abbrev S_ : Shape := ⟨0, ![]⟩
abbrev S768x8x64 : Shape := ⟨3, ![768, 8, 64]⟩
abbrev S768x8x128 : Shape := ⟨3, ![768, 8, 128]⟩
abbrev S768x1024 : Shape := ⟨2, ![768, 1024]⟩
abbrev S768x3072 : Shape := ⟨2, ![768, 3072]⟩
abbrev S512x8x256 : Shape := ⟨3, ![512, 8, 256]⟩
abbrev S512x8x128 : Shape := ⟨3, ![512, 8, 128]⟩
abbrev S512x1024 : Shape := ⟨2, ![512, 1024]⟩
abbrev S4096 : Shape := ⟨1, ![4096]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x64 : Shape := ⟨2, ![4096, 64]⟩
abbrev S4096x128 : Shape := ⟨2, ![4096, 128]⟩
abbrev S1x768 : Shape := ⟨2, ![1, 768]⟩
abbrev S1x512 : Shape := ⟨2, ![1, 512]⟩
abbrev S32768x2048 : Shape := ⟨2, ![32768, 2048]⟩
abbrev S512x1536 : Shape := ⟨2, ![512, 1536]⟩
abbrev S512x128 : Shape := ⟨2, ![512, 128]⟩
abbrev S512x768 : Shape := ⟨2, ![512, 768]⟩
abbrev S512x1 : Shape := ⟨2, ![512, 1]⟩
abbrev S512x3072 : Shape := ⟨2, ![512, 3072]⟩
abbrev S512x512 : Shape := ⟨2, ![512, 512]⟩

abbrev nBuf : Space → Nat
  | .hbm => 57
  | .vmem => 16
  | .smem => 0
  | _ => 0

abbrev bufTy : (tb : Table) → Fin (tcTables nBuf tb) → BufTy
  | .hbm, ⟨0, _⟩ => ⟨S32768x1536, .f32⟩
  | .hbm, ⟨1, _⟩ => ⟨S768, .f32⟩
  | .hbm, ⟨2, _⟩ => ⟨S768x1536, .f32⟩
  | .hbm, ⟨3, _⟩ => ⟨S512, .f32⟩
  | .hbm, ⟨4, _⟩ => ⟨S512x2048, .f32⟩
  | .hbm, ⟨5, _⟩ => ⟨S768x8x192, .f32⟩
  | .hbm, ⟨6, _⟩ => ⟨S768x8x32, .f32⟩
  | .hbm, ⟨7, _⟩ => ⟨S768x8x32, .f32⟩
  | .hbm, ⟨8, _⟩ => ⟨S_, .f32⟩
  | .hbm, ⟨9, _⟩ => ⟨S768x8x64, .f32⟩
  | .hbm, ⟨10, _⟩ => ⟨S768x8x128, .f32⟩
  | .hbm, ⟨11, _⟩ => ⟨S768x1024, .f32⟩
  | .hbm, ⟨12, _⟩ => ⟨S768x8x128, .f32⟩
  | .hbm, ⟨13, _⟩ => ⟨S768x1024, .f32⟩
  | .hbm, ⟨14, _⟩ => ⟨S768x8x32, .f32⟩
  | .hbm, ⟨15, _⟩ => ⟨S768x8x128, .f32⟩
  | .hbm, ⟨16, _⟩ => ⟨S768x1024, .f32⟩
  | .hbm, ⟨17, _⟩ => ⟨S768x3072, .f32⟩
  | .hbm, ⟨18, _⟩ => ⟨S512x8x256, .f32⟩
  | .hbm, ⟨19, _⟩ => ⟨S512x8x128, .f32⟩
  | .hbm, ⟨20, _⟩ => ⟨S512x1024, .f32⟩
  | .hbm, ⟨21, _⟩ => ⟨S512x8x128, .f32⟩
  | .hbm, ⟨22, _⟩ => ⟨S512x1024, .f32⟩
  | .hbm, ⟨23, _⟩ => ⟨S512x2048, .f32⟩
  | .hbm, ⟨24, _⟩ => ⟨S4096, .f32⟩
  | .hbm, ⟨25, _⟩ => ⟨S32, .f32⟩
  | .hbm, ⟨26, _⟩ => ⟨S_, .f32⟩
  | .hbm, ⟨27, _⟩ => ⟨S32, .f32⟩
  | .hbm, ⟨28, _⟩ => ⟨S32, .f32⟩
  | .hbm, ⟨29, _⟩ => ⟨S_, .f32⟩
  | .hbm, ⟨30, _⟩ => ⟨S32, .f32⟩
  | .hbm, ⟨31, _⟩ => ⟨S32, .f32⟩
  | .hbm, ⟨32, _⟩ => ⟨S32, .f32⟩
  | .hbm, ⟨33, _⟩ => ⟨S_, .f32⟩
  | .hbm, ⟨34, _⟩ => ⟨S32, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S4096x1, .f32⟩
  | .hbm, ⟨40, _⟩ => ⟨S1x32, .f32⟩
  | .hbm, ⟨41, _⟩ => ⟨S4096x32, .f32⟩
  | .hbm, ⟨42, _⟩ => ⟨S4096x32, .f32⟩
  | .hbm, ⟨43, _⟩ => ⟨S4096x32, .f32⟩
  | .hbm, ⟨44, _⟩ => ⟨S4096x32, .f32⟩
  | .hbm, ⟨45, _⟩ => ⟨S4096x32, .f32⟩
  | .hbm, ⟨46, _⟩ => ⟨S_, .f32⟩
  | .hbm, ⟨47, _⟩ => ⟨S4096x64, .f32⟩
  | .hbm, ⟨48, _⟩ => ⟨S4096x128, .f32⟩
  | .hbm, ⟨49, _⟩ => ⟨S4096x128, .f32⟩
  | .hbm, ⟨50, _⟩ => ⟨S1x768, .f32⟩
  | .hbm, ⟨51, _⟩ => ⟨S1x512, .f32⟩
  | .hbm, ⟨52, _⟩ => ⟨S768x3072, .bf16⟩
  | .hbm, ⟨53, _⟩ => ⟨S512x2048, .bf16⟩
  | .hbm, ⟨54, _⟩ => ⟨S32768x2048, .bf16⟩
  | .hbm, ⟨55, _⟩ => ⟨S32768x2048, .bf16⟩
  | .hbm, ⟨56, _⟩ => ⟨S32768x2048, .bf16⟩
  | .local _ .vmem, ⟨0, _⟩ => ⟨S512x1536, .f32⟩
  | .local _ .vmem, ⟨1, _⟩ => ⟨S512x1536, .f32⟩
  | .local _ .vmem, ⟨2, _⟩ => ⟨S1x768, .f32⟩
  | .local _ .vmem, ⟨3, _⟩ => ⟨S1x512, .f32⟩
  | .local _ .vmem, ⟨4, _⟩ => ⟨S768x3072, .bf16⟩
  | .local _ .vmem, ⟨5, _⟩ => ⟨S512x2048, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S512x2048, .bf16⟩
  | .local _ .vmem, ⟨15, _⟩ => ⟨S512x2048, .bf16⟩
  | _, _ => ⟨S32768x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_cst_3 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43_0 : Ref sig .tc := ⟨.hbm, 54, rfl⟩
abbrev main_v43_1 : Ref sig .tc := ⟨.hbm, 55, rfl⟩
abbrev main_v43_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MlaPrepIdeal.lean ====
variable {F : FTy → Type} [FloatOps F] [Named F]
def κ : String → Option EReal := fun
  | "scale" => some (((Real.sqrt 192)⁻¹ * (Real.log 2)⁻¹ : ℝ) : EReal)
  | _ => none
-- ==== MlaPrepRefIdeal.lean ====
abbrev S32768x1536 : Shape := ⟨2, ![32768, 1536]⟩
abbrev S768 : Shape := ⟨1, ![768]⟩
abbrev S768x1536 : Shape := ⟨2, ![768, 1536]⟩
abbrev S512 : Shape := ⟨1, ![512]⟩
abbrev S512x2048 : Shape := ⟨2, ![512, 2048]⟩
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S32768x1344 : Shape := ⟨2, ![32768, 1344]⟩
abbrev S8x4096x1344 : Shape := ⟨3, ![8, 4096, 1344]⟩
abbrev S8x4096x768 : Shape := ⟨3, ![8, 4096, 768]⟩
abbrev S8x4096x512 : Shape := ⟨3, ![8, 4096, 512]⟩
abbrev S8x4096x64 : Shape := ⟨3, ![8, 4096, 64]⟩
abbrev S8x4096 : Shape := ⟨2, ![8, 4096]⟩
abbrev S8x4096x1 : Shape := ⟨3, ![8, 4096, 1]⟩
abbrev S1x1x768 : Shape := ⟨3, ![1, 1, 768]⟩
abbrev S8x4096x1536 : Shape := ⟨3, ![8, 4096, 1536]⟩
abbrev S8x4096x8x192 : Shape := ⟨4, ![8, 4096, 8, 192]⟩
abbrev S8x4096x8x128 : Shape := ⟨4, ![8, 4096, 8, 128]⟩
abbrev S8x4096x8x64 : Shape := ⟨4, ![8, 4096, 8, 64]⟩
abbrev S1x1x512 : Shape := ⟨3, ![1, 1, 512]⟩
abbrev S8x4096x2048 : Shape := ⟨3, ![8, 4096, 2048]⟩
abbrev S8x4096x8x256 : Shape := ⟨4, ![8, 4096, 8, 256]⟩
abbrev S1x4096x1x32 : Shape := ⟨4, ![1, 4096, 1, 32]⟩
abbrev S8x4096x8x32 : Shape := ⟨4, ![8, 4096, 8, 32]⟩
abbrev S1x4096x32 : Shape := ⟨3, ![1, 4096, 32]⟩
abbrev S8x4096x32 : Shape := ⟨3, ![8, 4096, 32]⟩
abbrev S8x4096x1x64 : Shape := ⟨4, ![8, 4096, 1, 64]⟩
abbrev S32768x2048 : Shape := ⟨2, ![32768, 2048]⟩
abbrev S8x4096x8x1 : Shape := ⟨4, ![8, 4096, 8, 1]⟩
abbrev S8x4096x8x127 : Shape := ⟨4, ![8, 4096, 8, 127]⟩

abbrev nBuf : Space → Nat
  | .hbm => 132
  | .vmem => 0
  | .smem => 0
  | _ => 0

abbrev hbmTy0_0 (i : Nat) : BufTy := match i % 128 with
  | 0 => ⟨S32768x1536, .f32⟩
  | 1 => ⟨S768, .f32⟩
  | 2 => ⟨S768x1536, .f32⟩
  | 3 => ⟨S512, .f32⟩
  | 4 => ⟨S512x2048, .f32⟩
  | 5 => ⟨S4096, .f32⟩
  | 6 => ⟨S32, .f32⟩
  | 7 => ⟨S_, .f32⟩
  | 8 => ⟨S32, .f32⟩
  | 9 => ⟨S32, .f32⟩
  | 10 => ⟨S_, .f32⟩
  | 11 => ⟨S32, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S4096x1, .f32⟩
  | 21 => ⟨S1x32, .f32⟩
  | 22 => ⟨S4096x32, .f32⟩
  | 23 => ⟨S4096x32, .f32⟩
  | 24 => ⟨S4096x32, .f32⟩
  | 25 => ⟨S4096x32, .f32⟩
  | 26 => ⟨S4096x32, .f32⟩
  | 27 => ⟨S32768x1344, .f32⟩
  | 28 => ⟨S8x4096x1344, .f32⟩
  | 29 => ⟨S8x4096x768, .f32⟩
  | 30 => ⟨S8x4096x512, .f32⟩
  | 31 => ⟨S8x4096x64, .f32⟩
  | 32 => ⟨S8x4096x768, .f32⟩
  | 33 => ⟨S_, .f32⟩
  | 34 => ⟨S8x4096, .f32⟩
  | 35 => ⟨S8x4096x1, .f32⟩
  | 36 => ⟨S_, .f32⟩
  | 37 => ⟨S8x4096x1, .f32⟩
  | 38 => ⟨S8x4096x1, .f32⟩
  | 39 => ⟨S_, .f32⟩
  | 40 => ⟨S8x4096x1, .f32⟩
  | 41 => ⟨S8x4096x1, .f32⟩
  | 42 => ⟨S8x4096x1, .f32⟩
  | 43 => ⟨S8x4096x768, .f32⟩
  | 44 => ⟨S8x4096x768, .f32⟩
  | 45 => ⟨S1x1x768, .f32⟩
  | 46 => ⟨S8x4096x768, .f32⟩
  | 47 => ⟨S8x4096x768, .f32⟩
  | 48 => ⟨S8x4096x1536, .f32⟩
  | 49 => ⟨S8x4096x8x192, .f32⟩
  | 50 => ⟨S8x4096x8x128, .f32⟩
  | 51 => ⟨S8x4096x8x64, .f32⟩
  | 52 => ⟨S8x4096x512, .f32⟩
  | 53 => ⟨S_, .f32⟩
  | 54 => ⟨S8x4096, .f32⟩
  | 55 => ⟨S8x4096x1, .f32⟩
  | 56 => ⟨S_, .f32⟩
  | 57 => ⟨S8x4096x1, .f32⟩
  | 58 => ⟨S8x4096x1, .f32⟩
  | 59 => ⟨S_, .f32⟩
  | 60 => ⟨S8x4096x1, .f32⟩
  | 61 => ⟨S8x4096x1, .f32⟩
  | 62 => ⟨S8x4096x1, .f32⟩
  | 63 => ⟨S8x4096x512, .f32⟩
  | 64 => ⟨S8x4096x512, .f32⟩
  | 65 => ⟨S1x1x512, .f32⟩
  | 66 => ⟨S8x4096x512, .f32⟩
  | 67 => ⟨S8x4096x512, .f32⟩
  | 68 => ⟨S8x4096x2048, .f32⟩
  | 69 => ⟨S8x4096x8x256, .f32⟩
  | 70 => ⟨S8x4096x8x128, .f32⟩
  | 71 => ⟨S8x4096x8x128, .f32⟩
  | 72 => ⟨S1x4096x1x32, .f32⟩
  | 73 => ⟨S1x4096x1x32, .f32⟩
  | 74 => ⟨S8x4096x8x32, .f32⟩
  | 75 => ⟨S8x4096x8x32, .f32⟩
  | 76 => ⟨S8x4096x8x32, .f32⟩
  | 77 => ⟨S8x4096x8x32, .f32⟩
  | 78 => ⟨S8x4096x8x32, .f32⟩
  | 79 => ⟨S8x4096x8x32, .f32⟩
  | 80 => ⟨S8x4096x8x32, .f32⟩
  | 81 => ⟨S8x4096x8x32, .f32⟩
  | 82 => ⟨S8x4096x8x32, .f32⟩
  | 83 => ⟨S8x4096x8x32, .f32⟩
  | 84 => ⟨S8x4096x8x32, .f32⟩
  | 85 => ⟨S8x4096x8x32, .f32⟩
  | 86 => ⟨S8x4096x8x64, .f32⟩
  | 87 => ⟨S1x4096x32, .f32⟩
  | 88 => ⟨S1x4096x32, .f32⟩
  | 89 => ⟨S8x4096x32, .f32⟩
  | 90 => ⟨S8x4096x32, .f32⟩
  | 91 => ⟨S8x4096x32, .f32⟩
  | 92 => ⟨S8x4096x32, .f32⟩
  | 93 => ⟨S8x4096x32, .f32⟩
  | 94 => ⟨S8x4096x32, .f32⟩
  | 95 => ⟨S8x4096x32, .f32⟩
  | 96 => ⟨S8x4096x32, .f32⟩
  | 97 => ⟨S8x4096x32, .f32⟩
  | 98 => ⟨S8x4096x32, .f32⟩
  | 99 => ⟨S8x4096x32, .f32⟩
  | 100 => ⟨S8x4096x32, .f32⟩
  | 101 => ⟨S8x4096x64, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S8x4096x1x64, .f32⟩
  | 110 => ⟨S8x4096x8x64, .f32⟩
  | 111 => ⟨S8x4096x8x128, .f32⟩
  | 112 => ⟨S8x4096x8x128, .f32⟩
  | 113 => ⟨S8x4096x8x64, .f32⟩
  | 114 => ⟨S8x4096x8x64, .f32⟩
  | 115 => ⟨S_, .f32⟩
  | 116 => ⟨S8x4096x8x64, .f32⟩
  | 117 => ⟨S8x4096x8x256, .f32⟩
  | 118 => ⟨S32768x2048, .f32⟩
  | 119 => ⟨S32768x2048, .bf16⟩
  | 120 => ⟨S_, .f32⟩
  | 121 => ⟨S8x4096x8x64, .f32⟩
  | 122 => ⟨S8x4096x8x256, .f32⟩
  | 123 => ⟨S32768x2048, .f32⟩
  | 124 => ⟨S32768x2048, .bf16⟩
  | 125 => ⟨S_, .f32⟩
  | 126 => ⟨S8x4096x8x1, .f32⟩
  | 127 => ⟨S_, .f32⟩
  | _ => ⟨S32768x1536, .f32⟩

abbrev hbmTy0_1 (i : Nat) : BufTy := match i % 128 with
  | 0 => ⟨S8x4096x8x127, .f32⟩
  | 1 => ⟨S8x4096x8x256, .f32⟩
  | 2 => ⟨S32768x2048, .f32⟩
  | 3 => ⟨S32768x2048, .bf16⟩
  | _ => ⟨S32768x1536, .f32⟩

abbrev hbmTy (i : Nat) : BufTy := match i / 128 with
  | 0 => hbmTy0_0 i
  | 1 => hbmTy0_1 i
  | _ => ⟨S32768x1536, .f32⟩

abbrev bufTy : (tb : Table) → Fin (tcTables nBuf tb) → BufTy
  | .hbm, ⟨i, _⟩ => hbmTy i
  | _, _ => ⟨S32768x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_cst_9 : Ref sig .tc := ⟨.hbm, 102, rfl⟩
abbrev main_v87 : Ref sig .tc := ⟨.hbm, 103, rfl⟩
abbrev main_cst_10 : Ref sig .tc := ⟨.hbm, 104, rfl⟩
abbrev main_v88 : Ref sig .tc := ⟨.hbm, 105, rfl⟩
abbrev main_cst_11 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_cst_12 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_13 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_cst_14 : Ref sig .tc := ⟨.hbm, 125, rfl⟩
abbrev main_v105 : Ref sig .tc := ⟨.hbm, 126, rfl⟩
abbrev main_cst_15 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩

abbrev nD : Nat := 1
abbrev τ : Topo := Topo.v7x

variable {F : FTy → Type} [FloatOps F]
-- ==== Post.lean ====
abbrev S32768x1024 : Shape := ⟨2, ![32768, 1024]⟩
abbrev S1024 : Shape := ⟨1, ![1024]⟩
abbrev S256 : Shape := ⟨1, ![256]⟩
abbrev S_ : Shape := ⟨0, ![]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S512x1024 : Shape := ⟨2, ![512, 1024]⟩
abbrev S512x256 : Shape := ⟨2, ![512, 256]⟩

abbrev nBuf : Space → Nat
  | .hbm => 34
  | .vmem => 13
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024, .f32⟩
  | .hbm, ⟨6, _⟩ => ⟨S256, .i32⟩
  | .hbm, ⟨7, _⟩ => ⟨S_, .i32⟩
  | .hbm, ⟨8, _⟩ => ⟨S_, .i32⟩
  | .hbm, ⟨9, _⟩ => ⟨S256, .i32⟩
  | .hbm, ⟨10, _⟩ => ⟨S256, .i32⟩
  | .hbm, ⟨11, _⟩ => ⟨S256, .i32⟩
  | .hbm, ⟨12, _⟩ => ⟨S_, .i32⟩
  | .hbm, ⟨13, _⟩ => ⟨S256, .i32⟩
  | .hbm, ⟨14, _⟩ => ⟨S256, .i1⟩
  | .hbm, ⟨15, _⟩ => ⟨S256, .i32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S256, .i1⟩
  | .hbm, ⟨21, _⟩ => ⟨S_, .i32⟩
  | .hbm, ⟨22, _⟩ => ⟨S256, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S1x256, .i32⟩
  | .hbm, ⟨27, _⟩ => ⟨S256x256, .i32⟩
  | .hbm, ⟨28, _⟩ => ⟨S256x256, .i32⟩
  | .hbm, ⟨29, _⟩ => ⟨S256x256, .i1⟩
  | .hbm, ⟨30, _⟩ => ⟨S256x256, .bf16⟩
  | .hbm, ⟨31, _⟩ => ⟨S1x1024, .f32⟩
  | .hbm, ⟨32, _⟩ => ⟨S1x1024, .f32⟩
  | .hbm, ⟨33, _⟩ => ⟨S32768x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S256x256, .bf16⟩
  | .local _ .vmem, ⟨11, _⟩ => ⟨S512x1024, .bf16⟩
  | .local _ .vmem, ⟨12, _⟩ => ⟨S512x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== PostRefIdeal.lean ====
abbrev S32768x1024 : Shape := ⟨2, ![32768, 1024]⟩
abbrev S1024 : Shape := ⟨1, ![1024]⟩
abbrev S32768x16x64 : Shape := ⟨3, ![32768, 16, 64]⟩
abbrev S_ : Shape := ⟨0, ![]⟩
abbrev S32768x16 : Shape := ⟨2, ![32768, 16]⟩
abbrev S32768x16x1 : Shape := ⟨3, ![32768, 16, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .bf16⟩
  | .hbm, ⟨3, _⟩ => ⟨S32768x1024, .bf16⟩
  | .hbm, ⟨4, _⟩ => ⟨S1024, .f32⟩
  | .hbm, ⟨5, _⟩ => ⟨S1024, .f32⟩
  | .hbm, ⟨6, _⟩ => ⟨S32768x1024, .f32⟩
  | .hbm, ⟨7, _⟩ => ⟨S32768x16x64, .f32⟩
  | .hbm, ⟨8, _⟩ => ⟨S_, .f32⟩
  | .hbm, ⟨9, _⟩ => ⟨S32768x16, .f32⟩
  | .hbm, ⟨10, _⟩ => ⟨S32768x16x1, .f32⟩
  | .hbm, ⟨11, _⟩ => ⟨S_, .f32⟩
  | .hbm, ⟨12, _⟩ => ⟨S32768x16x1, .f32⟩
  | .hbm, ⟨13, _⟩ => ⟨S32768x16x1, .f32⟩
  | .hbm, ⟨14, _⟩ => ⟨S32768x16x64, .f32⟩
  | .hbm, ⟨15, _⟩ => ⟨S32768x16x64, .f32⟩
  | .hbm, ⟨16, _⟩ => ⟨S32768x16x64, .f32⟩
  | .hbm, ⟨17, _⟩ => ⟨S_, .f32⟩
  | .hbm, ⟨18, _⟩ => ⟨S32768x16, .f32⟩
  | .hbm, ⟨19, _⟩ => ⟨S32768x16x1, .f32⟩
  | .hbm, ⟨20, _⟩ => ⟨S_, .f32⟩
  | .hbm, ⟨21, _⟩ => ⟨S32768x16x1, .f32⟩
  | .hbm, ⟨22, _⟩ => ⟨S32768x16x1, .f32⟩
  | .hbm, ⟨23, _⟩ => ⟨S32768x16x64, .f32⟩
  | .hbm, ⟨24, _⟩ => ⟨S32768x16x64, .f32⟩
  | .hbm, ⟨25, _⟩ => ⟨S_, .f32⟩
  | .hbm, ⟨26, _⟩ => ⟨S32768x16x1, .f32⟩
  | .hbm, ⟨27, _⟩ => ⟨S32768x16x1, .f32⟩
  | .hbm, ⟨28, _⟩ => ⟨S32768x16x1, .f32⟩
  | .hbm, ⟨29, _⟩ => ⟨S32768x16x64, .f32⟩
  | .hbm, ⟨30, _⟩ => ⟨S32768x16x64, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S32768x1024, .f32⟩
  | .hbm, ⟨39, _⟩ => ⟨S32768x1024, .f32⟩
  | .hbm, ⟨40, _⟩ => ⟨S32768x1024, .f32⟩
  | .hbm, ⟨41, _⟩ => ⟨S32768x1024, .f32⟩
  | .hbm, ⟨42, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩

abbrev nD : Nat := 1
abbrev τ : Topo := Topo.v7x

variable {F : FTy → Type} [FloatOps F]
-- ==== Conv.lean ====
abbrev S32768x3072 : Shape := ⟨2, ![32768, 3072]⟩
abbrev S3x1024 : Shape := ⟨2, ![3, 1024]⟩
abbrev S32768x1024 : Shape := ⟨2, ![32768, 1024]⟩
abbrev S512x3072 : Shape := ⟨2, ![512, 3072]⟩
abbrev S16x3072 : Shape := ⟨2, ![16, 3072]⟩
abbrev S512x1024 : Shape := ⟨2, ![512, 1024]⟩
abbrev S1x3072 : Shape := ⟨2, ![1, 3072]⟩
abbrev S1x1024 : Shape := ⟨2, ![1, 1024]⟩
abbrev S512x1 : Shape := ⟨2, ![512, 1]⟩

abbrev nBuf : Space → Nat
  | .hbm => 3
  | .vmem => 9
  | .smem => 0
  | _ => 0

abbrev bufTy : (tb : Table) → Fin (tcTables nBuf tb) → BufTy
  | .hbm, ⟨0, _⟩ => ⟨S32768x3072, .bf16⟩
  | .hbm, ⟨1, _⟩ => ⟨S3x1024, .f32⟩
  | .hbm, ⟨2, _⟩ => ⟨S32768x1024, .bf16⟩
  | .local _ .vmem, ⟨0, _⟩ => ⟨S512x3072, .bf16⟩
  | .local _ .vmem, ⟨1, _⟩ => ⟨S512x3072, .bf16⟩
  | .local _ .vmem, ⟨2, _⟩ => ⟨S16x3072, .bf16⟩
  | .local _ .vmem, ⟨3, _⟩ => ⟨S16x3072, .bf16⟩
  | .local _ .vmem, ⟨4, _⟩ => ⟨S16x3072, .bf16⟩
  | .local _ .vmem, ⟨5, _⟩ => ⟨S16x3072, .bf16⟩
  | .local _ .vmem, ⟨6, _⟩ => ⟨S3x1024, .f32⟩
  | .local _ .vmem, ⟨7, _⟩ => ⟨S512x1024, .bf16⟩
  | .local _ .vmem, ⟨8, _⟩ => ⟨S512x1024, .bf16⟩
  | _, _ => ⟨S32768x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c32_i32 : BitVec 32 := 32#32
  let v2 : BitVec 32 := Scalar.muli v1 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let v2 : BitVec 32 := Scalar.addi v1 c1_i32
  let c32_i32 : BitVec 32 := 32#32
  let v3 : BitVec 32 := Scalar.muli v2 c32_i32
  let c2047_i32 : BitVec 32 := 2047#32
  let v4 : BitVec 32 := Scalar.minsi v3 c2047_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ConvRefIdeal.lean ====
abbrev S32768x3072 : Shape := ⟨2, ![32768, 3072]⟩
abbrev S3x1024 : Shape := ⟨2, ![3, 1024]⟩
abbrev S8x4096x3072 : Shape := ⟨3, ![8, 4096, 3072]⟩
abbrev S8x4096x1024 : Shape := ⟨3, ![8, 4096, 1024]⟩
abbrev S_ : Shape := ⟨0, ![]⟩
abbrev S8x4098x1024 : Shape := ⟨3, ![8, 4098, 1024]⟩
abbrev S1x1024 : Shape := ⟨2, ![1, 1024]⟩
abbrev S1024 : Shape := ⟨1, ![1024]⟩
abbrev S1x1x1024 : Shape := ⟨3, ![1, 1, 1024]⟩
abbrev S32768x1024 : Shape := ⟨2, ![32768, 1024]⟩

abbrev nBuf : Space → Nat
  | .hbm => 34
  | .vmem => 0
  | .smem => 0
  | _ => 0

abbrev bufTy : (tb : Table) → Fin (tcTables nBuf tb) → BufTy
  | .hbm, ⟨0, _⟩ => ⟨S32768x3072, .bf16⟩
  | .hbm, ⟨1, _⟩ => ⟨S3x1024, .f32⟩
  | .hbm, ⟨2, _⟩ => ⟨S32768x3072, .f32⟩
  | .hbm, ⟨3, _⟩ => ⟨S8x4096x3072, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S_, .i32⟩
  | .hbm, ⟨9, _⟩ => ⟨S_, .f32⟩
  | .hbm, ⟨10, _⟩ => ⟨S8x4098x1024, .f32⟩
  | .hbm, ⟨11, _⟩ => ⟨S1x1024, .f32⟩
  | .hbm, ⟨12, _⟩ => ⟨S1024, .f32⟩
  | .hbm, ⟨13, _⟩ => ⟨S8x4096x1024, .f32⟩
  | .hbm, ⟨14, _⟩ => ⟨S1x1x1024, .f32⟩
  | .hbm, ⟨15, _⟩ => ⟨S8x4096x1024, .f32⟩
  | .hbm, ⟨16, _⟩ => ⟨S8x4096x1024, .f32⟩
  | .hbm, ⟨17, _⟩ => ⟨S1x1024, .f32⟩
  | .hbm, ⟨18, _⟩ => ⟨S1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S1x1024, .f32⟩
  | .hbm, ⟨25, _⟩ => ⟨S1024, .f32⟩
  | .hbm, ⟨26, _⟩ => ⟨S8x4096x1024, .f32⟩
  | .hbm, ⟨27, _⟩ => ⟨S1x1x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S32768x1024, .f32⟩
  | .hbm, ⟨33, _⟩ => ⟨S32768x1024, .bf16⟩
  | _, _ => ⟨S32768x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== LnIn.lean ====
abbrev S8x4096x2048 : Shape := ⟨3, ![8, 4096, 2048]⟩
abbrev S2048 : Shape := ⟨1, ![2048]⟩
abbrev S32768x2048 : Shape := ⟨2, ![32768, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 8
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048, .f32⟩
  | .hbm, ⟨3, _⟩ => ⟨S32768x2048, .f32⟩
  | .hbm, ⟨4, _⟩ => ⟨S1x2048, .f32⟩
  | .hbm, ⟨5, _⟩ => ⟨S1x2048, .f32⟩
  | .hbm, ⟨6, _⟩ => ⟨S32768x2048, .f32⟩
  | .hbm, ⟨7, _⟩ => ⟨S32768x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .bf16⟩
  | .local _ .vmem, ⟨7, _⟩ => ⟨S512x2048, .bf16⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== LnInRefIdeal.lean ====
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩
abbrev S32768x2048 : Shape := ⟨2, ![32768, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S2048, .f32⟩
  | .hbm, ⟨2, _⟩ => ⟨S2048, .f32⟩
  | .hbm, ⟨3, _⟩ => ⟨S_, .f32⟩
  | .hbm, ⟨4, _⟩ => ⟨S8x4096, .f32⟩
  | .hbm, ⟨5, _⟩ => ⟨S8x4096x1, .f32⟩
  | .hbm, ⟨6, _⟩ => ⟨S_, .f32⟩
  | .hbm, ⟨7, _⟩ => ⟨S8x4096x1, .f32⟩
  | .hbm, ⟨8, _⟩ => ⟨S8x4096x1, .f32⟩
  | .hbm, ⟨9, _⟩ => ⟨S8x4096x2048, .f32⟩
  | .hbm, ⟨10, _⟩ => ⟨S8x4096x2048, .f32⟩
  | .hbm, ⟨11, _⟩ => ⟨S8x4096x2048, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S8x4096x2048, .f32⟩
  | .hbm, ⟨19, _⟩ => ⟨S8x4096x2048, .f32⟩
  | .hbm, ⟨20, _⟩ => ⟨S_, .f32⟩
  | .hbm, ⟨21, _⟩ => ⟨S8x4096x1, .f32⟩
  | .hbm, ⟨22, _⟩ => ⟨S8x4096x1, .f32⟩
  | .hbm, ⟨23, _⟩ => ⟨S8x4096x1, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S1x1x2048, .f32⟩
  | .hbm, ⟨30, _⟩ => ⟨S8x4096x2048, .f32⟩
  | .hbm, ⟨31, _⟩ => ⟨S8x4096x2048, .f32⟩
  | .hbm, ⟨32, _⟩ => ⟨S32768x2048, .f32⟩
  | .hbm, ⟨33, _⟩ => ⟨S32768x2048, .bf16⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Prep.lean ====
abbrev S32768x3584 : Shape := ⟨2, ![32768, 3584]⟩
abbrev S2x3488 : Shape := ⟨2, ![2, 3488]⟩
abbrev S1x2048 : Shape := ⟨2, ![1, 2048]⟩
abbrev S128x2048 : Shape := ⟨2, ![128, 2048]⟩
abbrev S2x1024 : Shape := ⟨2, ![2, 1024]⟩
abbrev S2x64x1024 : Shape := ⟨3, ![2, 64, 1024]⟩
abbrev S160x1024 : Shape := ⟨2, ![160, 1024]⟩
abbrev S1024 : Shape := ⟨1, ![1024]⟩
abbrev S16x64 : Shape := ⟨2, ![16, 64]⟩
abbrev S_ : Shape := ⟨0, ![]⟩
abbrev S64x1024 : Shape := ⟨2, ![64, 1024]⟩
abbrev S1x64x1024 : Shape := ⟨3, ![1, 64, 1024]⟩
abbrev S64x2048 : Shape := ⟨2, ![64, 2048]⟩
abbrev S96x1024 : Shape := ⟨2, ![96, 1024]⟩
abbrev S256x1024 : Shape := ⟨2, ![256, 1024]⟩
abbrev S2x96 : Shape := ⟨2, ![2, 96]⟩
abbrev S2x3584 : Shape := ⟨2, ![2, 3584]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x1024 : Shape := ⟨2, ![1, 1024]⟩
abbrev S32768x1024 : Shape := ⟨2, ![32768, 1024]⟩
abbrev S128x3584 : Shape := ⟨2, ![128, 3584]⟩
abbrev S8x3584 : Shape := ⟨2, ![8, 3584]⟩
abbrev S128x1024 : Shape := ⟨2, ![128, 1024]⟩
abbrev S1x3584 : Shape := ⟨2, ![1, 3584]⟩
abbrev S128x1 : Shape := ⟨2, ![128, 1]⟩
abbrev S128x128 : Shape := ⟨2, ![128, 128]⟩
abbrev S128x256 : Shape := ⟨2, ![128, 256]⟩

abbrev nBuf : Space → Nat
  | .hbm => 52
  | .vmem => 38
  | .smem => 0
  | _ => 0

abbrev bufTy : (tb : Table) → Fin (tcTables nBuf tb) → BufTy
  | .hbm, ⟨0, _⟩ => ⟨S32768x3584, .f32⟩
  | .hbm, ⟨1, _⟩ => ⟨S2x3488, .f32⟩
  | .hbm, ⟨2, _⟩ => ⟨S1x2048, .f32⟩
  | .hbm, ⟨3, _⟩ => ⟨S128x2048, .bf16⟩
  | .hbm, ⟨4, _⟩ => ⟨S2x1024, .f32⟩
  | .hbm, ⟨5, _⟩ => ⟨S2x64x1024, .f32⟩
  | .hbm, ⟨6, _⟩ => ⟨S160x1024, .f32⟩
  | .hbm, ⟨7, _⟩ => ⟨S1024, .f32⟩
  | .hbm, ⟨8, _⟩ => ⟨S1024, .f32⟩
  | .hbm, ⟨9, _⟩ => ⟨S16x64, .f32⟩
  | .hbm, ⟨10, _⟩ => ⟨S_, .f32⟩
  | .hbm, ⟨11, _⟩ => ⟨S64x1024, .f32⟩
  | .hbm, ⟨12, _⟩ => ⟨S1x64x1024, .f32⟩
  | .hbm, ⟨13, _⟩ => ⟨S64x1024, .f32⟩
  | .hbm, ⟨14, _⟩ => ⟨S64x2048, .f32⟩
  | .hbm, ⟨15, _⟩ => ⟨S1x64x1024, .f32⟩
  | .hbm, ⟨16, _⟩ => ⟨S64x1024, .f32⟩
  | .hbm, ⟨17, _⟩ => ⟨S64x2048, .f32⟩
  | .hbm, ⟨18, _⟩ => ⟨S128x2048, .f32⟩
  | .hbm, ⟨19, _⟩ => ⟨S_, .f32⟩
  | .hbm, ⟨20, _⟩ => ⟨S96x1024, .f32⟩
  | .hbm, ⟨21, _⟩ => ⟨S256x1024, .f32⟩
  | .hbm, ⟨22, _⟩ => ⟨S_, .f32⟩
  | .hbm, ⟨23, _⟩ => ⟨S2x96, .f32⟩
  | .hbm, ⟨24, _⟩ => ⟨S2x3584, .f32⟩
  | .hbm, ⟨25, _⟩ => ⟨S256, .i32⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256x1, .i32⟩
  | .hbm, ⟨30, _⟩ => ⟨S1x256, .i32⟩
  | .hbm, ⟨31, _⟩ => ⟨S256x256, .i32⟩
  | .hbm, ⟨32, _⟩ => ⟨S256x256, .i32⟩
  | .hbm, ⟨33, _⟩ => ⟨S256x256, .i1⟩
  | .hbm, ⟨34, _⟩ => ⟨S256x256, .bf16⟩
  | .hbm, ⟨35, _⟩ => ⟨S1x2048, .f32⟩
  | .hbm, ⟨36, _⟩ => ⟨S128x2048, .bf16⟩
  | .hbm, ⟨37, _⟩ => ⟨S256x1024, .bf16⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S32768x1024, .bf16⟩
  | .hbm, ⟨42, _⟩ => ⟨S32768x1024, .bf16⟩
  | .hbm, ⟨43, _⟩ => ⟨S32768x1024, .bf16⟩
  | .hbm, ⟨44, _⟩ => ⟨S32768x1024, .f32⟩
  | .hbm, ⟨45, _⟩ => ⟨S32768x1024, .f32⟩
  | .hbm, ⟨46, _⟩ => ⟨S32768x1024, .bf16⟩
  | .hbm, ⟨47, _⟩ => ⟨S32768x1024, .bf16⟩
  | .hbm, ⟨48, _⟩ => ⟨S32768x1024, .bf16⟩
  | .hbm, ⟨49, _⟩ => ⟨S32768x1024, .bf16⟩
  | .hbm, ⟨50, _⟩ => ⟨S32768x1024, .bf16⟩
  | .hbm, ⟨51, _⟩ => ⟨S32768x1024, .bf16⟩
  | .local _ .vmem, ⟨0, _⟩ => ⟨S128x3584, .f32⟩
  | .local _ .vmem, ⟨1, _⟩ => ⟨S128x3584, .f32⟩
  | .local _ .vmem, ⟨2, _⟩ => ⟨S8x3584, .f32⟩
  | .local _ .vmem, ⟨3, _⟩ => ⟨S8x3584, .f32⟩
  | .local _ .vmem, ⟨4, _⟩ => ⟨S8x3584, .f32⟩
  | .local _ .vmem, ⟨5, _⟩ => ⟨S8x3584, .f32⟩
  | .local _ .vmem, ⟨6, _⟩ => ⟨S2x3584, .f32⟩
  | .local _ .vmem, ⟨7, _⟩ => ⟨S1x2048, .f32⟩
  | .local _ .vmem, ⟨8, _⟩ => ⟨S1x2048, .f32⟩
  | .local _ .vmem, ⟨9, _⟩ => ⟨S128x2048, .bf16⟩
  | .local _ .vmem, ⟨10, _⟩ => ⟨S128x2048, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x256, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .f32⟩
  | .local _ .vmem, ⟨23, _⟩ => ⟨S128x1024, .f32⟩
  | .local _ .vmem, ⟨24, _⟩ => ⟨S128x1024, .f32⟩
  | .local _ .vmem, ⟨25, _⟩ => ⟨S128x1024, .f32⟩
  | .local _ .vmem, ⟨26, _⟩ => ⟨S128x1024, .bf16⟩
  | .local _ .vmem, ⟨27, _⟩ => ⟨S128x1024, .bf16⟩
  | .local _ .vmem, ⟨28, _⟩ => ⟨S128x1024, .bf16⟩
  | .local _ .vmem, ⟨29, _⟩ => ⟨S128x1024, .bf16⟩
  | .local _ .vmem, ⟨30, _⟩ => ⟨S128x1024, .bf16⟩
  | .local _ .vmem, ⟨31, _⟩ => ⟨S128x1024, .bf16⟩
  | .local _ .vmem, ⟨32, _⟩ => ⟨S128x1024, .bf16⟩
  | .local _ .vmem, ⟨33, _⟩ => ⟨S128x1024, .bf16⟩
  | .local _ .vmem, ⟨34, _⟩ => ⟨S128x1024, .bf16⟩
  | .local _ .vmem, ⟨35, _⟩ => ⟨S128x1024, .bf16⟩
  | .local _ .vmem, ⟨36, _⟩ => ⟨S128x1024, .bf16⟩
  | .local _ .vmem, ⟨37, _⟩ => ⟨S128x1024, .bf16⟩
  | _, _ => ⟨S32768x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27_0 : Ref sig .tc := ⟨.hbm, 41, rfl⟩
abbrev main_v27_1 : Ref sig .tc := ⟨.hbm, 42, rfl⟩
abbrev main_v27_2 : Ref sig .tc := ⟨.hbm, 43, rfl⟩
abbrev main_v27_3 : Ref sig .tc := ⟨.hbm, 44, rfl⟩
abbrev main_v27_4 : Ref sig .tc := ⟨.hbm, 45, rfl⟩
abbrev main_v27_5 : Ref sig .tc := ⟨.hbm, 46, rfl⟩
abbrev main_v27_6 : Ref sig .tc := ⟨.hbm, 47, rfl⟩
abbrev main_v27_7 : Ref sig .tc := ⟨.hbm, 48, rfl⟩
abbrev main_v27_8 : Ref sig .tc := ⟨.hbm, 49, rfl⟩
abbrev main_v27_9 : Ref sig .tc := ⟨.hbm, 50, rfl⟩
abbrev main_v27_10 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_stg21_0 : Ref sig .tc := ⟨.vmem, 32, rfl⟩
abbrev cc0_stg21_1 : Ref sig .tc := ⟨.vmem, 33, rfl⟩
abbrev cc0_stg22_0 : Ref sig .tc := ⟨.vmem, 34, rfl⟩
abbrev cc0_stg22_1 : Ref sig .tc := ⟨.vmem, 35, rfl⟩
abbrev cc0_stg23_0 : Ref sig .tc := ⟨.vmem, 36, rfl⟩
abbrev cc0_stg23_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31
abbrev cc0_sem21_0 : DmaSem sig := 32
abbrev cc0_sem21_1 : DmaSem sig := 33
abbrev cc0_sem22_0 : DmaSem sig := 34
abbrev cc0_sem22_1 : DmaSem sig := 35
abbrev cc0_sem23_0 : DmaSem sig := 36
abbrev cc0_sem23_1 : DmaSem sig := 37

abbrev nD : Nat := 1
abbrev τ : Topo := Topo.v7x

variable {F : FTy → Type} [FloatOps F]

abbrev grid0 : Pipeline.Grid := ⟨2, ![8, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c16_i32 : BitVec 32 := 16#32
  let v2 : BitVec 32 := Scalar.muli v1 c16_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  ![v4.toNat, c0_i32_0.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let v2 : BitVec 32 := Scalar.addi v1 c1_i32
  let c16_i32 : BitVec 32 := 16#32
  let v3 : BitVec 32 := Scalar.muli v2 c16_i32
  let c4095_i32 : BitVec 32 := 4095#32
  let v4 : BitVec 32 := Scalar.minsi v3 c4095_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x3584 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S128x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S128x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S128x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== PrepIdeal.lean ====
variable {F : FTy → Type} [FloatOps F] [Named F]
def κ : String → Option EReal := fun
  | "tiny" => some (((2305843 / 2305843009213693952) * (2305843 / 2305843009213693952) : ℝ) : EReal)
  | _ => none
-- ==== PrepRefIdeal.lean ====
abbrev S32768x3584 : Shape := ⟨2, ![32768, 3584]⟩
abbrev S2x3488 : Shape := ⟨2, ![2, 3488]⟩
abbrev S1x2048 : Shape := ⟨2, ![1, 2048]⟩
abbrev S128x2048 : Shape := ⟨2, ![128, 2048]⟩
abbrev S2x1024 : Shape := ⟨2, ![2, 1024]⟩
abbrev S2x64x1024 : Shape := ⟨3, ![2, 64, 1024]⟩
abbrev S160x1024 : Shape := ⟨2, ![160, 1024]⟩
abbrev S1024 : Shape := ⟨1, ![1024]⟩
abbrev S16x64 : Shape := ⟨2, ![16, 64]⟩
abbrev S32768x3488 : Shape := ⟨2, ![32768, 3488]⟩
abbrev S8x4096x3488 : Shape := ⟨3, ![8, 4096, 3488]⟩
abbrev S_ : Shape := ⟨0, ![]⟩
abbrev S8x4097x3488 : Shape := ⟨3, ![8, 4097, 3488]⟩
abbrev S1x3488 : Shape := ⟨2, ![1, 3488]⟩
abbrev S3488 : Shape := ⟨1, ![3488]⟩
abbrev S1x1x3488 : Shape := ⟨3, ![1, 1, 3488]⟩
abbrev S8x4096x1024 : Shape := ⟨3, ![8, 4096, 1024]⟩
abbrev S8x4096x128 : Shape := ⟨3, ![8, 4096, 128]⟩
abbrev S8x4096x160 : Shape := ⟨3, ![8, 4096, 160]⟩
abbrev S8x4096x2x64 : Shape := ⟨4, ![8, 4096, 2, 64]⟩
abbrev S2x1024x8x4096 : Shape := ⟨4, ![2, 1024, 8, 4096]⟩
abbrev S8x4096x2x1024 : Shape := ⟨4, ![8, 4096, 2, 1024]⟩
abbrev S1x1x2x1024 : Shape := ⟨4, ![1, 1, 2, 1024]⟩
abbrev S1x1x1024 : Shape := ⟨3, ![1, 1, 1024]⟩
abbrev S8x4096x16x64 : Shape := ⟨4, ![8, 4096, 16, 64]⟩
abbrev S8x4096x16 : Shape := ⟨3, ![8, 4096, 16]⟩
abbrev S8x4096x16x1 : Shape := ⟨4, ![8, 4096, 16, 1]⟩
abbrev S8x4096x1x1024 : Shape := ⟨4, ![8, 4096, 1, 1024]⟩
abbrev S1x1x16x64 : Shape := ⟨4, ![1, 1, 16, 64]⟩
abbrev S32768x1024 : Shape := ⟨2, ![32768, 1024]⟩

abbrev nBuf : Space → Nat
  | .hbm => 147
  | .vmem => 0
  | .smem => 0
  | _ => 0

abbrev hbmTy0_0 (i : Nat) : BufTy := match i % 128 with
  | 0 => ⟨S32768x3584, .f32⟩
  | 1 => ⟨S2x3488, .f32⟩
  | 2 => ⟨S1x2048, .f32⟩
  | 3 => ⟨S128x2048, .bf16⟩
  | 4 => ⟨S2x1024, .f32⟩
  | 5 => ⟨S2x64x1024, .f32⟩
  | 6 => ⟨S160x1024, .f32⟩
  | 7 => ⟨S1024, .f32⟩
  | 8 => ⟨S1024, .f32⟩
  | 9 => ⟨S16x64, .f32⟩
  | 10 => ⟨S32768x3488, .f32⟩
  | 11 => ⟨S8x4096x3488, .f32⟩
  | 12 => ⟨S_, .i32⟩
  | 13 => ⟨S_, .f32⟩
  | 14 => ⟨S8x4097x3488, .f32⟩
  | 15 => ⟨S8x4096x3488, .f32⟩
  | 16 => ⟨S_, .i32⟩
  | 17 => ⟨S_, .f32⟩
  | 18 => ⟨S8x4097x3488, .f32⟩
  | 19 => ⟨S8x4096x3488, .f32⟩
  | 20 => ⟨S1x3488, .f32⟩
  | 21 => ⟨S3488, .f32⟩
  | 22 => ⟨S8x4096x3488, .f32⟩
  | 23 => ⟨S1x1x3488, .f32⟩
  | 24 => ⟨S8x4096x3488, .f32⟩
  | 25 => ⟨S8x4096x3488, .f32⟩
  | 26 => ⟨S8x4096x3488, .f32⟩
  | 27 => ⟨S1x3488, .f32⟩
  | 28 => ⟨S3488, .f32⟩
  | 29 => ⟨S8x4096x3488, .f32⟩
  | 30 => ⟨S1x1x3488, .f32⟩
  | 31 => ⟨S8x4096x3488, .f32⟩
  | 32 => ⟨S8x4096x3488, .f32⟩
  | 33 => ⟨S8x4096x3488, .f32⟩
  | 34 => ⟨S8x4096x1024, .f32⟩
  | 35 => ⟨S8x4096x1024, .f32⟩
  | 36 => ⟨S8x4096x1024, .f32⟩
  | 37 => ⟨S8x4096x128, .f32⟩
  | 38 => ⟨S8x4096x128, .f32⟩
  | 39 => ⟨S8x4096x160, .f32⟩
  | 40 => ⟨S8x4096x160, .f32⟩
  | 41 => ⟨S8x4096x160, .f32⟩
  | 42 => ⟨S_, .f32⟩
  | 43 => ⟨S8x4096x160, .f32⟩
  | 44 => ⟨S8x4096x160, .f32⟩
  | 45 => ⟨S_, .f32⟩
  | 46 => ⟨S8x4096x160, .f32⟩
  | 47 => ⟨S8x4096x160, .f32⟩
  | 48 => ⟨S8x4096x1024, .f32⟩
  | 49 => ⟨S8x4096x2x64, .f32⟩
  | 50 => ⟨S2x1024x8x4096, .f32⟩
  | 51 => ⟨S8x4096x2x1024, .f32⟩
  | 52 => ⟨S1x1x2x1024, .f32⟩
  | 53 => ⟨S8x4096x2x1024, .f32⟩
  | 54 => ⟨S8x4096x2x1024, .f32⟩
  | 55 => ⟨S8x4096x2x1024, .f32⟩
  | 56 => ⟨S8x4096x2x1024, .f32⟩
  | 57 => ⟨S_, .f32⟩
  | 58 => ⟨S8x4096x2x1024, .f32⟩
  | 59 => ⟨S8x4096x2x1024, .f32⟩
  | 60 => ⟨S_, .f32⟩
  | 61 => ⟨S8x4096x2x1024, .f32⟩
  | 62 => ⟨S8x4096x2x1024, .f32⟩
  | 63 => ⟨S1x1x1024, .f32⟩
  | 64 => ⟨S8x4096x1024, .f32⟩
  | 65 => ⟨S8x4096x1024, .f32⟩
  | 66 => ⟨S8x4096x16x64, .f32⟩
  | 67 => ⟨S8x4096x16x64, .f32⟩
  | 68 => ⟨S_, .f32⟩
  | 69 => ⟨S8x4096x16, .f32⟩
  | 70 => ⟨S8x4096x16x1, .f32⟩
  | 71 => ⟨S8x4096x16x1, .f32⟩
  | 72 => ⟨S_, .f32⟩
  | 73 => ⟨S8x4096x16x1, .f32⟩
  | 74 => ⟨S8x4096x16x1, .f32⟩
  | 75 => ⟨S8x4096x16x64, .f32⟩
  | 76 => ⟨S8x4096x16x64, .f32⟩
  | 77 => ⟨S8x4096x16x64, .f32⟩
  | 78 => ⟨S8x4096x16x64, .f32⟩
  | 79 => ⟨S8x4096x1x1024, .f32⟩
  | 80 => ⟨S8x4096x1024, .f32⟩
  | 81 => ⟨S_, .f32⟩
  | 82 => ⟨S8x4096x1024, .f32⟩
  | 83 => ⟨S8x4096x1024, .f32⟩
  | 84 => ⟨S1x1x1024, .f32⟩
  | 85 => ⟨S8x4096x1024, .f32⟩
  | 86 => ⟨S8x4096x1024, .f32⟩
  | 87 => ⟨S_, .f32⟩
  | 88 => ⟨S8x4096x1024, .f32⟩
  | 89 => ⟨S8x4096x1024, .f32⟩
  | 90 => ⟨S8x4096x1024, .f32⟩
  | 91 => ⟨S8x4096x16x64, .f32⟩
  | 92 => ⟨S8x4096x16x64, .f32⟩
  | 93 => ⟨S8x4096x16x64, .f32⟩
  | 94 => ⟨S8x4096x16x64, .f32⟩
  | 95 => ⟨S1x1x16x64, .f32⟩
  | 96 => ⟨S8x4096x16x64, .f32⟩
  | 97 => ⟨S8x4096x16x64, .f32⟩
  | 98 => ⟨S_, .f32⟩
  | 99 => ⟨S8x4096x16, .f32⟩
  | 100 => ⟨S8x4096x16x1, .f32⟩
  | 101 => ⟨S8x4096x16x64, .f32⟩
  | 102 => ⟨S8x4096x16x64, .f32⟩
  | 103 => ⟨S8x4096x1x1024, .f32⟩
  | 104 => ⟨S8x4096x1024, .f32⟩
  | 105 => ⟨S_, .f32⟩
  | 106 => ⟨S8x4096x1024, .f32⟩
  | 107 => ⟨S8x4096x1024, .f32⟩
  | 108 => ⟨S1x1x1024, .f32⟩
  | 109 => ⟨S8x4096x1024, .f32⟩
  | 110 => ⟨S8x4096x1024, .f32⟩
  | 111 => ⟨S_, .f32⟩
  | 112 => ⟨S8x4096x1024, .f32⟩
  | 113 => ⟨S8x4096x1024, .f32⟩
  | 114 => ⟨S8x4096x1024, .f32⟩
  | 115 => ⟨S8x4096x16x64, .f32⟩
  | 116 => ⟨S8x4096x16x64, .f32⟩
  | 117 => ⟨S8x4096x16x64, .f32⟩
  | 118 => ⟨S8x4096x16x64, .f32⟩
  | 119 => ⟨S1x1x16x64, .f32⟩
  | 120 => ⟨S8x4096x16x64, .f32⟩
  | 121 => ⟨S8x4096x16x64, .f32⟩
  | 122 => ⟨S_, .f32⟩
  | 123 => ⟨S8x4096x16, .f32⟩
  | 124 => ⟨S8x4096x16x1, .f32⟩
  | 125 => ⟨S8x4096x16x64, .f32⟩
  | 126 => ⟨S8x4096x16x64, .f32⟩
  | 127 => ⟨S32768x1024, .f32⟩
  | _ => ⟨S32768x3584, .f32⟩

abbrev hbmTy0_1 (i : Nat) : BufTy := match i % 128 with
  | 0 => ⟨S32768x1024, .bf16⟩
  | 1 => ⟨S32768x1024, .f32⟩
  | 2 => ⟨S32768x1024, .bf16⟩
  | 3 => ⟨S8x4096x16x64, .f32⟩
  | 4 => ⟨S32768x1024, .f32⟩
  | 5 => ⟨S32768x1024, .bf16⟩
  | 6 => ⟨S32768x1024, .f32⟩
  | 7 => ⟨S32768x1024, .bf16⟩
  | 8 => ⟨S32768x1024, .f32⟩
  | 9 => ⟨S32768x1024, .bf16⟩
  | 10 => ⟨S32768x1024, .f32⟩
  | 11 => ⟨S32768x1024, .bf16⟩
  | 12 => ⟨S32768x1024, .f32⟩
  | 13 => ⟨S32768x1024, .bf16⟩
  | 14 => ⟨S8x4096x16x64, .f32⟩
  | 15 => ⟨S32768x1024, .f32⟩
  | 16 => ⟨S32768x1024, .bf16⟩
  | 17 => ⟨S32768x1024, .f32⟩
  | 18 => ⟨S32768x1024, .bf16⟩
  | _ => ⟨S32768x3584, .f32⟩

abbrev hbmTy (i : Nat) : BufTy := match i / 128 with
  | 0 => hbmTy0_0 i
  | 1 => hbmTy0_1 i
  | _ => ⟨S32768x3584, .f32⟩

abbrev bufTy : (tb : Table) → Fin (tcTables nBuf tb) → BufTy
  | .hbm, ⟨i, _⟩ => hbmTy i
  | _, _ => ⟨S32768x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_call0_v0 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_cst_1 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_4 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_5 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_6 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_7 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_8 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_cst_9 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_cst_10 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_11 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩

abbrev nD : Nat := 1
abbrev τ : Topo := Topo.v7x

variable {F : FTy → Type} [FloatOps F]
-- ==== Proof.Online.lean ====
/- The arithmetic of a softmax computed online in base 2, over the extended reals: no program is mentioned here.
   A row's logits come in chunks. A running bound `m` and an accumulator `a` are rescaled when a chunk raises the
   bound; what the accumulator holds after any number of chunks is `2^(-m)` times the plain sum `Σ 2^s · v`. -/
module

public import Idealize.ShloMosaic.PureOps.Ideal.Laws
public import Mathlib.Analysis.SpecialFunctions.Pow.Real

@[expose] public section

noncomputable section

namespace Cert.Online

open Idealize.ShloMosaic

/-- A nonnegative real factor goes into a finite sum of extended reals, infinite terms included. -/
theorem mul_sum {ι : Type} (c : ℝ) (hc : 0 ≤ c) (S : Finset ι) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (EReal.coe_nonneg.mpr hc) (EReal.coe_ne_top c) _ _

/-- A sum of reals, read as extended reals, is the real sum. -/
theorem coe_sum {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The running bound after a chunk of logits. -/
def bound {n : ℕ} (m : EReal) (s : Fin n → EReal) : EReal := max m (Finset.univ.fold max ⊥ s)

/-- The accumulator after a chunk: the old one rescaled to the new bound `m'`, and the chunk's terms. -/
def accum {n : ℕ} (m m' a : EReal) (s v : Fin n → EReal) : EReal :=
  Ideal.exp2 (m - m') * a + ∑ k, Ideal.exp2 (s k - m') * v k

/-- The bound of a nonempty chunk of real logits is real, over a real or an empty history. -/
theorem bound_real {n : ℕ} [NeZero n] (m : EReal) (hm : m ≠ ⊤) (s : Fin n → ℝ) :
    ∃ r : ℝ, bound m (fun k => (s k : EReal)) = r := by
  have h1 : bound m (fun k => (s k : EReal)) ≠ ⊤ := by
    refine ne_of_lt (max_lt (lt_top_iff_ne_top.mpr hm) ?_)
    rw [Finset.fold_max_lt]
    exact ⟨bot_lt_top, fun x _ => EReal.coe_lt_top _⟩
  have h2 : bound m (fun k => (s k : EReal)) ≠ ⊥ := by
    refine ne_of_gt (lt_max_of_lt_right ?_)
    rw [Finset.lt_fold_max]
    exact .inr ⟨0, Finset.mem_univ _, EReal.bot_lt_coe _⟩
  exact ⟨_, (EReal.coe_toReal h1 h2).symm⟩

theorem exp2_coe (r : ℝ) : Ideal.exp2 (r : EReal) = (((2 : ℝ) ^ r : ℝ) : EReal) := rfl

/-- A chunk's terms against a real bound: `2^(-m)` comes out of the sum. -/
theorem chunk {n : ℕ} (m : ℝ) (s : Fin n → ℝ) (v : Fin n → EReal) :
    ∑ k, Ideal.exp2 ((s k : EReal) - (m : EReal)) * v k
      = (((2 : ℝ) ^ (-m) : ℝ) : EReal) * ∑ k, (((2 : ℝ) ^ (s k) : ℝ) : EReal) * v k := by
  rw [mul_sum _ (by positivity)]
  refine Finset.sum_congr rfl fun k _ => ?_
  rw [← EReal.coe_sub, exp2_coe, ← mul_assoc, ← EReal.coe_mul, ← Real.rpow_add (by norm_num)]
  congr 3
  ring

/-- The first chunk: nothing is held yet. -/
theorem accum_first {n : ℕ} (m : ℝ) (s : Fin n → ℝ) (v : Fin n → EReal) :
    accum ⊥ (m : EReal) 0 (fun k => (s k : EReal)) v
      = (((2 : ℝ) ^ (-m) : ℝ) : EReal) * ∑ k, (((2 : ℝ) ^ (s k) : ℝ) : EReal) * v k := by
  rw [accum, mul_zero, zero_add, chunk]

/-- A later chunk adds its own plain sum to the one held. -/
theorem accum_next {n : ℕ} (m m' : ℝ) (W : EReal) (s : Fin n → ℝ) (v : Fin n → EReal) :
    accum (m : EReal) (m' : EReal) ((((2 : ℝ) ^ (-m) : ℝ) : EReal) * W) (fun k => (s k : EReal)) v
      = (((2 : ℝ) ^ (-m') : ℝ) : EReal) * (W + ∑ k, (((2 : ℝ) ^ (s k) : ℝ) : EReal) * v k) := by
  rw [accum, chunk, EReal.left_distrib_of_nonneg_of_ne_top (EReal.coe_nonneg.mpr (by positivity)) (EReal.coe_ne_top _),
    ← EReal.coe_sub, exp2_coe, ← mul_assoc, ← EReal.coe_mul, ← Real.rpow_add (by norm_num)]
  congr 4
  ring

/-- Two accumulators at one bound divided: the factor `2^(-m)` cancels, whatever the numerator. -/
theorem div_scaled (m L : ℝ) (hL : 0 < L) (W : EReal) :
    Ideal.div ((((2 : ℝ) ^ (-m) : ℝ) : EReal) * W) ((((2 : ℝ) ^ (-m) : ℝ) : EReal) * (L : EReal))
      = ((L⁻¹ : ℝ) : EReal) * W := by
  have hp : (0 : ℝ) < (2 : ℝ) ^ (-m) := by positivity
  have h0 : (((2 : ℝ) ^ (-m) : ℝ) : EReal) * (L : EReal) ≠ 0 := by
    rw [← EReal.coe_mul]
    exact_mod_cast (mul_pos hp hL).ne'
  rw [Ideal.div, if_neg h0, ← EReal.coe_mul, ← EReal.coe_inv, mul_comm, ← mul_assoc, ← EReal.coe_mul]
  congr 2
  field_simp

/-- FOUR CHUNKS, the numerator's column `v` and the denominator's column of ones: the quotient is the softmax's
    weighted sum, `(Σ 2^s)⁻¹ · Σ 2^s v`, the sums running over the chunks one after another. -/
theorem four {n : ℕ} [NeZero n] (s : Fin 4 → Fin n → ℝ) (v w : Fin 4 → Fin n → EReal) (hw : ∀ j k, w j k = 1)
    (m1 m2 m3 m4 : EReal)
    (h1 : m1 = bound ⊥ (fun k => (s 0 k : EReal))) (h2 : m2 = bound m1 (fun k => (s 1 k : EReal)))
    (h3 : m3 = bound m2 (fun k => (s 2 k : EReal))) (h4 : m4 = bound m3 (fun k => (s 3 k : EReal))) :
    Ideal.div
        (accum m3 m4 (accum m2 m3 (accum m1 m2 (accum ⊥ m1 0 (fun k => (s 0 k : EReal)) (v 0))
          (fun k => (s 1 k : EReal)) (v 1)) (fun k => (s 2 k : EReal)) (v 2)) (fun k => (s 3 k : EReal)) (v 3))
        (accum m3 m4 (accum m2 m3 (accum m1 m2 (accum ⊥ m1 0 (fun k => (s 0 k : EReal)) (w 0))
          (fun k => (s 1 k : EReal)) (w 1)) (fun k => (s 2 k : EReal)) (w 2)) (fun k => (s 3 k : EReal)) (w 3))
      = (((∑ j, ∑ k, (2 : ℝ) ^ (s j k))⁻¹ : ℝ) : EReal) * ∑ j, ∑ k, (((2 : ℝ) ^ (s j k) : ℝ) : EReal) * v j k := by
  obtain ⟨r1, e1⟩ := bound_real ⊥ bot_ne_top (s 0)
  rw [e1] at h1; subst h1
  obtain ⟨r2, e2⟩ := bound_real _ (EReal.coe_ne_top r1) (s 1)
  rw [e2] at h2; subst h2
  obtain ⟨r3, e3⟩ := bound_real _ (EReal.coe_ne_top r2) (s 2)
  rw [e3] at h3; subst h3
  obtain ⟨r4, e4⟩ := bound_real _ (EReal.coe_ne_top r3) (s 3)
  rw [e4] at h4; subst h4
  simp only [accum_first, accum_next]
  have hs : ∀ u : Fin 4 → Fin n → EReal, (∑ j, ∑ k, (((2 : ℝ) ^ (s j k) : ℝ) : EReal) * u j k)
      = ∑ k, (((2 : ℝ) ^ (s 0 k) : ℝ) : EReal) * u 0 k + ∑ k, (((2 : ℝ) ^ (s 1 k) : ℝ) : EReal) * u 1 k
        + ∑ k, (((2 : ℝ) ^ (s 2 k) : ℝ) : EReal) * u 2 k + ∑ k, (((2 : ℝ) ^ (s 3 k) : ℝ) : EReal) * u 3 k := by
    intro u
    rw [Fin.sum_univ_four]
  rw [← hs v, ← hs w]
  have hL : (∑ j, ∑ k, (((2 : ℝ) ^ (s j k) : ℝ) : EReal) * w j k) = ((∑ j, ∑ k, (2 : ℝ) ^ (s j k) : ℝ) : EReal) := by
    rw [coe_sum]
    refine Finset.sum_congr rfl fun j _ => ?_
    rw [coe_sum]
    refine Finset.sum_congr rfl fun k _ => ?_
    rw [hw, mul_one]
  rw [hL]
  refine div_scaled _ _ ?_ _
  exact Finset.sum_pos (fun j _ => Finset.sum_pos (fun k _ => by positivity) ⟨0, Finset.mem_univ _⟩)
    ⟨0, Finset.mem_univ _⟩

/-- THE PLAIN SOFTMAX of the logits `s · ln 2`, shifted by their maximum as its textbook form shifts them, weighing
    `v`: the same weighted sum. -/
theorem plain {n : ℕ} [NeZero n] (s : Fin n → ℝ) (v : Fin n → EReal) :
    ∑ k, v k * Ideal.div
        (Ideal.exp ((s k : EReal) * ((Real.log 2 : ℝ) : EReal)
          - bound ⊥ (fun i => (s i : EReal) * ((Real.log 2 : ℝ) : EReal))))
        (∑ j, Ideal.exp ((s j : EReal) * ((Real.log 2 : ℝ) : EReal)
          - bound ⊥ (fun i => (s i : EReal) * ((Real.log 2 : ℝ) : EReal))))
      = (((∑ k, (2 : ℝ) ^ (s k))⁻¹ : ℝ) : EReal) * ∑ k, (((2 : ℝ) ^ (s k) : ℝ) : EReal) * v k := by
  simp only [← EReal.coe_mul]
  obtain ⟨r, e⟩ := bound_real ⊥ bot_ne_top (fun i => s i * Real.log 2)
  rw [e]
  have he : ∀ k, Ideal.exp (((s k * Real.log 2 : ℝ) : EReal) - (r : EReal))
      = ((Real.exp (-r) * (2 : ℝ) ^ (s k) : ℝ) : EReal) := by
    intro k
    rw [← EReal.coe_sub]
    show ((Real.exp _ : ℝ) : EReal) = _
    rw [Real.rpow_def_of_pos (by norm_num), ← Real.exp_add]
    congr 2
    ring
  simp only [he]
  rw [← coe_sum, ← Finset.mul_sum]
  have hL : 0 < ∑ k, (2 : ℝ) ^ (s k) := Finset.sum_pos (fun k _ => by positivity) ⟨0, Finset.mem_univ _⟩
  have hr : 0 < Real.exp (-r) := Real.exp_pos _
  rw [mul_sum _ (by positivity)]
  refine Finset.sum_congr rfl fun k _ => ?_
  have h0 : ((Real.exp (-r) * ∑ k, (2 : ℝ) ^ (s k) : ℝ) : EReal) ≠ 0 := by exact_mod_cast (mul_pos hr hL).ne'
  rw [Ideal.div, if_neg h0, ← EReal.coe_inv, ← EReal.coe_mul, mul_comm, ← mul_assoc, ← EReal.coe_mul]
  congr 2
  field_simp

end Cert.Online

end
-- ==== Proof.RowMax.lean ====
/- A row's maximum, as the kernel's reduction and the reference's reduction read it. -/
module

public import Idealize.ShloMosaic.Lib.Pointwise
public import Idealize.ShloMosaic.PureOps.Ideal.Laws

@[expose] public section

noncomputable section

open Idealize.ShloMosaic

namespace Cert.Online

theorem neg_inf : Ideal.ofBits .f32 0xFF800000#32 = (⊥ : EReal) := by simp [Ideal.ofBits, Ideal.ieee]

/-- The kernel's row maximum of a matrix of any size. -/
theorem row_max {n k : ℕ} (x : FVec Ideal ⟨2, ![n, k]⟩ .f32) (h : (⟨2, ![n, k]⟩ : Shape).Reduces [1] ⟨1, ![n]⟩)
    (hφ : FKind.Formats .f32) (hacc : (0xFF800000#32 : BitVec 32) = FKind.maximumf.neutral .f32 hφ) (i : Fin n) :
    multiReduction .maximumf [1] ⟨1, ![n]⟩ x 0xFF800000#32 h hφ hacc (ix1 i)
      = Finset.univ.fold max ⊥ (fun j : Fin k => x (ix2 i j)) := by
  pointwise [neg_inf]

/-- The reference's maximum along the last of four axes of any size. -/
theorem host_max {a b n k : ℕ} (x : FVec Ideal ⟨4, ![a, b, n, k]⟩ .f32) (c : FVec Ideal ⟨0, ![]⟩ .f32)
    (h : (⟨4, ![a, b, n, k]⟩ : Shape).ReducesTo [3] ⟨3, ![a, b, n]⟩) (hu : 0 < (⟨0, ![]⟩ : Shape).numel)
    (p : Fin a) (q : Fin b) (i : Fin n) :
    Host.reduce FloatOps.maximumf x c h hu (ix3 p q i)
      = Finset.univ.fold max (c (Shape.Idx.first hu)) (fun j : Fin k => x (ix4 p q i j)) := by
  pointwise []

end Cert.Online

end
-- ==== Proof.AttnBlock.lean ====
/- What one grid point of the attention stores, entry by entry, over the three blocks it loads. -/
module

public import proofs.«01_k».proof.Proof.Online
public import proofs.«01_k».proof.Proof.RowMax
public import proofs.«01_k».proof.Proof.Gen.AttnIdeal.Frame
public import Idealize.ShloMosaic.Lib.Pipeline.ValueKit

@[expose] public section

set_option maxRecDepth 16384

noncomputable section

open Idealize.ShloMosaic Idealize.ShloMosaic.TcCoe Idealize.SL.Sem

namespace Cert.AttnIdeal.Value

open Cert.AttnIdeal Cert.AttnIdeal.Gen Cert.Online

/-- A query row against a key row. -/
def logit (q k : FVec Ideal S1024x256 .bf16) (r j : Fin 1024) : EReal :=
  ∑ d : Fin 256, q (ix2 r d) * k (ix2 j d)

theorem pay3_at (q k : FVec Ideal S1024x256 .bf16) (r j : Fin 1024) :
    k0_pay3 (F := Ideal) q k (ix2 r j) = logit q k r j := by
  pointwise [k0_pay3, logit]

theorem pay4_at (q k : FVec Ideal S1024x256 .bf16) (r j : Fin 1024) :
    k0_pay4 (F := Ideal) q k (ix2 r j) = logit q k r j := by
  pointwise [k0_pay4, logit]

theorem pay6_at (q k : FVec Ideal S1024x256 .bf16) (r j : Fin 1024) :
    k0_pay6 (F := Ideal) q k (ix2 r j) = logit q k r j := by
  pointwise [k0_pay6, logit]

/-- The first chunk's running maximum. -/
theorem pay5_at (q k : FVec Ideal S1024x256 .bf16) (r : Fin 1024) :
    k0_pay5 (F := Ideal) q k (ix2 r 0) = bound ⊥ (logit q k r) := by
  have h := row_max (k0_pay3 (F := Ideal) q k) reduces_S1024x1024_S1024 (.inl rfl) rfl r
  simp only [pay3_at] at h
  unfold k0_pay5 bound
  change _ = max ⊥ (Finset.univ.fold max ⊥ (fun j => logit q k r j))
  rw [← h]
  generalize multiReduction (F := Ideal) .maximumf _ _ _ _ _ _ _ = w
  pointwise [k0_pay2, neg_inf]

/-- The second chunk's running maximum. -/
theorem pay7_at (q k k' : FVec Ideal S1024x256 .bf16) (r : Fin 1024) :
    k0_pay7 (F := Ideal) q k k' (ix2 r 0) = bound (bound ⊥ (logit q k r)) (logit q k' r) := by
  have h := row_max (k0_pay4 (F := Ideal) q k') reduces_S1024x1024_S1024 (.inl rfl) rfl r
  simp only [pay4_at] at h
  unfold k0_pay7
  rw [← pay5_at]
  unfold bound
  change _ = max _ (Finset.univ.fold max ⊥ (fun j => logit q k' r j))
  rw [← h]
  generalize multiReduction (F := Ideal) .maximumf _ _ _ _ _ _ _ = w
  generalize k0_pay5 (F := Ideal) q k = z
  pointwise []

/-- The first chunk's sum, scaled to the second chunk's maximum. -/
theorem pay8_at (q k k' v : FVec Ideal S1024x256 .bf16) (r : Fin 1024) (l : Fin 256) :
    k0_pay8 (F := Ideal) q k k' v (ix2 r l)
      = Ideal.exp2 (bound ⊥ (logit q k r) - bound (bound ⊥ (logit q k r)) (logit q k' r))
        * accum ⊥ (bound ⊥ (logit q k r)) 0 (logit q k r) (fun j => v (ix2 j l)) := by
  pointwise [k0_pay8, k0_pay2, pay5_at, pay7_at, pay3_at, neg_inf]
  rfl

/-- The second chunk's own sum. -/
theorem pay9_at (q k k' v : FVec Ideal S1024x256 .bf16) (r : Fin 1024) (l : Fin 256) :
    k0_pay9 (F := Ideal) q k k' v (ix2 r l)
      = ∑ j : Fin 1024, Ideal.exp2 (logit q k' r j - bound (bound ⊥ (logit q k r)) (logit q k' r)) * v (ix2 j l) := by
  pointwise [k0_pay9, pay7_at, pay4_at]
  rfl

/-- The last two chunks join, and the accumulator's first 128 lanes are divided by its lane 128. -/
theorem pay1_at (q k3 v2 v3 : FVec Ideal S1024x256 .bf16) (s2 : FVec Ideal S1024x1024 .f32)
    (m1 : FVec Ideal S1024x1 .f32) (x y : FVec Ideal S1024x256 .f32) (r : Fin 1024) (l : Fin 128) :
    k0_pay1 (F := Ideal) q s2 m1 x y k3 v2 v3 (ix2 r l)
      = Ideal.div
          (accum (bound (m1 (ix2 r 0)) (fun j => s2 (ix2 r j)))
            (bound (bound (m1 (ix2 r 0)) (fun j => s2 (ix2 r j))) (logit q k3 r))
            (accum (m1 (ix2 r 0)) (bound (m1 (ix2 r 0)) (fun j => s2 (ix2 r j)))
              (x (ix2 r ⟨l, by omega⟩) + y (ix2 r ⟨l, by omega⟩)) (fun j => s2 (ix2 r j)) (fun j => v2 (ix2 j ⟨l, by omega⟩)))
            (logit q k3 r) (fun j => v3 (ix2 j ⟨l, by omega⟩)))
          (accum (bound (m1 (ix2 r 0)) (fun j => s2 (ix2 r j)))
            (bound (bound (m1 (ix2 r 0)) (fun j => s2 (ix2 r j))) (logit q k3 r))
            (accum (m1 (ix2 r 0)) (bound (m1 (ix2 r 0)) (fun j => s2 (ix2 r j)))
              (x (ix2 r 128) + y (ix2 r 128)) (fun j => s2 (ix2 r j)) (fun j => v2 (ix2 j 128)))
            (logit q k3 r) (fun j => v3 (ix2 j 128))) := by
  have h2 := row_max s2 reduces_S1024x1024_S1024 (.inl rfl) rfl r
  have h3 := row_max (k0_pay3 (F := Ideal) q k3) reduces_S1024x1024_S1024 (.inl rfl) rfl r
  simp only [pay3_at] at h3
  change _ = Finset.univ.fold max ⊥ (logit q k3 r) at h3
  unfold k0_pay1 bound
  rw [← h2, ← h3]
  unfold k0_pay3
  dsimp only
  generalize multiReduction (F := Ideal) .maximumf _ _ s2 _ _ _ _ = w2
  generalize multiReduction (F := Ideal) .maximumf _ _ (matmul _ _ _ _ _) _ _ _ _ = w3
  pointwise [logit]
  rfl

/-- The block result: the weighted mean of the value rows, the weights two to the logits. -/
theorem payload_at (q : FVec Ideal S1024x256 .bf16) (k v : Fin 4 → FVec Ideal S1024x256 .bf16) (r : Fin 1024)
    (l : Fin 128) (s : Fin 4 → Fin 1024 → ℝ) (hs : ∀ j i, logit q (k j) r i = (s j i : EReal))
    (h1 : ∀ j i, v j (ix2 i 128) = 1) :
    k0_pay1 (F := Ideal) q (k0_pay6 q (k 2)) (k0_pay7 q (k 0) (k 1)) (k0_pay8 q (k 0) (k 1) (v 0))
        (k0_pay9 q (k 0) (k 1) (v 1)) (k 3) (v 2) (v 3) (ix2 r l)
      = (((∑ j, ∑ i, (2 : ℝ) ^ (s j i))⁻¹ : ℝ) : EReal)
          * ∑ j, ∑ i, (((2 : ℝ) ^ (s j i) : ℝ) : EReal) * v j (ix2 i ⟨l, by omega⟩) := by
  have hl : ∀ j, logit q (k j) r = fun i => (s j i : EReal) := fun j => funext (hs j)
  rw [pay1_at]
  simp only [pay6_at, pay7_at, pay8_at, pay9_at, hl]
  exact four s (fun j i => v j (ix2 i ⟨l, by omega⟩)) (fun j i => v j (ix2 i 128)) h1 _ _ _ _ rfl rfl rfl rfl

end Cert.AttnIdeal.Value

end
-- ==== Proof.AttnRef.lean ====
/- The reference attention, entry by entry: a softmax over the 4096 keys of the row's own sequence and head. -/
module

public import proofs.«01_k».proof.Proof.Online
public import proofs.«01_k».proof.Proof.RowMax
public import proofs.«01_k».proof.Proof.Gen.AttnRefIdeal.Read
public import Idealize.ShloMosaic.Lib.Pipeline.ValueKit

@[expose] public section

set_option maxRecDepth 16384

noncomputable section

open Idealize.ShloMosaic Idealize.ShloMosaic.TcCoe Idealize.SL.Sem

namespace Cert.AttnRefIdeal.Value

open Cert.AttnRefIdeal Cert.AttnRefIdeal.Gen Cert.AttnRefIdeal.Read Cert.Online

variable (Q K V : FVec Ideal S32768x2048 .bf16)

/-- A query row against a key row of the same sequence, in one head's 256 columns. -/
def score (b h : Fin 8) (i k : Fin 4096) : EReal :=
  ∑ d : Fin 256, Q (ix2 ⟨b.val * 4096 + i.val, by omega⟩ ⟨h.val * 256 + d.val, by omega⟩)
    * K (ix2 ⟨b.val * 4096 + k.val, by omega⟩ ⟨h.val * 256 + d.val, by omega⟩)

/-- The softmax of a row's scores times the logarithm of two, applied to the values' column. -/
def mixed (b h : Fin 8) (i : Fin 4096) (l : Fin 128) : EReal :=
  ∑ k : Fin 4096, V (ix2 ⟨b.val * 4096 + k.val, by omega⟩ ⟨h.val * 256 + l.val, by omega⟩)
    * Ideal.div
        (Ideal.exp (score Q K b h i k * (Real.log 2 : ℝ)
          - bound ⊥ (fun j => score Q K b h i j * (Real.log 2 : ℝ))))
        (∑ j : Fin 4096, Ideal.exp (score Q K b h i j * (Real.log 2 : ℝ)
          - bound ⊥ (fun j => score Q K b h i j * (Real.log 2 : ℝ))))

theorem two : Ideal.ofBits .f32 0x40000000#32 = (2 : EReal) := by
  simp [Ideal.ofBits, Ideal.ieee, -EReal.coe_mul]; norm_num; rfl

theorem log_two : Ideal.log (2 : EReal) = ((Real.log 2 : ℝ) : EReal) := by
  change (if (2 : ℝ) ≤ 0 then (⊥ : EReal) else ((Real.log 2 : ℝ) : EReal)) = _
  rw [if_neg (by norm_num)]

theorem v4_at (b h : Fin 8) (i : Fin 4096) (d : Fin 256) :
    val_main_v4 (F := Ideal) Q (ix4 b i h d)
      = Q (ix2 ⟨b.val * 4096 + i.val, by omega⟩ ⟨h.val * 256 + d.val, by omega⟩) := by
  pointwise [val_main_v4, val_main_v3]

theorem v6_at (b h : Fin 8) (i : Fin 4096) (d : Fin 256) :
    val_main_v6 (F := Ideal) K (ix4 b i h d)
      = K (ix2 ⟨b.val * 4096 + i.val, by omega⟩ ⟨h.val * 256 + d.val, by omega⟩) := by
  pointwise [val_main_v6, val_main_v5]

theorem v2_at (b h : Fin 8) (i : Fin 4096) (l : Fin 128) :
    val_main_v2 (F := Ideal) V (ix4 b i h l)
      = V (ix2 ⟨b.val * 4096 + i.val, by omega⟩ ⟨h.val * 256 + l.val, by omega⟩) := by
  pointwise [val_main_v2, val_main_v1, val_main_v0]

theorem v10_at (b h : Fin 8) (i k : Fin 4096) :
    val_main_v10 (F := Ideal) Q K (ix4 b h i k) = score Q K b h i k * (Real.log 2 : ℝ) := by
  pointwise [val_main_v10, val_main_v9, val_main_v8, val_main_cst, val_main_v7, v4_at, v6_at, score, two, log_two]

/-- The row's maximum. -/
theorem v13_at (b h : Fin 8) (i : Fin 4096) :
    val_main_v13 (F := Ideal) Q K (ix3 b h i) = bound ⊥ (fun k => score Q K b h i k * (Real.log 2 : ℝ)) := by
  have e := host_max (val_main_v10 (F := Ideal) Q K) (val_main_cst_0 (F := Ideal))
    reducesTo_S8x8x4096x4096_S8x8x4096_d3 h_S_ b h i
  simp only [v10_at] at e
  rw [val_main_v13_apply, val_main_v12_apply, val_main_cst_1_apply, bound]
  refine congrArg₂ max neg_inf ?_
  unfold val_main_v11
  rw [e, val_main_cst_0_apply]
  exact congrArg (fun z => Finset.univ.fold max z _) neg_inf

/-- The weight before its division. -/
theorem v17_at (b h : Fin 8) (i k : Fin 4096) :
    val_main_v17 (F := Ideal) Q K (ix4 b h i k)
      = Ideal.exp (score Q K b h i k * (Real.log 2 : ℝ) - bound ⊥ (fun j => score Q K b h i j * (Real.log 2 : ℝ))) := by
  pointwise [val_main_v17, val_main_v16, val_main_v15, val_main_v14, v10_at, v13_at]

/-- The sum of a row's weights. -/
theorem v18_at (b h : Fin 8) (i : Fin 4096) :
    val_main_v18 (F := Ideal) Q K (ix3 b h i)
      = ∑ j : Fin 4096, Ideal.exp (score Q K b h i j * (Real.log 2 : ℝ)
          - bound ⊥ (fun j => score Q K b h i j * (Real.log 2 : ℝ))) := by
  pointwise [val_main_v18, val_main_cst_2, v17_at]

theorem v22_at (b h : Fin 8) (i : Fin 4096) (l : Fin 128) :
    val_main_v22 (F := Ideal) Q K V (ix4 b h l i) = mixed Q K V b h i l := by
  pointwise [val_main_v22, val_main_v21, val_main_v20, val_main_v19, v17_at, v18_at, v2_at, mixed]

/-- The reference at a row and a column: the row's sequence and position, the column's head and lane. -/
theorem v25_at (b h : Fin 8) (i : Fin 4096) (l : Fin 128) :
    val_main_v25 (F := Ideal) Q K V (ix2 ⟨b.val * 4096 + i.val, by omega⟩ ⟨h.val * 128 + l.val, by omega⟩)
      = mixed Q K V b h i l := by
  pointwise [val_main_v25, val_main_v24, val_main_v23]
  exact v22_at Q K V b h i l

/-- Over real scores the softmax is the mean of the values weighted by the powers of two. -/
theorem mixed_eq (b h : Fin 8) (i : Fin 4096) (l : Fin 128) (s : Fin 4096 → ℝ)
    (hs : ∀ k, score Q K b h i k = (s k : EReal)) :
    mixed Q K V b h i l = (((∑ k, (2 : ℝ) ^ (s k))⁻¹ : ℝ) : EReal)
      * ∑ k : Fin 4096, (((2 : ℝ) ^ (s k) : ℝ) : EReal)
          * V (ix2 ⟨b.val * 4096 + k.val, by omega⟩ ⟨h.val * 256 + l.val, by omega⟩) := by
  unfold mixed
  simp only [hs]
  exact plain s _

end Cert.AttnRefIdeal.Value

end
-- ==== Proof.AttnPre.lean ====
/- What the precondition of the attention says, entry by entry. -/
module

public import proofs.«01_k».proof.Proof.Gen.Pre_attn_args
public import Idealize.ShloMosaic.Lib.Pipeline.ValueKit

@[expose] public section

set_option maxRecDepth 16384

noncomputable section

open Idealize.ShloMosaic Idealize.ShloMosaic.TcCoe Idealize.SL.Sem

namespace Cert.Pre_attn_args.Value

open Cert.Pre_attn_args Cert.Pre_attn_args.Gen

variable (Q K V : FVec Ideal S32768x2048 .bf16)

theorem pos_inf : Ideal.ofBits .f32 0x7F800000#32 = (⊤ : EReal) := by simp [Ideal.ofBits, Ideal.ieee]

/-- A number whose absolute value is below infinity is real. -/
theorem real_of_abs (x : EReal) (h : max x (-x) < ⊤) : ∃ y : ℝ, x = (y : EReal) := by
  induction x with
  | bot => simp at h
  | top => simp at h
  | coe y => exact ⟨y, rfl⟩

theorem of_ofBool (p : Prop) [Decidable p] (h : BitVec.ofBool (decide p) = 1#1) : p := by
  by_contra hp
  simp [hp] at h

/-- Queries are real. -/
theorem query_at (h : (fn (F := Ideal) Q K V).1 = fun _ => 1#1) (r : Fin 32768) (c : Fin 2048) :
    ∃ x : ℝ, Q (ix2 r c) = (x : EReal) := by
  have e := congrFun h (ix2 r c)
  pointwise [fn, pos_inf] at e
  exact real_of_abs _ (of_ofBool _ e)

/-- Keys are real. -/
theorem key_at (h : (fn (F := Ideal) Q K V).2.1 = fun _ => 1#1) (r : Fin 32768) (c : Fin 2048) :
    ∃ x : ℝ, K (ix2 r c) = (x : EReal) := by
  have e := congrFun h (ix2 r c)
  pointwise [fn, pos_inf] at e
  exact real_of_abs _ (of_ofBool _ e)

/-- Lane 128 of every head of the values is one. -/
theorem value_at (h : (fn (F := Ideal) Q K V).2.2 = fun _ => 1#1) (r : Fin 32768) (c : Fin 8) :
    V (ix2 r ⟨c.val * 256 + 128, by omega⟩) = 1 := by
  have e := congrFun h (ix2 r ⟨c.val * 256 + 128, by omega⟩)
  pointwise [fn, fn_remainder, fn_where] at e
  clear h
  refine of_ofBool _ ?_
  generalize BitVec.ofBool (decide (V (ix2 r ⟨c.val * 256 + 128, _⟩) = 1)) = b at e ⊢
  revert b c
  decide +kernel

end Cert.Pre_attn_args.Value

end
-- ==== Proof.Attn.lean ====
/- The attention's call and its reference are the same array of real weighted means. -/
module

public import proofs.«01_k».proof.Proof.AttnBlock
public import proofs.«01_k».proof.Proof.AttnRef
public import proofs.«01_k».proof.Proof.AttnPre
public import proofs.«01_k».proof.Proof.Gen.AttnIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Value

open Cert.AttnIdeal Cert.AttnIdeal.Gen
open Cert.AttnRefIdeal.Value (score mixed mixed_eq v25_at)

variable (m : (ℓ : Loc nD τ sig) → Buf (Elt Ideal) ℓ)

/-- The blocks of a grid point: a sequence, a head and a block of 1024 queries. -/
theorem idx_val : ∀ t : Fin cfg0.N, win0_0.index t = ![(t.val / 32) * 4 + (t.val % 4), t.val / 4 % 8]
    ∧ win0_1.index t = ![t.val / 32, t.val / 4 % 8]
    ∧ win0_2.index t = ![t.val / 32, t.val / 4 % 8]
    ∧ win0_3.index t = ![(t.val / 32) * 4 + (t.val % 4), t.val / 4 % 8] :=
  (by decide +kernel : ∀ t : Fin grid0.N, _)

/-- Of real rows the score is real. -/
theorem score_real (Q K : FVec Ideal S32768x2048 .bf16) (hQ : ∀ r c, ∃ x : ℝ, Q (ix2 r c) = (x : EReal))
    (hK : ∀ r c, ∃ x : ℝ, K (ix2 r c) = (x : EReal)) (b h : Fin 8) (i k : Fin 4096) :
    ∃ x : ℝ, score Q K b h i k = (x : EReal) := by
  choose q hq using hQ
  choose w hw using hK
  unfold score
  simp only [hq, hw, ← EReal.coe_mul]
  rw [← Cert.Online.coe_sum]
  exact ⟨_, rfl⟩

/-- Four chunks of 1024 are the 4096 keys. -/
theorem sum_chunks {β : Type} [AddCommMonoid β] (f : Fin 4096 → β) :
    ∑ j : Fin 4, ∑ i : Fin 1024, f ⟨j.val * 1024 + i.val, by omega⟩ = ∑ k : Fin 4096, f k :=
  (Fin.sum_univ_tiles 4 1024 rfl f).symm

/-- One entry of the block that a grid point stores. -/
theorem point (c : Dev nD) (t : Fin cfg0.N) (y)
    (h : (Cert.Pre_attn_args.fn (F := Ideal) (m ((c : Thread nD τ).loc main_arg0)) (m ((c : Thread nD τ).loc main_arg1))
      (m ((c : Thread nD τ).loc main_arg2))).1 = (fun _ => 1#1))
    (h' : (Cert.Pre_attn_args.fn (F := Ideal) (m ((c : Thread nD τ).loc main_arg0)) (m ((c : Thread nD τ).loc main_arg1))
      (m ((c : Thread nD τ).loc main_arg2))).2.1 = (fun _ => 1#1))
    (h'' : (Cert.Pre_attn_args.fn (F := Ideal) (m ((c : Thread nD τ).loc main_arg0)) (m ((c : Thread nD τ).loc main_arg1))
      (m ((c : Thread nD τ).loc main_arg2))).2.2 = (fun _ => 1#1)) :
    k0_pay1 (iblk m c 0 t) (k0_pay6 (iblk m c 0 t) (View.ld (iblk m c 1 t) r0_3)) (k0_pay7 (iblk m c 0 t) (View.ld
      (iblk m c 1 t) r0_1) (View.ld (iblk m c 1 t) r0_2)) (k0_pay8 (iblk m c 0 t) (View.ld (iblk m c 1 t) r0_1) (View.ld
      (iblk m c 1 t) r0_2) (View.ld (iblk m c 2 t) r0_1)) (k0_pay9 (iblk m c 0 t) (View.ld (iblk m c 1 t) r0_1) (View.ld
      (iblk m c 1 t) r0_2) (View.ld (iblk m c 2 t) r0_2)) (View.ld (iblk m c 1 t) r0_4) (View.ld (iblk m c 2 t) r0_3)
      (View.ld (iblk m c 2 t) r0_4) y
      = Cert.AttnRefIdeal.Read.val_main_v25 (F := Ideal) (m ((c : Thread nD τ).loc main_arg0))
          (m ((c : Thread nD τ).loc main_arg1)) (m ((c : Thread nD τ).loc main_arg2)) (((cfg0.win 3).blk t).view.emb y) := by
  obtain ⟨r, l, rfl⟩ : ∃ (r : Fin 1024) (l : Fin 128), y = ix2 r l := ⟨y 0, y 1, by funext a; match a with | ⟨0, _⟩ => rfl | ⟨1, _⟩ => rfl⟩
  have ht : t.val < 256 := t.isLt
  obtain ⟨b, eb⟩ : ∃ b : Fin 8, b.val = t.val / 32 := ⟨⟨t.val / 32, by omega⟩, rfl⟩
  obtain ⟨g, eg⟩ : ∃ g : Fin 8, g.val = t.val / 4 % 8 := ⟨⟨t.val / 4 % 8, by omega⟩, rfl⟩
  obtain ⟨n, en⟩ : ∃ n : Fin 4096, n.val = t.val % 4 * 1024 + r.val := ⟨⟨t.val % 4 * 1024 + r.val, by omega⟩, rfl⟩
  have hs := score_real _ _ (Cert.Pre_attn_args.Value.query_at _ _ _ h) (Cert.Pre_attn_args.Value.key_at _ _ _ h') b g n
  choose s es using hs
  have e3 : ((cfg0.win 3).blk t).view.emb (ix2 r l)
      = ix2 (⟨b.val * 4096 + n.val, by omega⟩ : Fin 32768) (⟨g.val * 128 + l.val, by omega⟩ : Fin 1024) := by
    blk_ext [idx_val t]
  rw [e3, v25_at, mixed_eq _ _ _ b g n l s es, ← sum_chunks, ← sum_chunks]
  refine (payload_at (iblk m c 0 t)
    ![View.ld (iblk m c 1 t) r0_1, View.ld (iblk m c 1 t) r0_2, View.ld (iblk m c 1 t) r0_3, View.ld (iblk m c 1 t) r0_4]
    ![View.ld (iblk m c 2 t) r0_1, View.ld (iblk m c 2 t) r0_2, View.ld (iblk m c 2 t) r0_3, View.ld (iblk m c 2 t) r0_4]
    r l (fun j i => s ⟨j.val * 1024 + i.val, by omega⟩) ?_ ?_).trans ?_
  · intro j i
    rw [← es]
    match j with
    | 0 =>
      change logit (iblk m c 0 t) (View.ld (iblk m c 1 t) r0_1) r i = _
      pointwise [logit, score]
      blk_point [iblk, V, idx_val t]
    | 1 =>
      change logit (iblk m c 0 t) (View.ld (iblk m c 1 t) r0_2) r i = _
      pointwise [logit, score]
      blk_point [iblk, V, idx_val t]
    | 2 =>
      change logit (iblk m c 0 t) (View.ld (iblk m c 1 t) r0_3) r i = _
      pointwise [logit, score]
      blk_point [iblk, V, idx_val t]
    | 3 =>
      change logit (iblk m c 0 t) (View.ld (iblk m c 1 t) r0_4) r i = _
      pointwise [logit, score]
      blk_point [iblk, V, idx_val t]
  · intro j i
    match j with
    | 0 =>
      refine Eq.trans ?_ (Cert.Pre_attn_args.Value.value_at _ _ _ h'' ⟨b.val * 4096 + (0 * 1024 + i.val), by omega⟩ g)
      change View.ld (iblk m c 2 t) r0_1 (ix2 i 128) = _
      pointwise []
      blk_point [iblk, V, idx_val t]
    | 1 =>
      refine Eq.trans ?_ (Cert.Pre_attn_args.Value.value_at _ _ _ h'' ⟨b.val * 4096 + (1 * 1024 + i.val), by omega⟩ g)
      change View.ld (iblk m c 2 t) r0_2 (ix2 i 128) = _
      pointwise []
      blk_point [iblk, V, idx_val t]
    | 2 =>
      refine Eq.trans ?_ (Cert.Pre_attn_args.Value.value_at _ _ _ h'' ⟨b.val * 4096 + (2 * 1024 + i.val), by omega⟩ g)
      change View.ld (iblk m c 2 t) r0_3 (ix2 i 128) = _
      pointwise []
      blk_point [iblk, V, idx_val t]
    | 3 =>
      refine Eq.trans ?_ (Cert.Pre_attn_args.Value.value_at _ _ _ h'' ⟨b.val * 4096 + (3 * 1024 + i.val), by omega⟩ g)
      change View.ld (iblk m c 2 t) r0_4 (ix2 i 128) = _
      pointwise []
      blk_point [iblk, V, idx_val t]
  · refine congrArg₂ (· * ·) rfl (Finset.sum_congr rfl fun j _ => Finset.sum_congr rfl fun i _ => congrArg₂ (· * ·) rfl ?_)
    match j with
    | 0 =>
      change View.ld (iblk m c 2 t) r0_1 (ix2 i ⟨l.val, by omega⟩) = _
      pointwise []
      blk_point [iblk, V, idx_val t]
    | 1 =>
      change View.ld (iblk m c 2 t) r0_2 (ix2 i ⟨l.val, by omega⟩) = _
      pointwise []
      blk_point [iblk, V, idx_val t]
    | 2 =>
      change View.ld (iblk m c 2 t) r0_3 (ix2 i ⟨l.val, by omega⟩) = _
      pointwise []
      blk_point [iblk, V, idx_val t]
    | 3 =>
      change View.ld (iblk m c 2 t) r0_4 (ix2 i ⟨l.val, by omega⟩) = _
      pointwise []
      blk_point [iblk, V, idx_val t]

/-- The result array after the run. -/
theorem final (c : Dev nD)
    (h : (Cert.Pre_attn_args.fn (F := Ideal) (m ((c : Thread nD τ).loc main_arg0)) (m ((c : Thread nD τ).loc main_arg1))
      (m ((c : Thread nD τ).loc main_arg2))).1 = (fun _ => 1#1))
    (h' : (Cert.Pre_attn_args.fn (F := Ideal) (m ((c : Thread nD τ).loc main_arg0)) (m ((c : Thread nD τ).loc main_arg1))
      (m ((c : Thread nD τ).loc main_arg2))).2.1 = (fun _ => 1#1))
    (h'' : (Cert.Pre_attn_args.fn (F := Ideal) (m ((c : Thread nD τ).loc main_arg0)) (m ((c : Thread nD τ).loc main_arg1))
      (m ((c : Thread nD τ).loc main_arg2))).2.2 = (fun _ => 1#1)) :
    (dats m 0 c).arrAt 3 (cfgs 0).N
      = Cert.AttnRefIdeal.Read.val_main_v25 (F := Ideal) (m ((c : Thread nD τ).loc main_arg0))
          (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y h h' h''

end Cert.AttnIdeal.Value

end
-- ==== Proof.LayerNorm.lean ====
/- The layer norm of a row of 2048 entries, as one formula, and the residual's factor. -/
module

public import Idealize.ShloMosaic.Lib.Pointwise

@[expose] public section

noncomputable section

open Idealize.ShloMosaic

namespace Cert.LayerNorm

/-- The mean of a row. -/
def mean (x : Fin 2048 → EReal) : EReal := Ideal.div (∑ k, x k) (Ideal.ofBits .f32 0x45000000#32)

/-- The row's entry at `c`, less the mean, over the root of the variance, times the gain, plus the bias. -/
def layerNorm (x : Fin 2048 → EReal) (g b : EReal) (c : Fin 2048) : EReal :=
  (x c - mean x) * Ideal.rsqrt (mean (fun k => (x k - mean x) * (x k - mean x)) + Ideal.ofBits .f32 0x3727C5AC#32) * g + b

/-- The residual's factor, the fourth root of 8. -/
def alpha : EReal := ((Real.sqrt (Real.sqrt 8) : ℝ) : EReal)

/-- Eight, as a constant. -/
theorem eight : Ideal.ofBits .f32 0x41000000#32 = ((8 : ℝ) : EReal) := by
  simp [Ideal.ofBits, Ideal.ieee, -EReal.coe_mul]; norm_num

/-- The root of the root of eight is the factor. -/
theorem root_root : Ideal.sqrt (Ideal.sqrt (Ideal.ofBits .f32 0x41000000#32)) = alpha := by
  rw [eight, Ideal.sqrt_coe, if_neg (by norm_num), Ideal.sqrt_coe, if_neg (not_lt.mpr (Real.sqrt_nonneg 8)), alpha]

end Cert.LayerNorm

end
-- ==== Proof.Ffn.lean ====
/- The feed-forward call is the reference's gated projections, residual and layer norm. -/
module

public import proofs.«01_k».proof.Proof.LayerNorm
public import proofs.«01_k».proof.Proof.Gen.FfnIdeal.Value
public import proofs.«01_k».proof.Proof.Gen.FfnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnRefIdeal.Value

open Cert.FfnRefIdeal Cert.FfnRefIdeal.Gen Cert.FfnRefIdeal.Read Cert.LayerNorm

/-- The gate times its logistic, times the other half. -/
def gated (a b : EReal) : EReal := a * Ideal.logistic a * b

variable (X : FVec Ideal S32768x2048 .bf16) (W : FVec Ideal S2048x11264 .f32) (O : FVec Ideal S5632x2048 .f32)
  (R : FVec Ideal S32768x2048 .f32) (g b : FVec Ideal S2048 .f32)

/-- One entry of the first projection. -/
def proj (r : Fin 32768) (k : Fin 11264) : EReal := ∑ d : Fin 2048, X (ix2 r d) * W (ix2 d k)

/-- One entry of the hidden layer: column `q` of the gate with column `q` of the other half. -/
def hid (r : Fin 32768) (q : Fin 5632) : EReal :=
  gated (proj X W r ⟨q.val, by omega⟩) (proj X W r ⟨5632 + q.val, by omega⟩)

/-- The second projection of the hidden layer. -/
def down (r : Fin 32768) (k : Fin 2048) : EReal := ∑ q : Fin 5632, hid X W r q * O (ix2 q k)

/-- The residual times its factor, plus the second projection. -/
def row (r : Fin 32768) (k : Fin 2048) : EReal := alpha * R (ix2 r k) + down X W O r k

theorem v1_at (r : Fin 32768) (k : Fin 11264) : val_main_v1 (F := Ideal) X W (ix2 r k) = proj X W r k := by
  pointwise [val_main_v1, val_main_v0, proj]

theorem v2_at (r : Fin 32768) (q : Fin 5632) : val_main_v2 (F := Ideal) X W (ix2 r q) = proj X W r ⟨q.val, by omega⟩ := by
  rw [← v1_at]
  pointwise [val_main_v2]

theorem v3_at (r : Fin 32768) (q : Fin 5632) :
    val_main_v3 (F := Ideal) X W (ix2 r q) = proj X W r ⟨5632 + q.val, by omega⟩ := by
  rw [← v1_at]
  pointwise [val_main_v3]

theorem one : Ideal.ofBits .f32 0x3F800000#32 = (1 : EReal) := by
  simp [Ideal.ofBits, Ideal.ieee, -EReal.coe_mul]; norm_num

theorem v5_at (r : Fin 32768) (q : Fin 5632) : val_main_v5 (F := Ideal) X W (ix2 r q) = hid X W r q := by
  unfold hid gated
  pointwise [val_main_v5, val_main_v4, val_main_call0_v5, val_main_call0_v4, val_main_call0_v3, val_main_call0_v2,
    val_main_call0_v1, val_main_call0_v0, val_main_call0_cst, val_main_call0_cst_0, v2_at, v3_at, one]
  rfl

theorem v6_at (r : Fin 32768) (k : Fin 2048) : val_main_v6 (F := Ideal) X W O (ix2 r k) = down X W O r k := by
  pointwise [val_main_v6, v5_at, down]

theorem v11_at (r : Fin 32768) (k : Fin 2048) : val_main_v11 (F := Ideal) X W O R (ix2 r k) = row X W O R r k := by
  pointwise [val_main_v11, val_main_v10, val_main_v9, val_main_v8, val_main_v7, val_main_cst, root_root, v6_at, row]

theorem v15_at (r : Fin 32768) : val_main_v15 (F := Ideal) X W O R (ix2 r 0) = mean (row X W O R r) := by
  pointwise [val_main_v15, val_main_v14, val_main_v13, val_main_v12, val_main_cst_0, val_main_cst_1, v11_at, mean]

theorem v22_at (r : Fin 32768) : val_main_v22 (F := Ideal) X W O R (ix2 r 0)
    = mean (fun k => (row X W O R r k - mean (row X W O R r)) * (row X W O R r k - mean (row X W O R r))) := by
  rw [mean]
  pointwise [val_main_v22, val_main_v21, val_main_v20, val_main_v19, val_main_v18, val_main_v17, val_main_v16,
    val_main_cst_2, val_main_cst_3, v11_at, v15_at]

/-- The reference's first result at a row and a column. -/
theorem v35_at (r : Fin 32768) (c : Fin 2048) :
    val_main_v35 (F := Ideal) X W O R g b (ix2 r c) = layerNorm (row X W O R r) (g (ix1 c)) (b (ix1 c)) c := by
  pointwise [val_main_v35, val_main_v34, val_main_v33, val_main_v32, val_main_v31, val_main_v30, val_main_v29,
    val_main_v28, val_main_v27, val_main_v26, val_main_v25, val_main_v24, val_main_v23, val_main_cst_4, v11_at, v15_at,
    v22_at, layerNorm]

/-- The second result is the first, of another format. -/
theorem v36_at (i) : val_main_v36 (F := Ideal) X W O R g b i = val_main_v35 (F := Ideal) X W O R g b i := rfl

end Cert.FfnRefIdeal.Value

namespace Cert.FfnIdeal.Value

open Cert.FfnIdeal Cert.FfnIdeal.Gen Cert.LayerNorm
open Cert.FfnRefIdeal.Value (gated proj hid down row v35_at v36_at)

variable (m : (ℓ : Loc nD τ sig) → Buf (Elt Ideal) ℓ)

/-- The accumulator's first contents. -/
theorem pay1_at (j) : k0_pay1 (F := Ideal) j = 0 := by pointwise [k0_pay1]

/-- The accumulator after one chunk of hidden columns. -/
theorem pay2_at (x : FVec Ideal S512x2048 .bf16) (wg wu : FVec Ideal S2048x512 .bf16) (acc : FVec Ideal S512x2048 .f32)
    (wo : FVec Ideal S512x2048 .bf16) (r : Fin 512) (k : Fin 2048) :
    k0_pay2 (F := Ideal) x wg wu acc wo (ix2 r k) = acc (ix2 r k) + ∑ q : Fin 512,
      gated (∑ d : Fin 2048, x (ix2 r d) * wg (ix2 d q)) (∑ d : Fin 2048, x (ix2 r d) * wu (ix2 d q)) * wo (ix2 q k) := by
  unfold gated
  pointwise [k0_pay2]

/-- The kernel's named constant is the residual's factor. -/
theorem alpha_named : Named.named (F := Ideal) κ "alpha" (φ := .f32) 0x3FD744FD#32 = alpha :=
  IdealRules.named_const.ideal_named_scalar _ _ _ _ rfl

/-- The stored entry, over the accumulator and the blocks that the body loads. -/
theorem pay3_at (res acc : FVec Ideal S512x2048 .f32) (g b : FVec Ideal S1x2048 .f32) (r : Fin 512) (c : Fin 2048) :
    k0_pay3 (F := Ideal) res acc g b (ix2 r c)
      = layerNorm (fun k => alpha * res (ix2 r k) + acc (ix2 r k)) (g (ix2 0 c)) (b (ix2 0 c)) c := by
  pointwise [k0_pay3, layerNorm, mean, alpha_named]

theorem idx_val : ∀ t : Fin cfg0.N, win0_0.index t = ![t.val / 11, 0]
    ∧ win0_1.index t = ![0, t.val % 11]
    ∧ win0_2.index t = ![0, 11 + (t.val % 11)]
    ∧ win0_3.index t = ![t.val % 11, 0]
    ∧ win0_4.index t = ![t.val / 11, 0]
    ∧ win0_5.index t = ![0, 0]
    ∧ win0_6.index t = ![0, 0]
    ∧ win0_7.index t = ![t.val / 11, 0]
    ∧ win0_8.index t = ![t.val / 11, 0] :=
  (by decide +kernel : ∀ t : Fin grid0.N, _)

theorem ix2_of (y : S512x2048.Idx) : ∃ (r : Fin 512) (l : Fin 2048), y = ix2 r l :=
  ⟨y 0, y 1, by funext a; match a with | ⟨0, _⟩ => rfl | ⟨1, _⟩ => rfl⟩

/-- What one grid point adds to the accumulator. -/
def part (c : Dev nD) (t : Fin cfg0.N) (r : Fin 512) (k : Fin 2048) : EReal := ∑ q : Fin 512,
  gated (∑ d : Fin 2048, (show FVec Ideal S512x2048 .bf16 from iblk m c 0 t) (ix2 r d) * (show FVec Ideal S2048x512 .bf16 from iblk m c 1 t) (ix2 d q))
    (∑ d : Fin 2048, (show FVec Ideal S512x2048 .bf16 from iblk m c 0 t) (ix2 r d) * (show FVec Ideal S2048x512 .bf16 from iblk m c 2 t) (ix2 d q))
    * (show FVec Ideal S512x2048 .bf16 from iblk m c 3 t) (ix2 q k)

theorem bound (t : Fin cfg0.N) (r : Fin 512) : t.val / 11 * 512 + r.val < 32768 := by
  have : t.val < 704 := t.isLt
  omega

/-- The same in terms of the arguments: a chunk of the hidden layer's columns. -/
theorem part_eq (c : Dev nD) (t : Fin cfg0.N) (r : Fin 512) (k : Fin 2048) : part m c t r k = ∑ q : Fin 512,
    hid (m ((c : Thread nD τ).loc main_arg0)) (m ((c : Thread nD τ).loc main_arg1)) ⟨t.val / 11 * 512 + r.val, bound t r⟩
        ⟨t.val % 11 * 512 + q.val, by omega⟩
      * (show FVec Ideal S5632x2048 .f32 from m ((c : Thread nD τ).loc main_arg2)) (ix2 ⟨t.val % 11 * 512 + q.val, by omega⟩ k) := by
  unfold part hid proj
  refine Finset.sum_congr rfl fun q _ => ?_
  congr 1
  · congr 1
    · refine Finset.sum_congr rfl fun d _ => ?_
      blk_point [iblk, V, idx_val t]
    · refine Finset.sum_congr rfl fun d _ => ?_
      blk_point [iblk, V, idx_val t]
  · blk_point [iblk, V, idx_val t]

/-- The accumulator at the last point of a row block: the whole second projection. -/
theorem acc_at (c : Dev nD) (t : Fin cfg0.N) (h : t.val % 11 = 10) (r : Fin 512) (k : Fin 2048) :
    (outsAt0 m c t.val t.isLt).2.2 (ix2 r k)
      = down (m ((c : Thread nD τ).loc main_arg0)) (m ((c : Thread nD τ).loc main_arg1)) (m ((c : Thread nD τ).loc main_arg2))
          ⟨t.val / 11 * 512 + r.val, bound t r⟩ k := by
  rw [Pipeline.eq_sum_fin_of_reset_step_apply_of_flush (fun n h => (outsAt0 m c n h).2.2) 11 (fun _ => 0)
    (fun t y => part m c t (y 0) (y 1))
    (fun t h y => by
      obtain ⟨r, l, rfl⟩ := ix2_of y
      rw [outsAt0_A m c t h (by omega)]
      frame_out
      rw [pay2_at, pay1_at]
      rfl)
    (fun t h y => by
      obtain ⟨r, l, rfl⟩ := ix2_of y
      by_cases h' : t.val % 11 = 10
      · rw [outsAt0_C m c _ h h']
        frame_out
        rw [pay2_at]
        exact congrArg (· + _) (congrFun (Memref.IsWhole.read_unread (m := Memref.whole cc0_scratch0) _ _) _)
      · rw [outsAt0_B m c _ h h']
        frame_out
        rw [pay2_at]
        exact congrArg (· + _) (congrFun (Memref.IsWhole.read_unread (m := Memref.whole cc0_scratch0) _ _) _))
    t h _, zero_add]
  change (∑ s : Fin 11, part m c ⟨11 * (t.val / 11) + s.val, Pipeline.run_point_lt_of_flush t h s⟩ r k : EReal) = _
  unfold down
  simp only [part_eq]
  refine Fin.sum_mul_add_congr fun s q hl => ?_
  have e1 : (11 * (t.val / 11) + s.val) / 11 = t.val / 11 := by omega
  have e2 : (11 * (t.val / 11) + s.val) % 11 = s.val := by omega
  simp only [e1, e2]

/-- The f32 block at the last point of a row block. -/
theorem outs_f32 (c : Dev nD) (t : Fin cfg0.N) (h : t.val % 11 = 10) : (outsAt0 m c t.val t.isLt).1
    = k0_pay3 (F := Ideal) (iblk m c 4 t) (outsAt0 m c t.val t.isLt).2.2 (iblk m c 5 t) (iblk m c 6 t) := by
  rw [outsAt0_C m c t (by omega) h]
  funext y
  frame_out

/-- The bf16 block at the last point of a row block. -/
theorem outs_bf16 (c : Dev nD) (t : Fin cfg0.N) (h : t.val % 11 = 10) : (outsAt0 m c t.val t.isLt).2.1
    = k0_pay4 (F := Ideal) (iblk m c 4 t) (outsAt0 m c t.val t.isLt).2.2 (iblk m c 5 t) (iblk m c 6 t) := by
  rw [outsAt0_C m c t (by omega) h]
  funext y
  frame_out

/-- One entry of the f32 block that the last point of a row block stores. -/
theorem point (c : Dev nD) (t : Fin cfg0.N) (h : t.val % 11 = 10) (r : Fin 512) (l : Fin 2048) :
    k0_pay3 (F := Ideal) (iblk m c 4 t) (outsAt0 m c t.val t.isLt).2.2 (iblk m c 5 t) (iblk m c 6 t) (ix2 r l)
      = Cert.FfnRefIdeal.Read.val_main_v35 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5))
          (ix2 ⟨t.val / 11 * 512 + r.val, bound t r⟩ l) := by
  rw [v35_at, pay3_at]
  congr 1
  · funext k
    unfold row
    rw [acc_at m c t h]
    congr 1
    blk_point [iblk, V, idx_val t]
  · blk_point [iblk, V, idx_val t]
  · blk_point [iblk, V, idx_val t]

/-- The f32 result after the run. -/
theorem final_f32 (c : Dev nD) : (dats m 0 c).arrAt 7 (cfgs 0).N
    = Cert.FfnRefIdeal.Read.val_main_v35 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 7 _ (by decide +kernel) fun t hf y => ?_
  have h := (flush0_7 t).mp hf
  blk_simp; rw [after0_7, outs_f32 m c t h]
  obtain ⟨r, l, rfl⟩ := ix2_of y
  refine (point m c t h r l).trans (congrArg _ ?_)
  symm
  blk_ext [idx_val t]

/-- The bf16 result after the run. -/
theorem final_bf16 (c : Dev nD) : (dats m 0 c).arrAt 8 (cfgs 0).N
    = Cert.FfnRefIdeal.Read.val_main_v36 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m 0 c).arrAt_eq_of_covers 8 _ (by decide +kernel) fun t hf y => ?_
  have h := (flush0_8 t).mp hf
  blk_simp; rw [after0_8, outs_bf16 m c t h]
  obtain ⟨r, l, rfl⟩ := ix2_of y
  refine Eq.trans ?_ (v36_at _ _ _ _ _ _ _).symm
  refine Eq.trans (show k0_pay4 (F := Ideal) _ _ _ _ (ix2 r l) = k0_pay3 (F := Ideal) _ _ _ _ (ix2 r l) from rfl) ?_
  refine (point m c t h r l).trans (congrArg _ ?_)
  symm
  blk_ext [idx_val t]

end Cert.FfnIdeal.Value

end
-- ==== Proof.InGate.lean ====
/- The gates projection's call, read from its grid points, is the reference's projection and column range. -/
module

public import proofs.«01_k».proof.Proof.Gen.InGateIdeal.Value
public import proofs.«01_k».proof.Proof.Gen.InGateRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InGateIdeal.Value

open Cert.InGateIdeal Cert.InGateIdeal.Gen

variable (m : (ℓ : Loc nD τ sig) → Buf (Elt Ideal) ℓ)

/-- Row blocks of 1024 by the grid's first coordinate, column blocks of 1024 by its second. -/
theorem idx_val : ∀ t : Fin cfg0.N, win0_0.index t = ![t.val / 6, 0]
    ∧ win0_1.index t = ![0, t.val % 6]
    ∧ win0_2.index t = ![t.val / 6, t.val % 6] :=
  (by decide +kernel : ∀ t : Fin grid0.N, _)

/-- One entry of the block that a grid point stores. -/
theorem point (c : Dev nD) (t : Fin cfg0.N) (y) :
    k0_pay1 (iblk m c 0 t) (iblk m c 1 t) y
      = Cert.InGateRefIdeal.Read.val_main_v6 (F := Ideal) (m ((c : Thread nD τ).loc main_arg0))
          (m ((c : Thread nD τ).loc main_arg1)) (((cfg0.win 2).blk t).view.emb y) := by
  pointwise [k0_pay1, Cert.InGateRefIdeal.Read.val_main_v6, Cert.InGateRefIdeal.Read.val_main_v5,
    Cert.InGateRefIdeal.Read.val_main_v1, Cert.InGateRefIdeal.Read.val_main_v0]
  blk_point [iblk, V, idx_val t]

/-- The result array after the run. -/
theorem final (c : Dev nD) : (dats m 0 c).arrAt 2 (cfgs 0).N
    = Cert.InGateRefIdeal.Read.val_main_v6 (F := Ideal) (m ((c : Thread nD τ).loc main_arg0))
        (m ((c : Thread nD τ).loc main_arg1)) := by
  refine (dats m 0 c).arrAt_eq_of_covers 2 _ (by decide +kernel) fun t hf y => ?_
  blk_simp; rw [after0_2]; frame_out
  exact point m c t y

end Cert.InGateIdeal.Value

end
-- ==== Proof.InConv.lean ====
/- The convolution projection's call, read from its grid points, is the reference's projection and column range. -/
module

public import proofs.«01_k».proof.Proof.Gen.InConvIdeal.Value
public import proofs.«01_k».proof.Proof.Gen.InConvRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.InConvIdeal.Value

open Cert.InConvIdeal Cert.InConvIdeal.Gen

variable (m : (ℓ : Loc nD τ sig) → Buf (Elt Ideal) ℓ)

/-- Row blocks of 1024 by the grid's first coordinate, column blocks of 1024 by its second. -/
theorem idx_val : ∀ t : Fin cfg0.N, win0_0.index t = ![t.val / 3, 0]
    ∧ win0_1.index t = ![0, t.val % 3]
    ∧ win0_2.index t = ![t.val / 3, t.val % 3] :=
  (by decide +kernel : ∀ t : Fin grid0.N, _)

/-- One entry of the block that a grid point stores. -/
theorem point (c : Dev nD) (t : Fin cfg0.N) (y) :
    k0_pay1 (iblk m c 0 t) (iblk m c 1 t) y
      = Cert.InConvRefIdeal.Read.val_main_v6 (F := Ideal) (m ((c : Thread nD τ).loc main_arg0))
          (m ((c : Thread nD τ).loc main_arg1)) (((cfg0.win 2).blk t).view.emb y) := by
  pointwise [k0_pay1, Cert.InConvRefIdeal.Read.val_main_v6, Cert.InConvRefIdeal.Read.val_main_v4,
    Cert.InConvRefIdeal.Read.val_main_v1, Cert.InConvRefIdeal.Read.val_main_v0]
  blk_point [iblk, V, idx_val t]

/-- The result array after the run. -/
theorem final (c : Dev nD) : (dats m 0 c).arrAt 2 (cfgs 0).N
    = Cert.InConvRefIdeal.Read.val_main_v6 (F := Ideal) (m ((c : Thread nD τ).loc main_arg0))
        (m ((c : Thread nD τ).loc main_arg1)) := by
  refine (dats m 0 c).arrAt_eq_of_covers 2 _ (by decide +kernel) fun t hf y => ?_
  blk_simp; rw [after0_2]; frame_out
  exact point m c t y

end Cert.InConvIdeal.Value

end
-- ==== Proof.InRwkv.lean ====
/- The gated branch's projection call, read from its grid points, is the reference's projection, column range and
   padding. -/
module

public import proofs.«01_k».proof.Proof.Gen.InRwkvIdeal.Value
public import proofs.«01_k».proof.Proof.Gen.InRwkvRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.InRwkvIdeal.Value

open Cert.InRwkvIdeal Cert.InRwkvIdeal.Gen

variable (m : (ℓ : Loc nD τ sig) → Buf (Elt Ideal) ℓ)

theorem idx_val : ∀ t : Fin cfg0.N, win0_0.index t = ![t.val / 2, 0]
    ∧ win0_1.index t = ![0, t.val % 2]
    ∧ win0_2.index t = ![t.val / 2, t.val % 2] :=
  (by decide +kernel : ∀ t : Fin grid0.N, _)

/-- The call's weights: a range of the argument's columns, then columns of zeros. -/
theorem weights_at (c : Dev nD) (d : Fin 2048) (k : Fin 3584) :
    (show FVec Ideal S2048x3584 .bf16 from V m c main_v3) (ix2 d k)
      = if h : k.val < 3488 then (show FVec Ideal S2048x14048 .f32 from m ((c : Thread nD τ).loc main_arg1)) (ix2 d ⟨1344 + k.val, by omega⟩)
        else (0 : EReal) := by
  dsimp only
  entry_read
  pointwise []

/-- The stored entry, over the blocks that the body loads. -/
theorem pay1_at (x : FVec Ideal S1024x2048 .bf16) (w : FVec Ideal S2048x1792 .bf16) (r : Fin 1024) (k : Fin 1792) :
    k0_pay1 (F := Ideal) x w (ix2 r k) = ∑ d : Fin 2048, x (ix2 r d) * w (ix2 d k) := by
  pointwise [k0_pay1]

/-- The integer zero that the reference pads with, of the floats. -/
theorem zero_at : (FloatOps.sitofp (F := Ideal) .f32 (0#32) : EReal) = 0 := by
  simp [FloatOps.sitofp]

/-- The reference's entry: the projection within the range, zero beyond it. -/
theorem ref_at (X : FVec Ideal S32768x2048 .bf16) (W : FVec Ideal S2048x14048 .f32) (r : Fin 32768) (k : Fin 3584) :
    Cert.InRwkvRefIdeal.Read.val_main_v6 (F := Ideal) X W (ix2 r k)
      = if h : k.val < 3488 then ∑ d : Fin 2048, X (ix2 r d) * W (ix2 d ⟨1344 + k.val, by omega⟩) else (0 : EReal) := by
  pointwise [Cert.InRwkvRefIdeal.Read.val_main_v6, Cert.InRwkvRefIdeal.Read.val_main_v3,
    Cert.InRwkvRefIdeal.Read.val_main_v1, Cert.InRwkvRefIdeal.Read.val_main_v0,
    Cert.InRwkvRefIdeal.Read.val_main_call0_v0, Cert.InRwkvRefIdeal.Read.val_main_c]
  rw [zero_at]

/-- One entry of the block that a grid point stores. -/
theorem point (c : Dev nD) (t : Fin cfg0.N) (r : Fin 1024) (k : Fin 1792) :
    k0_pay1 (iblk m c 0 t) (iblk m c 1 t) (ix2 r k)
      = Cert.InRwkvRefIdeal.Read.val_main_v6 (F := Ideal) (m ((c : Thread nD τ).loc main_arg0))
          (m ((c : Thread nD τ).loc main_arg1))
          (ix2 ⟨t.val / 2 * 1024 + r.val, by have : t.val < 64 := t.isLt; omega⟩ ⟨t.val % 2 * 1792 + k.val, by omega⟩) := by
  rw [pay1_at, ref_at]
  have hw : ∀ d : Fin 2048, (show FVec Ideal S2048x1792 .bf16 from iblk m c 1 t) (ix2 d k)
      = (show FVec Ideal S2048x3584 .bf16 from V m c main_v3) (ix2 d ⟨t.val % 2 * 1792 + k.val, by omega⟩) := by
    intro d
    refine congrArg (show FVec Ideal S2048x3584 .bf16 from V m c main_v3) ?_
    blk_ext [idx_val t]
  have hx : ∀ d : Fin 2048, (show FVec Ideal S1024x2048 .bf16 from iblk m c 0 t) (ix2 r d)
      = (show FVec Ideal S32768x2048 .bf16 from m ((c : Thread nD τ).loc main_arg0))
          (ix2 ⟨t.val / 2 * 1024 + r.val, by have : t.val < 64 := t.isLt; omega⟩ d) := by
    intro d
    blk_point [iblk, V, idx_val t]
  split
  · rename_i h
    refine Finset.sum_congr rfl fun d _ => ?_
    refine congrArg₂ (fun a b : EReal => a * b) (hx d) ((hw d).trans ((weights_at m c d _).trans ?_))
    exact dif_pos h
  · rename_i h
    refine Finset.sum_eq_zero fun d _ => ?_
    refine (congrArg (fun b : EReal => _ * b) ((hw d).trans ((weights_at m c d _).trans (dif_neg h)))).trans ?_
    exact mul_zero _

/-- The result array after the run. -/
theorem final (c : Dev nD) : (dats m 0 c).arrAt 2 (cfgs 0).N
    = Cert.InRwkvRefIdeal.Read.val_main_v6 (F := Ideal) (m ((c : Thread nD τ).loc main_arg0))
        (m ((c : Thread nD τ).loc main_arg1)) := by
  refine (dats m 0 c).arrAt_eq_of_covers 2 _ (by decide +kernel) fun t hf y => ?_
  blk_simp; rw [after0_2]; frame_out
  obtain ⟨r, k, rfl⟩ : ∃ (r : Fin 1024) (k : Fin 1792), y = ix2 r k :=
    ⟨y 0, y 1, by funext a; match a with | ⟨0, _⟩ => rfl | ⟨1, _⟩ => rfl⟩
  refine (point m c t r k).trans (congrArg _ ?_)
  symm
  blk_ext [idx_val t]

end Cert.InRwkvIdeal.Value

end
-- ==== Proof.InMla.lean ====
/- The latent attention's projection call is the reference's projection with its rotated columns. -/
module

public import proofs.«01_k».proof.Proof.Online
public import proofs.«01_k».proof.Proof.AttnPre
public import proofs.«01_k».proof.Proof.Gen.Pre_in_mla_args
public import proofs.«01_k».proof.Proof.Gen.InMlaIdeal.Value
public import proofs.«01_k».proof.Proof.Gen.InMlaRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pre_in_mla_args.Value

open Cert.Pre_in_mla_args Cert.Pre_in_mla_args.Gen
open Cert.Pre_attn_args.Value (pos_inf real_of_abs of_ofBool)

variable (X : FVec Ideal S32768x2048 .bf16) (W : FVec Ideal S2048x14048 .f32)

/-- The inputs are real. -/
theorem input_at (h : (fn (F := Ideal) X W).1 = fun _ => 1#1) (r : Fin 32768) (d : Fin 2048) :
    ∃ x : ℝ, X (ix2 r d) = (x : EReal) := by
  have e := congrFun h (ix2 r d)
  pointwise [fn, pos_inf] at e
  exact real_of_abs _ (of_ofBool _ e)

/-- The weights are real. -/
theorem weight_at (h : (fn (F := Ideal) X W).2 = fun _ => 1#1) (d : Fin 2048) (k : Fin 14048) :
    ∃ x : ℝ, W (ix2 d k) = (x : EReal) := by
  have e := congrFun h (ix2 d k)
  pointwise [fn, pos_inf] at e
  exact real_of_abs _ (of_ofBool _ e)

end Cert.Pre_in_mla_args.Value

namespace Cert.InMlaRefIdeal.Value

open Cert.InMlaRefIdeal Cert.InMlaRefIdeal.Gen Cert.InMlaRefIdeal.Read

variable (X : FVec Ideal S32768x2048 .bf16) (W : FVec Ideal S2048x14048 .f32)

/-- A column of the widened result, from the projection's columns: the latent ones as they are, 64 zeros, the second half
    of the rotary ones negated, their first half, zeros. -/
def pick (f : Fin 14048 → EReal) (k : Fin 1536) : EReal :=
  if h : k.val < 1344 then f ⟨k.val, by omega⟩
  else if h : k.val - 1344 < 64 then 0
  else if h : k.val - 1344 - 64 < 32 then -f ⟨1280 + (32 + (k.val - 1344 - 64)), by omega⟩
  else if h : k.val - 1344 - 64 - 32 < 32 then f ⟨1280 + (k.val - 1344 - 64 - 32), by omega⟩
  else 0

/-- The reference's entry: the widened projection. -/
theorem ref_at (r : Fin 32768) (k : Fin 1536) : val_main_v11 (F := Ideal) X W (ix2 r k)
    = pick (fun j => ∑ d : Fin 2048, X (ix2 r d) * W (ix2 d j)) k := by
  unfold pick
  pointwise [val_main_v11, val_main_v10, val_main_v9, val_main_v8, val_main_v7, val_main_v6, val_main_v2, val_main_v1, val_main_v0, val_main_cst]

end Cert.InMlaRefIdeal.Value

namespace Cert.InMlaIdeal.Value

open Cert.InMlaIdeal Cert.InMlaIdeal.Gen
open Cert.InMlaRefIdeal.Value (pick ref_at)

variable (m : (ℓ : Loc nD τ sig) → Buf (Elt Ideal) ℓ)

/-- The call's weights, as the operations before it make them of the argument's. -/
def weights (W : FVec Ideal S2048x14048 .f32) : FVec Ideal S2048x1536 .bf16 :=
  truncf .bf16 (concatenate S2048x1536 1 [⟨S2048x1344, extractStridedSlice S2048x1344 ![0, 0] W slices_S2048x14048_S2048x1344_0_0⟩,
    ⟨S2048x64, broadcastInDim S2048x64 ![] bcast_S_S2048x64 (constant (F := Ideal) S_ .f32 0x00000000#32)⟩,
    ⟨S2048x64, concatenate S2048x64 1 [
      ⟨S2048x32, Host.negf (extractStridedSlice S2048x32 ![0, 32] (extractStridedSlice S2048x64 ![0, 1280] W slices_S2048x14048_S2048x64_0_1280) slices_S2048x64_S2048x32_0_32 : FVec Ideal S2048x32 .f32)⟩,
      ⟨S2048x32, extractStridedSlice S2048x32 ![0, 0] (extractStridedSlice S2048x64 ![0, 1280] W slices_S2048x14048_S2048x64_0_1280) slices_S2048x64_S2048x32_0_0⟩] concatenates_S2048x32_S2048x32_S2048x64_d1⟩,
    ⟨S2048x64, broadcastInDim S2048x64 ![] bcast_S_S2048x64 (constant (F := Ideal) S_ .f32 0x00000000#32)⟩]
    concatenates_S2048x1344_S2048x64_S2048x64_S2048x64_S2048x1536_d1 : FVec Ideal S2048x1536 .f32) bitsLt_bf16_f32

/-- The region finds the call's weights made of the argument's. -/
theorem weights_eq (c : Dev nD) : V m c main_v9 = weights (m ((c : Thread nD τ).loc main_arg1)) := by
  unfold_abbrev_sides
  after_results <;> rfl

/-- A column of the call's weights. -/
theorem weights_at (W : FVec Ideal S2048x14048 .f32) (d : Fin 2048) (k : Fin 1536) :
    weights W (ix2 d k) = pick (fun j => W (ix2 d j)) k := by
  pointwise [weights]
  unfold pick
  split_ifs <;> first | rfl | (exfalso; omega) | rw [dif_pos (show k.val - 1344 - 64 - 32 < 32 by omega)]

/-- The negated products of real numbers add up to the negated sum. -/
theorem sum_neg (x w : Fin 2048 → EReal) (hx : ∀ d, ∃ a : ℝ, x d = (a : EReal)) (hw : ∀ d, ∃ a : ℝ, w d = (a : EReal)) :
    ∑ d, x d * -w d = -∑ d, x d * w d := by
  choose a ha using hx
  choose b hb using hw
  have e1 : ∀ d, x d * -w d = ((-(a d * b d) : ℝ) : EReal) := fun d => by
    rw [ha, hb, ← EReal.coe_neg, ← EReal.coe_mul, mul_neg]
  have e2 : ∀ d, x d * w d = ((a d * b d : ℝ) : EReal) := fun d => by rw [ha, hb, ← EReal.coe_mul]
  rw [Finset.sum_congr rfl fun d _ => e1 d, Finset.sum_congr rfl fun d _ => e2 d, ← Cert.Online.coe_sum,
    ← Cert.Online.coe_sum, ← EReal.coe_neg, Finset.sum_neg_distrib]

/-- Widening the weights' columns widens the projection's. -/
theorem sum_pick (x : Fin 2048 → EReal) (w : Fin 2048 → Fin 14048 → EReal) (hx : ∀ d, ∃ a : ℝ, x d = (a : EReal))
    (hw : ∀ d j, ∃ a : ℝ, w d j = (a : EReal)) (k : Fin 1536) :
    ∑ d, x d * pick (fun j => w d j) k = pick (fun j => ∑ d, x d * w d j) k := by
  unfold pick
  split_ifs
  · rfl
  · exact Finset.sum_eq_zero fun d _ => mul_zero _
  · exact sum_neg x _ hx fun d => hw d _
  · rfl
  · exact Finset.sum_eq_zero fun d _ => mul_zero _

/-- The stored entry, over the blocks that the body loads. -/
theorem pay1_at (x : FVec Ideal S1024x2048 .bf16) (w : FVec Ideal S2048x1536 .bf16) (r : Fin 1024) (k : Fin 1536) :
    k0_pay1 (F := Ideal) x w (ix2 r k) = ∑ d : Fin 2048, x (ix2 r d) * w (ix2 d k) := by
  pointwise [k0_pay1]

theorem idx_val : ∀ t : Fin cfg0.N, win0_0.index t = ![t.val, 0]
    ∧ win0_1.index t = ![0, 0]
    ∧ win0_2.index t = ![t.val, 0] :=
  (by decide +kernel : ∀ t : Fin grid0.N, _)

theorem bound (t : Fin cfg0.N) (r : Fin 1024) : t.val * 1024 + r.val < 32768 := by
  have : t.val < 32 := t.isLt
  omega

/-- One entry of the block that a grid point stores. -/
theorem point (c : Dev nD) (t : Fin cfg0.N) (r : Fin 1024) (k : Fin 1536)
    (h : (Cert.Pre_in_mla_args.fn (F := Ideal) (m ((c : Thread nD τ).loc main_arg0)) (m ((c : Thread nD τ).loc main_arg1))).1
      = (fun _ => 1#1))
    (h' : (Cert.Pre_in_mla_args.fn (F := Ideal) (m ((c : Thread nD τ).loc main_arg0)) (m ((c : Thread nD τ).loc main_arg1))).2
      = (fun _ => 1#1)) :
    k0_pay1 (iblk m c 0 t) (iblk m c 1 t) (ix2 r k)
      = Cert.InMlaRefIdeal.Read.val_main_v11 (F := Ideal) (m ((c : Thread nD τ).loc main_arg0))
          (m ((c : Thread nD τ).loc main_arg1)) (ix2 ⟨t.val * 1024 + r.val, bound t r⟩ k) := by
  rw [pay1_at, ref_at, ← sum_pick _ _ (fun d => Cert.Pre_in_mla_args.Value.input_at _ _ h _ d)
    (fun d j => Cert.Pre_in_mla_args.Value.weight_at _ _ h' d j)]
  refine Finset.sum_congr rfl fun d _ => ?_
  refine congrArg₂ (fun a b : EReal => a * b) ?_ ?_
  · blk_point [iblk, V, idx_val t]
  · refine Eq.trans ?_ (weights_at _ d k)
    rw [← weights_eq]
    refine congrArg (show FVec Ideal S2048x1536 .bf16 from V m c main_v9) ?_
    blk_ext [idx_val t]

/-- The result array after the run. -/
theorem final (c : Dev nD)
    (h : (Cert.Pre_in_mla_args.fn (F := Ideal) (m ((c : Thread nD τ).loc main_arg0)) (m ((c : Thread nD τ).loc main_arg1))).1
      = (fun _ => 1#1))
    (h' : (Cert.Pre_in_mla_args.fn (F := Ideal) (m ((c : Thread nD τ).loc main_arg0)) (m ((c : Thread nD τ).loc main_arg1))).2
      = (fun _ => 1#1)) :
    (dats m 0 c).arrAt 2 (cfgs 0).N = Cert.InMlaRefIdeal.Read.val_main_v11 (F := Ideal)
      (m ((c : Thread nD τ).loc main_arg0)) (m ((c : Thread nD τ).loc main_arg1)) := by
  refine (dats m 0 c).arrAt_eq_of_covers 2 _ (by decide +kernel) fun t hf y => ?_
  blk_simp; rw [after0_2]; frame_out
  obtain ⟨r, k, rfl⟩ : ∃ (r : Fin 1024) (k : Fin 1536), y = ix2 r k :=
    ⟨y 0, y 1, by funext a; match a with | ⟨0, _⟩ => rfl | ⟨1, _⟩ => rfl⟩
  refine (point m c t r k h h').trans (congrArg _ ?_)
  symm
  blk_ext [idx_val t]

end Cert.InMlaIdeal.Value

end
-- ==== Proof.Merge.lean ====
/- The merge's call is the reference's gated sum over the three branches. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeRefIdeal.Value

open Cert.MergeRefIdeal Cert.MergeRefIdeal.Gen Cert.MergeRefIdeal.Read

variable (A B C : FVec Ideal S32768x1024 .bf16) (G : FVec Ideal S32768x6144 .bf16) (W : FVec Ideal S3x1024x2048 .f32)

/-- One branch's term: its gate's logistic times its row against its weights' column. -/
def term (Y : FVec Ideal S32768x1024 .bf16) (n : Fin 3) (r : Fin 32768) (c : Fin 2048) : EReal :=
  Ideal.logistic (G (ix2 r ⟨n.val * 2048 + c.val, by omega⟩))
    * ∑ w : Fin 1024, Y (ix2 r w) * W (ix3 n w c)

theorem v6_first (r : Fin 32768) (w : Fin 1024) : val_main_v6 (F := Ideal) A B C (ix3 r 0 w) = A (ix2 r w) := by
  pointwise [val_main_v6, val_main_v3, val_main_v0]

theorem v6_second (r : Fin 32768) (w : Fin 1024) : val_main_v6 (F := Ideal) A B C (ix3 r 1 w) = B (ix2 r w) := by
  pointwise [val_main_v6, val_main_v4, val_main_v1]

theorem v6_third (r : Fin 32768) (w : Fin 1024) : val_main_v6 (F := Ideal) A B C (ix3 r 2 w) = C (ix2 r w) := by
  pointwise [val_main_v6, val_main_v5, val_main_v2]

theorem one : Ideal.ofBits .f32 0x3F800000#32 = (1 : EReal) := by
  simp [Ideal.ofBits, Ideal.ieee, -EReal.coe_mul]; norm_num

theorem v17_at (n : Fin 3) (r : Fin 32768) (c : Fin 2048) :
    val_main_v17 (F := Ideal) A B C G W (ix3 r n c)
      = Ideal.logistic (G (ix2 r ⟨n.val * 2048 + c.val, by omega⟩))
          * ∑ w : Fin 1024, val_main_v6 (F := Ideal) A B C (ix3 r n w) * W (ix3 n w c) := by
  pointwise [val_main_v17, val_main_v14, val_main_v13, val_main_v12, val_main_v11, val_main_v10, val_main_v9,
    val_main_v8, val_main_v7, val_main_cst, val_main_cst_0, val_main_v16, val_main_v15, one]
  exact congrArg₂ (· * ·) rfl (Finset.sum_congr rfl fun w _ => mul_comm _ _)

/-- The reference at a row and a column. -/
theorem v19_at (r : Fin 32768) (c : Fin 2048) :
    val_main_v19 (F := Ideal) A B C G W (ix2 r c) = term G W A 0 r c + term G W B 1 r c + term G W C 2 r c := by
  pointwise [val_main_v19, val_main_v18, val_main_cst_1, v17_at]
  simp only [Fin.sum_univ_three, v6_first, v6_second, v6_third, term]

end Cert.MergeRefIdeal.Value

namespace Cert.MergeIdeal.Value

open Cert.MergeIdeal Cert.MergeIdeal.Gen
open Cert.MergeRefIdeal.Value (term v19_at)

variable (m : (ℓ : Loc nD τ sig) → Buf (Elt Ideal) ℓ)

/-- Row blocks by the grid's second coordinate, column blocks by its first; the gates' blocks lie two, four further. -/
theorem idx_val : ∀ t : Fin cfg0.N, win0_0.index t = ![t.val % 32, 0]
    ∧ win0_1.index t = ![t.val % 32, 0]
    ∧ win0_2.index t = ![t.val % 32, 0]
    ∧ win0_3.index t = ![t.val % 32, t.val / 32]
    ∧ win0_4.index t = ![t.val % 32, 2 + (t.val / 32)]
    ∧ win0_5.index t = ![t.val % 32, 4 + (t.val / 32)]
    ∧ win0_6.index t = ![0, 0, t.val / 32]
    ∧ win0_7.index t = ![t.val % 32, t.val / 32] :=
  (by decide +kernel : ∀ t : Fin grid0.N, _)

/-- One entry of the block that a grid point stores. -/
theorem point (c : Dev nD) (t : Fin cfg0.N) (y) :
    k0_pay1 (iblk m c 3 t) (iblk m c 0 t) (View.ld (iblk m c 6 t) r0_1) (iblk m c 4 t) (iblk m c 1 t) (View.ld (iblk m
      c 6 t) r0_2) (iblk m c 5 t) (iblk m c 2 t) (View.ld (iblk m c 6 t) r0_3) y
      = Cert.MergeRefIdeal.Read.val_main_v19 (F := Ideal) (m ((c : Thread nD τ).loc main_arg0))
          (m ((c : Thread nD τ).loc main_arg1)) (m ((c : Thread nD τ).loc main_arg2)) (m ((c : Thread nD τ).loc main_arg3))
          (m ((c : Thread nD τ).loc main_arg4)) (((cfg0.win 7).blk t).view.emb y) := by
  obtain ⟨r, l, rfl⟩ : ∃ (r l : Fin 1024), y = ix2 r l :=
    ⟨y 0, y 1, by funext a; match a with | ⟨0, _⟩ => rfl | ⟨1, _⟩ => rfl⟩
  have ht : t.val < 64 := t.isLt
  have e7 : ((cfg0.win 7).blk t).view.emb (ix2 r l)
      = ix2 (⟨t.val % 32 * 1024 + r.val, by omega⟩ : Fin 32768) (⟨t.val / 32 * 1024 + l.val, by omega⟩ : Fin 2048) := by
    blk_ext [idx_val t]
  rw [e7, v19_at]
  pointwise [k0_pay1, term]
  blk_point [iblk, V, idx_val t]

/-- The result array after the run. -/
theorem final (c : Dev nD) : (dats m 0 c).arrAt 7 (cfgs 0).N
    = Cert.MergeRefIdeal.Read.val_main_v19 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 7 _ (by decide +kernel) fun t hf y => ?_
  blk_simp; rw [after0_7]; frame_out
  exact point m c t y

end Cert.MergeIdeal.Value

end
-- ==== Proof.OutLn.lean ====
/- The output projection's call is the reference's projection, residual and layer norm. -/
module

public import proofs.«01_k».proof.Proof.LayerNorm
public import proofs.«01_k».proof.Proof.Gen.OutLnIdeal.Value
public import proofs.«01_k».proof.Proof.Gen.OutLnRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutLnRefIdeal.Value

open Cert.OutLnRefIdeal Cert.OutLnRefIdeal.Gen Cert.OutLnRefIdeal.Read Cert.LayerNorm

variable (A : FVec Ideal S32768x2048 .bf16) (W : FVec Ideal S2048x2048 .f32) (R : FVec Ideal S32768x2048 .f32)
  (g b : FVec Ideal S2048 .f32)

/-- The residual times its factor, plus the projected row. -/
def row (r : Fin 32768) (k : Fin 2048) : EReal :=
  alpha * R (ix2 r k) + ∑ d : Fin 2048, A (ix2 r d) * W (ix2 d k)

theorem v6_at (r : Fin 32768) (k : Fin 2048) : val_main_v6 (F := Ideal) A W R (ix2 r k) = row A W R r k := by
  pointwise [val_main_v6, val_main_v5, val_main_v4, val_main_v3, val_main_v2, val_main_v1, val_main_v0, val_main_cst, root_root, row]

theorem v10_at (r : Fin 32768) : val_main_v10 (F := Ideal) A W R (ix2 r 0) = mean (row A W R r) := by
  pointwise [val_main_v10, val_main_v9, val_main_v8, val_main_v7, val_main_cst_0, val_main_cst_1, v6_at, mean]

theorem v17_at (r : Fin 32768) : val_main_v17 (F := Ideal) A W R (ix2 r 0)
    = mean (fun k => (row A W R r k - mean (row A W R r)) * (row A W R r k - mean (row A W R r))) := by
  rw [mean]
  pointwise [val_main_v17, val_main_v16, val_main_v15, val_main_v14, val_main_v13, val_main_v12, val_main_v11,
    val_main_cst_2, val_main_cst_3, v6_at, v10_at]

/-- The reference's first result at a row and a column. -/
theorem v30_at (r : Fin 32768) (c : Fin 2048) :
    val_main_v30 (F := Ideal) A W R g b (ix2 r c) = layerNorm (row A W R r) (g (ix1 c)) (b (ix1 c)) c := by
  pointwise [val_main_v30, val_main_v29, val_main_v28, val_main_v27, val_main_v26, val_main_v25, val_main_v24,
    val_main_v23, val_main_v22, val_main_v21, val_main_v20, val_main_v19, val_main_v18, val_main_cst_4, v6_at, v10_at,
    v17_at, layerNorm]

/-- The second result is the first, of another format. -/
theorem v31_at (i) : val_main_v31 (F := Ideal) A W R g b i = val_main_v30 (F := Ideal) A W R g b i := rfl

end Cert.OutLnRefIdeal.Value

namespace Cert.OutLnIdeal.Value

open Cert.OutLnIdeal Cert.OutLnIdeal.Gen Cert.LayerNorm
open Cert.OutLnRefIdeal.Value (row v30_at v31_at)

variable (m : (ℓ : Loc nD τ sig) → Buf (Elt Ideal) ℓ)

/-- The kernel's named constant is the residual's factor. -/
theorem alpha_named : Named.named (F := Ideal) κ "alpha" (φ := .f32) 0x3FD744FD#32 = alpha :=
  IdealRules.named_const.ideal_named_scalar _ _ _ _ rfl

/-- The stored entry, over the blocks that the body loads. -/
theorem pay1_at (v0 : FVec Ideal S512x2048 .f32) (v3 : FVec Ideal S512x2048 .bf16) (v4 : FVec Ideal S2048x2048 .bf16)
    (v8 v10 : FVec Ideal S1x2048 .f32) (r : Fin 512) (c : Fin 2048) :
    k0_pay1 (F := Ideal) v0 v3 v4 v8 v10 (ix2 r c)
      = layerNorm (fun k => alpha * v0 (ix2 r k) + ∑ d : Fin 2048, v3 (ix2 r d) * v4 (ix2 d k))
          (v8 (ix2 0 c)) (v10 (ix2 0 c)) c := by
  pointwise [k0_pay1, layerNorm, mean, alpha_named]

theorem idx_val : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![t.val, 0]
    ∧ win0_6.index t = ![t.val, 0] :=
  (by decide +kernel : ∀ t : Fin grid0.N, _)

/-- One entry of the f32 block that a grid point stores. -/
theorem point (c : Dev nD) (t : Fin cfg0.N) (r : Fin 512) (l : Fin 2048) :
    k0_pay1 (iblk m c 2 t) (iblk m c 0 t) (iblk m c 1 t) (iblk m c 3 t) (iblk m c 4 t) (ix2 r l)
      = Cert.OutLnRefIdeal.Read.val_main_v30 (F := Ideal) (m ((c : Thread nD τ).loc main_arg0))
          (m ((c : Thread nD τ).loc main_arg1)) (m ((c : Thread nD τ).loc main_arg2)) (m ((c : Thread nD τ).loc main_arg3))
          (m ((c : Thread nD τ).loc main_arg4))
          (ix2 ⟨t.val * 512 + r.val, by have : t.val < 64 := t.isLt; omega⟩ l) := by
  rw [v30_at, pay1_at]
  congr 1
  · funext k
    unfold row
    blk_point [iblk, V, idx_val t]
  · blk_point [iblk, V, idx_val t]
  · blk_point [iblk, V, idx_val t]

theorem ix2_of (y : S512x2048.Idx) : ∃ (r : Fin 512) (l : Fin 2048), y = ix2 r l :=
  ⟨y 0, y 1, by funext a; match a with | ⟨0, _⟩ => rfl | ⟨1, _⟩ => rfl⟩

/-- The f32 result after the run. -/
theorem final_f32 (c : Dev nD) : (dats m 0 c).arrAt 5 (cfgs 0).N
    = Cert.OutLnRefIdeal.Read.val_main_v30 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 5 _ (by decide +kernel) fun t hf y => ?_
  blk_simp; rw [after0_5]; frame_out
  obtain ⟨r, l, rfl⟩ := ix2_of y
  refine (point m c t r l).trans (congrArg _ ?_)
  symm
  blk_ext [idx_val t]

/-- The bf16 result after the run. -/
theorem final_bf16 (c : Dev nD) : (dats m 0 c).arrAt 6 (cfgs 0).N
    = Cert.OutLnRefIdeal.Read.val_main_v31 (F := Ideal) (m ((c : Thread nD τ).loc main_arg0))
        (m ((c : Thread nD τ).loc main_arg1)) (m ((c : Thread nD τ).loc main_arg2)) (m ((c : Thread nD τ).loc main_arg3))
        (m ((c : Thread nD τ).loc main_arg4)) := by
  refine (dats m 0 c).arrAt_eq_of_covers 6 _ (by decide +kernel) fun t hf y => ?_
  blk_simp; rw [after0_6]; frame_out
  obtain ⟨r, l, rfl⟩ := ix2_of y
  refine Eq.trans ?_ (v31_at _ _ _ _ _ _).symm
  refine Eq.trans (show k0_pay2 (F := Ideal) _ _ _ _ _ (ix2 r l) = k0_pay1 (F := Ideal) _ _ _ _ _ (ix2 r l) from rfl) ?_
  refine (point m c t r l).trans (congrArg _ ?_)
  symm
  blk_ext [idx_val t]

end Cert.OutLnIdeal.Value

end
-- ==== Proof.MlaPrepRef.lean ====
/- What the reference of the call that makes queries, keys and values computes, entry by entry, and what the call's
   precondition says. -/
module

public import proofs.«01_k».proof.Proof.AttnPre
public import proofs.«01_k».proof.Proof.Gen.Pre_mla_prep_args
public import proofs.«01_k».proof.Proof.Gen.MlaPrepRefIdeal.Read
public import Idealize.ShloMosaic.Lib.Pipeline.ValueKit

@[expose] public section

set_option maxRecDepth 16384

noncomputable section

open Idealize.ShloMosaic Idealize.ShloMosaic.TcCoe Idealize.SL.Sem

namespace Cert.Pre_mla_prep_args.Value

open Cert.Pre_mla_prep_args Cert.Pre_mla_prep_args.Gen
open Cert.Pre_attn_args.Value (pos_inf real_of_abs of_ofBool)

variable (U : FVec Ideal S32768x1536 .f32) (gq : FVec Ideal S768 .f32) (Wq : FVec Ideal S768x1536 .f32)
  (gk : FVec Ideal S512 .f32) (Wk : FVec Ideal S512x2048 .f32)

/-- The queries' latent columns are real. -/
theorem latent_at (h : (fn (F := Ideal) U gq Wq gk Wk).1 = fun _ => 1#1) (r : Fin 32768) (d : Fin 768) :
    ∃ x : ℝ, U (ix2 r ⟨d.val, by omega⟩) = (x : EReal) := by
  have e := congrFun h (ix2 r d)
  pointwise [fn, pos_inf] at e
  exact real_of_abs _ (of_ofBool _ e)

/-- Their gain is real. -/
theorem gain_at (h : (fn (F := Ideal) U gq Wq gk Wk).2.1 = fun _ => 1#1) (d : Fin 768) :
    ∃ x : ℝ, gq (ix1 d) = (x : EReal) := by
  have e := congrFun h (ix1 d)
  pointwise [fn, pos_inf] at e
  exact real_of_abs _ (of_ofBool _ e)

/-- The second halves of their rotary weights are real. -/
theorem weight_at (h : (fn (F := Ideal) U gq Wq gk Wk).2.2.1 = fun _ => 1#1) (d : Fin 768) (n : Fin 8) (i : Fin 32) :
    ∃ x : ℝ, Wq (ix2 d ⟨n.val * 192 + (160 + i.val), by omega⟩) = (x : EReal) := by
  have e := congrFun h (ix3 d n i)
  pointwise [fn, pos_inf] at e
  exact real_of_abs _ (of_ofBool _ e)

/-- The turned columns' first half is minus the rotary key's second. -/
theorem turned_fst (h : (fn (F := Ideal) U gq Wq gk Wk).2.2.2.1 = fun _ => 1#1) (r : Fin 32768) (i : Fin 32) :
    U (ix2 r ⟨1408 + i.val, by omega⟩) = -U (ix2 r ⟨1280 + (32 + i.val), by omega⟩) := by
  have e := congrFun h (ix2 r i)
  pointwise [fn] at e
  exact of_ofBool _ e

/-- Their second half is the rotary key's first. -/
theorem turned_snd (h : (fn (F := Ideal) U gq Wq gk Wk).2.2.2.2 = fun _ => 1#1) (r : Fin 32768) (i : Fin 32) :
    U (ix2 r ⟨1408 + (32 + i.val), by omega⟩) = U (ix2 r ⟨1280 + i.val, by omega⟩) := by
  have e := congrFun h (ix2 r i)
  pointwise [fn] at e
  exact of_ofBool _ e

end Cert.Pre_mla_prep_args.Value

namespace Cert.MlaPrepRefIdeal.Value

open Cert.MlaPrepRefIdeal Cert.MlaPrepRefIdeal.Gen Cert.MlaPrepRefIdeal.Read

/-- The constants as real numbers. -/
theorem c192 : Ideal.ofBits .f32 0x43400000#32 = ((192 : ℝ) : EReal) := by
  simp [Ideal.ofBits, Ideal.ieee, -EReal.coe_mul]; norm_num

theorem c2 : Ideal.ofBits .f32 0x40000000#32 = ((2 : ℝ) : EReal) := by
  simp [Ideal.ofBits, Ideal.ieee, -EReal.coe_mul]; norm_num

theorem c1 : Ideal.ofBits .f32 0x3F800000#32 = (1 : EReal) := by
  simp [Ideal.ofBits, Ideal.ieee, -EReal.coe_mul]; norm_num

theorem c768 : Ideal.ofBits .f32 0x44400000#32 = ((768 : ℝ) : EReal) := by
  simp [Ideal.ofBits, Ideal.ieee, -EReal.coe_mul]; norm_num

/-- The queries' factor, one over the root of 192 and over the logarithm of 2. -/
def scale : EReal := (((Real.sqrt 192)⁻¹ * (Real.log 2)⁻¹ : ℝ) : EReal)

/-- A row over the root of its mean square, times the gain. -/
def rms {n : ℕ} (w : EReal) (x g : Fin n → EReal) (d : Fin n) : EReal :=
  x d * Ideal.rsqrt (Ideal.div (∑ k, x k * x k) w + Ideal.ofBits .f32 0x358637BD#32) * g d

variable (U : FVec Ideal S32768x1536 .f32) (gq : FVec Ideal S768 .f32) (Wq : FVec Ideal S768x1536 .f32)
  (gk : FVec Ideal S512 .f32) (Wk : FVec Ideal S512x2048 .f32)

/-- The queries' latent row, normalised. -/
def latQ (r : Fin 32768) : Fin 768 → EReal :=
  rms (Ideal.ofBits .f32 0x44400000#32) (fun d => U (ix2 r ⟨d.val, by omega⟩)) (fun d => gq (ix1 d))

/-- The keys' and values' latent row, normalised. -/
def latK (r : Fin 32768) : Fin 512 → EReal :=
  rms (Ideal.ofBits .f32 0x44000000#32) (fun d => U (ix2 r ⟨768 + d.val, by omega⟩)) (fun d => gk (ix1 d))

/-- A column of the queries' product. -/
def pq (r : Fin 32768) (j : Fin 1536) : EReal := ∑ d : Fin 768, latQ U gq r d * Wq (ix2 d j)

/-- A column of the keys' and values' product. -/
def pk (r : Fin 32768) (j : Fin 2048) : EReal := ∑ d : Fin 512, latK U gk r d * Wk (ix2 d j)

/-- A pair's entry turned by its angle. -/
def turn (x1 x2 c s : Fin 32 → EReal) (i : Fin 64) : EReal :=
  if h : i.val < 32 then x1 ⟨i.val, h⟩ * c ⟨i.val, h⟩ - x2 ⟨i.val, h⟩ * s ⟨i.val, h⟩
  else x1 ⟨i.val - 32, by omega⟩ * s ⟨i.val - 32, by omega⟩ + x2 ⟨i.val - 32, by omega⟩ * c ⟨i.val - 32, by omega⟩

/-- The cosine and the sine of a position's angles. -/
def cosAt (p : Fin 4096) (i : Fin 32) : EReal := val_main_v16 (F := Ideal) (ix2 p i)
def sinAt (p : Fin 4096) (i : Fin 32) : EReal := val_main_v17 (F := Ideal) (ix2 p i)

/-- The row of a sequence's position. -/
abbrev rowOf (s : Fin 8) (p : Fin 4096) : Fin 32768 := ⟨s.val * 4096 + p.val, by omega⟩

theorem v20_at (s : Fin 8) (p : Fin 4096) (d : Fin 768) :
    val_main_v20 (F := Ideal) U (ix3 s p d) = U (ix2 (rowOf s p) ⟨d.val, by omega⟩) := by
  pointwise [val_main_v20, val_main_v19, val_main_v18]

theorem v21_at (s : Fin 8) (p : Fin 4096) (d : Fin 512) :
    val_main_v21 (F := Ideal) U (ix3 s p d) = U (ix2 (rowOf s p) ⟨768 + d.val, by omega⟩) := by
  pointwise [val_main_v21, val_main_v19, val_main_v18]

theorem v22_at (s : Fin 8) (p : Fin 4096) (d : Fin 64) :
    val_main_v22 (F := Ideal) U (ix3 s p d) = U (ix2 (rowOf s p) ⟨1280 + d.val, by omega⟩) := by
  pointwise [val_main_v22, val_main_v19, val_main_v18]

theorem v35_at (s : Fin 8) (p : Fin 4096) (d : Fin 768) :
    val_main_v35 (F := Ideal) U gq (ix3 s p d) = latQ U gq (rowOf s p) d := by
  unfold latQ rms
  pointwise [val_main_v35, val_main_v34, val_main_v33, val_main_v32, val_main_v31, val_main_v30, val_main_v29,
    val_main_v28, val_main_v27, val_main_v26, val_main_v25, val_main_v24, val_main_v23, val_main_cst_3, val_main_cst_4,
    val_main_cst_5, v20_at]

theorem v52_at (s : Fin 8) (p : Fin 4096) (d : Fin 512) :
    val_main_v52 (F := Ideal) U gk (ix3 s p d) = latK U gk (rowOf s p) d := by
  unfold latK rms
  pointwise [val_main_v52, val_main_v51, val_main_v50, val_main_v49, val_main_v48, val_main_v47, val_main_v46,
    val_main_v45, val_main_v44, val_main_v43, val_main_v42, val_main_v41, val_main_v40, val_main_cst_6, val_main_cst_7,
    val_main_cst_8, v21_at]

theorem v36_at (s : Fin 8) (p : Fin 4096) (j : Fin 1536) :
    val_main_v36 (F := Ideal) U gq Wq (ix3 s p j) = pq U gq Wq (rowOf s p) j := by
  unfold pq
  pointwise [val_main_v36, v35_at]

theorem v53_at (s : Fin 8) (p : Fin 4096) (j : Fin 2048) :
    val_main_v53 (F := Ideal) U gk Wk (ix3 s p j) = pk U gk Wk (rowOf s p) j := by
  unfold pk
  pointwise [val_main_v53, v52_at]

theorem v38_at (s : Fin 8) (p : Fin 4096) (n : Fin 8) (l : Fin 128) : val_main_v38 (F := Ideal) U gq Wq (ix4 s p n l)
    = pq U gq Wq (rowOf s p) ⟨n.val * 192 + l.val, by omega⟩ := by
  pointwise [val_main_v38, val_main_v37, v36_at]

theorem v39_at (s : Fin 8) (p : Fin 4096) (n : Fin 8) (l : Fin 64) : val_main_v39 (F := Ideal) U gq Wq (ix4 s p n l)
    = pq U gq Wq (rowOf s p) ⟨n.val * 192 + (128 + l.val), by omega⟩ := by
  pointwise [val_main_v39, val_main_v37, v36_at]

theorem v55_at (s : Fin 8) (p : Fin 4096) (n : Fin 8) (l : Fin 128) : val_main_v55 (F := Ideal) U gk Wk (ix4 s p n l)
    = pk U gk Wk (rowOf s p) ⟨n.val * 256 + l.val, by omega⟩ := by
  pointwise [val_main_v55, val_main_v54, v53_at]

theorem v56_at (s : Fin 8) (p : Fin 4096) (n : Fin 8) (l : Fin 128) : val_main_v56 (F := Ideal) U gk Wk (ix4 s p n l)
    = pk U gk Wk (rowOf s p) ⟨n.val * 256 + (128 + l.val), by omega⟩ := by
  pointwise [val_main_v56, val_main_v54, v53_at]

/-- The rotary part of a head's query. -/
theorem v71_at (s : Fin 8) (p : Fin 4096) (n : Fin 8) (i : Fin 64) : val_main_v71 (F := Ideal) U gq Wq (ix4 s p n i)
    = turn (fun i => pq U gq Wq (rowOf s p) ⟨n.val * 192 + (128 + i.val), by omega⟩)
        (fun i => pq U gq Wq (rowOf s p) ⟨n.val * 192 + (128 + (32 + i.val)), by omega⟩) (cosAt p) (sinAt p) i := by
  unfold turn cosAt sinAt
  pointwise [val_main_v71, val_main_v70, val_main_v69, val_main_v68, val_main_v67, val_main_v66, val_main_v65,
    val_main_v64, val_main_v63, val_main_v62, val_main_v61, val_main_v60, val_main_v59, val_main_v58, val_main_v57, v39_at]

/-- The rotary part of the key. -/
theorem v86_at (s : Fin 8) (p : Fin 4096) (i : Fin 64) : val_main_v86 (F := Ideal) U (ix3 s p i)
    = turn (fun i => U (ix2 (rowOf s p) ⟨1280 + i.val, by omega⟩))
        (fun i => U (ix2 (rowOf s p) ⟨1280 + (32 + i.val), by omega⟩)) (cosAt p) (sinAt p) i := by
  unfold turn cosAt sinAt
  pointwise [val_main_v86, val_main_v85, val_main_v84, val_main_v83, val_main_v82, val_main_v81, val_main_v80,
    val_main_v79, val_main_v78, val_main_v77, val_main_v76, val_main_v75, val_main_v74, val_main_v73, val_main_v72, v22_at]

/-- The reference's factor. -/
theorem v90_at (i) : val_main_v90 (F := Ideal) i = scale := by
  have h : 0 < Real.log 2 := Real.log_pos (by norm_num)
  have h' : 0 < Real.sqrt 192 := Real.sqrt_pos.mpr (by norm_num)
  pointwise [val_main_v90, val_main_v89, val_main_v88, val_main_v87, val_main_cst_9, val_main_cst_10, val_main_cst_11, c192,
    c2, c1]
  rw [Ideal.sqrt_coe, if_neg (by norm_num), Ideal.div_coe h'.ne', Ideal.log_coe, if_neg (by norm_num), Ideal.div_coe h.ne',
    one_mul, ← EReal.coe_mul, one_div, one_div, scale]

/-- A query's entry: the head's first 128 columns, its turned ones, and zeros, in that order. -/
def query (r : Fin 32768) (n : Fin 8) (l : Fin 256) : EReal :=
  if h : l.val < 128 then pq U gq Wq r ⟨n.val * 192 + l.val, by omega⟩ * scale
  else if h : l.val - 128 < 64 then
    turn (fun i => pq U gq Wq r ⟨n.val * 192 + (128 + i.val), by omega⟩)
      (fun i => pq U gq Wq r ⟨n.val * 192 + (128 + (32 + i.val)), by omega⟩) (cosAt ⟨r.val % 4096, by omega⟩)
      (sinAt ⟨r.val % 4096, by omega⟩) ⟨l.val - 128, h⟩ * scale
  else 0

/-- A key's entry, likewise. -/
def key (r : Fin 32768) (n : Fin 8) (l : Fin 256) : EReal :=
  if h : l.val < 128 then pk U gk Wk r ⟨n.val * 256 + l.val, by omega⟩
  else if h : l.val - 128 < 64 then
    turn (fun i => U (ix2 r ⟨1280 + i.val, by omega⟩)) (fun i => U (ix2 r ⟨1280 + (32 + i.val), by omega⟩))
      (cosAt ⟨r.val % 4096, by omega⟩) (sinAt ⟨r.val % 4096, by omega⟩) ⟨l.val - 128, h⟩
  else 0

/-- A value's entry, a one after it and zeros. -/
def value (r : Fin 32768) (n : Fin 8) (l : Fin 256) : EReal :=
  if h : l.val < 128 then pk U gk Wk r ⟨n.val * 256 + (128 + l.val), by omega⟩
  else if h : l.val - 128 < 1 then 1 else 0

theorem row_eq (r : Fin 32768) (h) : (⟨r.val / 4096 * 4096 + r.val % 4096, h⟩ : Fin 32768) = r :=
  Fin.ext (Nat.div_add_mod' _ _)

/-- The reference's queries. -/
theorem v100_at (r : Fin 32768) (n : Fin 8) (l : Fin 256) :
    val_main_v100 (F := Ideal) U gq Wq (ix2 r ⟨n.val * 256 + l.val, by omega⟩) = query U gq Wq r n l := by
  unfold query
  pointwise [val_main_v100, val_main_v99, val_main_v98, val_main_v97, val_main_v96, val_main_v95, val_main_v94,
    val_main_v93, val_main_cst_12, v38_at, v71_at, v90_at, rowOf]
  simp only [row_eq]

/-- The reference's keys. -/
theorem v104_at (r : Fin 32768) (n : Fin 8) (l : Fin 256) :
    val_main_v104 (F := Ideal) U gk Wk (ix2 r ⟨n.val * 256 + l.val, by omega⟩) = key U gk Wk r n l := by
  unfold key
  pointwise [val_main_v104, val_main_v103, val_main_v102, val_main_v101, val_main_v92, val_main_v91, val_main_cst_13,
    v55_at, v86_at, rowOf]
  simp only [row_eq]

/-- The reference's values. -/
theorem v109_at (r : Fin 32768) (n : Fin 8) (l : Fin 256) :
    val_main_v109 (F := Ideal) U gk Wk (ix2 r ⟨n.val * 256 + l.val, by omega⟩) = value U gk Wk r n l := by
  unfold value
  pointwise [val_main_v109, val_main_v108, val_main_v107, val_main_v106, val_main_v105, val_main_cst_14, val_main_cst_15,
    v56_at, c1, rowOf]
  simp only [row_eq]

end Cert.MlaPrepRefIdeal.Value

end
-- ==== Proof.MlaPrepTiles.lean ====
/- The latent attention's call that makes queries, keys and values: what its body stores, entry by entry. -/
module

public import proofs.«01_k».proof.Proof.MlaPrepRef
public import proofs.«01_k».proof.Proof.Gen.MlaPrepIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MlaPrepIdeal.Value

open Cert.MlaPrepIdeal Cert.MlaPrepIdeal.Gen
open Cert.MlaPrepRefIdeal.Value (scale rms c1)

/-- The named constant is the queries' factor. -/
theorem scale_named : Named.named (F := Ideal) κ "scale" (φ := .f32) 0x3DD53B95#32 = scale :=
  IdealRules.named_const.ideal_named_scalar _ _ _ _ rfl

/-- An index of a 512 by 128 tile is its row and its column. -/
theorem tile_ix (x : S512x128.Idx) : ∃ (a : Fin 512) (b : Fin 128), x = ix2 a b :=
  ⟨x 0, x 1, by funext a; match a with | ⟨0, _⟩ => rfl | ⟨1, _⟩ => rfl⟩

/-- The coordinates of an index given by its row and its column. -/
theorem ix2_at0 {n k : ℕ} (a : Fin n) (b : Fin k) : ((ix2 a b) 0).val = a.val := rfl
theorem ix2_at1 {n k : ℕ} (a : Fin n) (b : Fin k) : ((ix2 a b) 1).val = b.val := rfl

variable (x0 : Vec Ideal S512x1536 .f32) (x1 : Vec Ideal S1x768 .f32) (x2 : Vec Ideal S1x512 .f32)
  (x3 : Vec Ideal S768x3072 .bf16) (x4 : Vec Ideal S512x2048 .bf16) (x5 : Vec Ideal S512x128 .f32)
  (x6 : Vec Ideal S512x128 .f32) (r : Fin 512)

/-- The queries' product. -/
theorem pay45_at (k : Fin 3072) : k0_pay45 (F := Ideal) x0 x1 x2 x3 x4 x5 x6 (ix2 r k)
    = ∑ d : Fin 768, rms (Ideal.ofBits .f32 0x44400000#32) (fun d => x0 (ix2 r ⟨d.val, by omega⟩))
        (fun d => x1 (ix2 0 d)) d * x3 (ix2 d k) := by
  unfold rms
  pointwise [k0_pay45, k0_pay3]

/-- The keys' and values' product. -/
theorem pay47_at (k : Fin 2048) : k0_pay47 (F := Ideal) x0 x1 x2 x3 x4 x5 x6 (ix2 r k)
    = ∑ d : Fin 512, rms (Ideal.ofBits .f32 0x44000000#32) (fun d => x0 (ix2 r ⟨768 + d.val, by omega⟩))
        (fun d => x2 (ix2 0 d)) d * x4 (ix2 d k) := by
  unfold rms
  pointwise [k0_pay47, k0_pay46, k0_pay5, k0_pay4]

set_option maxHeartbeats 1600000 in
/-- A head's first 128 columns of queries. -/
theorem query_fst (n : Fin 8) (l : Fin 128) :
    out0_7 (F := Ideal) x0 x1 x2 x3 x4 x5 x6 (ix2 r ⟨n.val * 256 + l.val, by omega⟩)
      = k0_pay45 (F := Ideal) x0 x1 x2 x3 x4 x5 x6 (ix2 r ⟨n.val * 128 + l.val, by omega⟩) * scale := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay8, k0_pay13, k0_pay17, k0_pay21, k0_pay25, k0_pay29, k0_pay30, k0_pay31, k0_pay35, k0_pay39, scale_named]
       first
         | done
         | (refine congrArg (fun k : Fin 3072 => k0_pay45 (F := Ideal) x0 x1 x2 x3 x4 x5 x6 (ix2 r k) * scale) (Fin.ext ?_)
            dsimp only
            omega))

set_option maxHeartbeats 1600000 in
/-- Its next 128. -/
theorem query_snd (n : Fin 8) (l : Fin 128) :
    out0_7 (F := Ideal) x0 x1 x2 x3 x4 x5 x6 (ix2 r ⟨n.val * 256 + (128 + l.val), by omega⟩)
      = (k0_pay45 (F := Ideal) x0 x1 x2 x3 x4 x5 x6 (ix2 r ⟨1024 + (n.val * 128 + l.val), by omega⟩) * x5 (ix2 r l)
          + k0_pay45 (F := Ideal) x0 x1 x2 x3 x4 x5 x6 (ix2 r ⟨2048 + (n.val * 128 + l.val), by omega⟩) * x6 (ix2 r l)) * scale := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay9, k0_pay14, k0_pay18, k0_pay22, k0_pay26, k0_pay32, k0_pay36, k0_pay40, k0_pay43, k0_pay44, k0_pay1, k0_pay2, scale_named]
       first
         | done
         | (refine congrArg₂ (fun k k' : Fin 3072 => (k0_pay45 (F := Ideal) x0 x1 x2 x3 x4 x5 x6 (ix2 r k) * x5 (ix2 r b)
              + k0_pay45 (F := Ideal) x0 x1 x2 x3 x4 x5 x6 (ix2 r k') * x6 (ix2 r b)) * scale) (Fin.ext ?_) (Fin.ext ?_) <;>
            dsimp only <;> omega))

theorem pay47_cast : k0_pay5 (F := Ideal) (k0_pay46 x0 x1 x2 x3 x4 x5 x6) (View.ld x4 r0_6)
    = k0_pay47 x0 x1 x2 x3 x4 x5 x6 := rfl

set_option maxHeartbeats 1600000 in
/-- A head's first 128 columns of keys. -/
theorem key_fst (n : Fin 8) (l : Fin 128) :
    out0_8 (F := Ideal) x0 x1 x2 x3 x4 x5 x6 (ix2 r ⟨n.val * 256 + l.val, by omega⟩)
      = k0_pay47 (F := Ideal) x0 x1 x2 x3 x4 x5 x6 (ix2 r ⟨n.val * 128 + l.val, by omega⟩) := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay10, k0_pay15, k0_pay19, k0_pay23, k0_pay27, k0_pay33, k0_pay37, k0_pay41, pay47_cast]
       first
         | done
         | (refine congrArg (fun k : Fin 2048 => k0_pay47 (F := Ideal) x0 x1 x2 x3 x4 x5 x6 (ix2 r k)) (Fin.ext ?_)
            dsimp only
            omega))

set_option maxHeartbeats 1600000 in
/-- Its next 128. -/
theorem key_snd (n : Fin 8) (l : Fin 128) :
    out0_8 (F := Ideal) x0 x1 x2 x3 x4 x5 x6 (ix2 r ⟨n.val * 256 + (128 + l.val), by omega⟩)
      = x0 (ix2 r ⟨1280 + l.val, by omega⟩) * x5 (ix2 r l) + x0 (ix2 r ⟨1408 + l.val, by omega⟩) * x6 (ix2 r l) := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay48, k0_pay6, k0_pay43, k0_pay44, k0_pay1, k0_pay2]
       try done)

set_option maxHeartbeats 1600000 in
/-- A head's first 128 columns of values. -/
theorem value_fst (n : Fin 8) (l : Fin 128) :
    out0_9 (F := Ideal) x0 x1 x2 x3 x4 x5 x6 (ix2 r ⟨n.val * 256 + l.val, by omega⟩)
      = k0_pay47 (F := Ideal) x0 x1 x2 x3 x4 x5 x6 (ix2 r ⟨1024 + (n.val * 128 + l.val), by omega⟩) := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay12, k0_pay11, k0_pay16, k0_pay20, k0_pay24, k0_pay28, k0_pay34, k0_pay38, k0_pay42, pay47_cast]
       first
         | done
         | (refine congrArg (fun k : Fin 2048 => k0_pay47 (F := Ideal) x0 x1 x2 x3 x4 x5 x6 (ix2 r k)) (Fin.ext ?_)
            dsimp only
            omega))

/-- A lane is the first one exactly when its number is zero. -/
theorem one_at : ∀ b : Fin 128, IntOp.cmpi .eq (BitVec.ofNat 32 b.val) 0#32 = if b.val = 0 then 1#1 else 0#1 := by
  decide +kernel

set_option maxHeartbeats 1600000 in
/-- Its next 128. -/
theorem value_snd (n : Fin 8) (l : Fin 128) :
    out0_9 (F := Ideal) x0 x1 x2 x3 x4 x5 x6 (ix2 r ⟨n.val * 256 + (128 + l.val), by omega⟩)
      = if l.val = 0 then 1 else 0 := by
  canon_tiles x h
  all_goals
    obtain ⟨a, b, rfl⟩ := tile_ix x
    simp only [ix2_at0, ix2_at1] at h0 h1
  all_goals first
    | (exfalso; omega)
    | (obtain rfl : r = a := Fin.ext h0
       obtain rfl : b = l := Fin.ext (by omega)
       pointwise [k0_pay49, k0_pay7, c1]
       rw [one_at]
       split_ifs <;> rfl)

end Cert.MlaPrepIdeal.Value

end
-- ==== Proof.MlaPrep.lean ====
/- The latent attention's call that makes queries, keys and values is its reference, where the precondition holds. -/
module

public import proofs.«01_k».proof.Proof.Online
public import proofs.«01_k».proof.Proof.MlaPrepTiles
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.MlaPrepIdeal.Value

open Cert.MlaPrepIdeal Cert.MlaPrepIdeal.Gen
open Cert.MlaPrepRefIdeal.Value

variable (m : (ℓ : Loc nD τ sig) → Buf (Elt Ideal) ℓ)

/-- The queries' weights by head. -/
def heads (W : FVec Ideal S768x1536 .f32) : FVec Ideal S768x8x192 .f32 :=
  shapeCast S768x8x192 W shapeCasts_S768x1536_S768x8x192

/-- The heads' rotary columns, their first and second halves. -/
def rotFst (W : FVec Ideal S768x1536 .f32) : FVec Ideal S768x8x32 .f32 :=
  extractStridedSlice S768x8x32 ![0, 0, 128] (heads W) slices_S768x8x192_S768x8x32_0_0_128
def rotSnd (W : FVec Ideal S768x1536 .f32) : FVec Ideal S768x8x32 .f32 :=
  extractStridedSlice S768x8x32 ![0, 0, 160] (heads W) slices_S768x8x192_S768x8x32_0_0_160

/-- Two halves of a head's rotary columns with zeros after them. -/
def padded (a b : FVec Ideal S768x8x32 .f32) : FVec Ideal S768x1024 .f32 :=
  shapeCast S768x1024 (concatenate S768x8x128 2 [⟨S768x8x32, a⟩, ⟨S768x8x32, b⟩,
    ⟨S768x8x64, broadcastInDim S768x8x64 ![] bcast_S_S768x8x64 (constant (F := Ideal) S_ .f32 0x00000000#32)⟩]
    concatenates_S768x8x32_S768x8x32_S768x8x64_S768x8x128_d2 : FVec Ideal S768x8x128 .f32) shapeCasts_S768x8x128_S768x1024

/-- The heads' other columns. -/
def plain (W : FVec Ideal S768x1536 .f32) : FVec Ideal S768x1024 .f32 :=
  shapeCast S768x1024 (extractStridedSlice S768x8x128 ![0, 0, 0] (heads W) slices_S768x8x192_S768x8x128_0_0_0)
    shapeCasts_S768x8x128_S768x1024

/-- The queries' weights as the operations before the call make them of the argument's. -/
def wideQ (W : FVec Ideal S768x1536 .f32) : FVec Ideal S768x3072 .bf16 :=
  truncf .bf16 (concatenate S768x3072 1 [⟨S768x1024, plain W⟩, ⟨S768x1024, padded (rotFst W) (rotSnd W)⟩,
    ⟨S768x1024, padded (Host.negf (rotSnd W)) (rotFst W)⟩]
    concatenates_S768x1024_S768x1024_S768x1024_S768x3072_d1 : FVec Ideal S768x3072 .f32) bitsLt_bf16_f32

/-- The keys' and values' weights by head. -/
def headsK (W : FVec Ideal S512x2048 .f32) : FVec Ideal S512x8x256 .f32 :=
  shapeCast S512x8x256 W shapeCasts_S512x2048_S512x8x256

/-- The keys' columns of the weights, then the values'. -/
def wideK (W : FVec Ideal S512x2048 .f32) : FVec Ideal S512x2048 .bf16 :=
  truncf .bf16 (concatenate S512x2048 1 [
    ⟨S512x1024, shapeCast S512x1024 (extractStridedSlice S512x8x128 ![0, 0, 0] (headsK W)
      slices_S512x8x256_S512x8x128_0_0_0) shapeCasts_S512x8x128_S512x1024⟩,
    ⟨S512x1024, shapeCast S512x1024 (extractStridedSlice S512x8x128 ![0, 0, 128] (headsK W)
      slices_S512x8x256_S512x8x128_0_0_128) shapeCasts_S512x8x128_S512x1024⟩]
    concatenates_S512x1024_S512x1024_S512x2048_d1 : FVec Ideal S512x2048 .f32) bitsLt_bf16_f32

/-- A table of angles' values twice, with zeros after it. -/
def table (v : FVec Ideal S4096x32 .f32) : FVec Ideal S4096x128 .f32 :=
  concatenate S4096x128 1 [⟨S4096x32, v⟩, ⟨S4096x32, v⟩,
    ⟨S4096x64, broadcastInDim S4096x64 ![] bcast_S_S4096x64 (constant (F := Ideal) S_ .f32 0x00000000#32)⟩]
    concatenates_S4096x32_S4096x32_S4096x64_S4096x128_d1

theorem wideQ_eq (c : Dev nD) : V m c main_v41 = wideQ (m ((c : Thread nD τ).loc main_arg2)) := by
  unfold_abbrev_sides
  after_results <;> rfl

theorem wideK_eq (c : Dev nD) : V m c main_v42 = wideK (m ((c : Thread nD τ).loc main_arg4)) := by
  unfold_abbrev_sides
  after_results <;> rfl

theorem cos_eq (c : Dev nD) : V m c main_v37 = table (Cert.MlaPrepRefIdeal.Read.val_main_v16 (F := Ideal)) := by
  unfold_abbrev_sides
  after_results <;> rfl

theorem sin_eq (c : Dev nD) : V m c main_v38 = table (Cert.MlaPrepRefIdeal.Read.val_main_v17 (F := Ideal)) := by
  unfold_abbrev_sides
  after_results <;> rfl

theorem gainQ_eq (c : Dev nD) : V m c main_v39
    = shapeCast S1x768 (m ((c : Thread nD τ).loc main_arg1)) shapeCasts_S768_S1x768 := by
  unfold_abbrev_sides
  after_results <;> rfl

theorem gainK_eq (c : Dev nD) : V m c main_v40
    = shapeCast S1x512 (m ((c : Thread nD τ).loc main_arg3)) shapeCasts_S512_S1x512 := by
  unfold_abbrev_sides
  after_results <;> rfl

theorem plain_at (W : FVec Ideal S768x1536 .f32) (d : Fin 768) (n : Fin 8) (l : Fin 128) :
    wideQ W (ix2 d ⟨n.val * 128 + l.val, by omega⟩) = W (ix2 d ⟨n.val * 192 + l.val, by omega⟩) := by
  pointwise [wideQ, plain, heads]
  exact dif_pos (by omega)

/-- A head's rotary columns and zeros. -/
theorem rot_at (W : FVec Ideal S768x1536 .f32) (d : Fin 768) (n : Fin 8) (l : Fin 128) :
    wideQ W (ix2 d ⟨1024 + (n.val * 128 + l.val), by omega⟩)
      = if h : l.val < 32 then W (ix2 d ⟨n.val * 192 + (128 + l.val), by omega⟩)
        else if h : l.val - 32 < 32 then W (ix2 d ⟨n.val * 192 + (160 + (l.val - 32)), by omega⟩) else 0 := by
  pointwise [wideQ, padded, rotFst, rotSnd, heads]
  exact dif_pos (by omega)

/-- The same with the second half negated and first. -/
theorem turned_at (W : FVec Ideal S768x1536 .f32) (d : Fin 768) (n : Fin 8) (l : Fin 128) :
    wideQ W (ix2 d ⟨2048 + (n.val * 128 + l.val), by omega⟩)
      = if h : l.val < 32 then -W (ix2 d ⟨n.val * 192 + (160 + l.val), by omega⟩)
        else if h : l.val - 32 < 32 then W (ix2 d ⟨n.val * 192 + (128 + (l.val - 32)), by omega⟩) else 0 := by
  pointwise [wideQ, padded, rotFst, rotSnd, heads]
  rw [dif_neg (by omega), dif_neg (by omega)]
  simp only [show 2048 + (n.val * 128 + l.val) - 1024 - 1024 = n.val * 128 + l.val by omega,
    show (n.val * 128 + l.val) % 128 = l.val by omega, show (n.val * 128 + l.val) / 128 = n.val by omega]

theorem keys_at (W : FVec Ideal S512x2048 .f32) (d : Fin 512) (n : Fin 8) (l : Fin 128) :
    wideK W (ix2 d ⟨n.val * 128 + l.val, by omega⟩) = W (ix2 d ⟨n.val * 256 + l.val, by omega⟩) := by
  pointwise [wideK, headsK]
  exact dif_pos (by omega)

theorem values_at (W : FVec Ideal S512x2048 .f32) (d : Fin 512) (n : Fin 8) (l : Fin 128) :
    wideK W (ix2 d ⟨1024 + (n.val * 128 + l.val), by omega⟩) = W (ix2 d ⟨n.val * 256 + (128 + l.val), by omega⟩) := by
  pointwise [wideK, headsK]

theorem table_at (v : FVec Ideal S4096x32 .f32) (p : Fin 4096) (l : Fin 128) :
    table v (ix2 p l) = if h : l.val < 32 then v (ix2 p ⟨l.val, h⟩)
      else if h : l.val - 32 < 32 then v (ix2 p ⟨l.val - 32, h⟩) else 0 := by
  pointwise [table]

theorem idx_val : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val % 8, 0]
    ∧ win0_6.index t = ![t.val % 8, 0]
    ∧ win0_7.index t = ![t.val, 0]
    ∧ win0_8.index t = ![t.val, 0]
    ∧ win0_9.index t = ![t.val, 0] :=
  (by decide +kernel : ∀ t : Fin grid0.N, _)

theorem bound (t : Fin cfg0.N) (r : Fin 512) : t.val * 512 + r.val < 32768 := by
  have : t.val < 64 := t.isLt
  omega

/-- The row of the whole array at a block's row. -/
abbrev row (t : Fin cfg0.N) (r : Fin 512) : Fin 32768 := ⟨t.val * 512 + r.val, bound t r⟩

theorem blk0_at (c : Dev nD) (t : Fin cfg0.N) (r : Fin 512) (k : Fin 1536) :
    iblk m c 0 t (ix2 r k) = m ((c : Thread nD τ).loc main_arg0) (ix2 (row t r) k) := by
  blk_point [iblk, V, idx_val t]

theorem blk1_at (c : Dev nD) (t : Fin cfg0.N) (d : Fin 768) :
    iblk m c 1 t (ix2 0 d) = m ((c : Thread nD τ).loc main_arg1) (ix1 d) := by
  have e : shapeCast S1x768 (m ((c : Thread nD τ).loc main_arg1)) shapeCasts_S768_S1x768 (ix2 0 d)
    = m ((c : Thread nD τ).loc main_arg1) (ix1 d) := by pointwise []
  refine Eq.trans ?_ e
  rw [← gainQ_eq]
  refine congrArg (show FVec Ideal S1x768 .f32 from V m c main_v39) ?_
  blk_ext [idx_val t]

theorem blk2_at (c : Dev nD) (t : Fin cfg0.N) (d : Fin 512) :
    iblk m c 2 t (ix2 0 d) = m ((c : Thread nD τ).loc main_arg3) (ix1 d) := by
  have e : shapeCast S1x512 (m ((c : Thread nD τ).loc main_arg3)) shapeCasts_S512_S1x512 (ix2 0 d)
    = m ((c : Thread nD τ).loc main_arg3) (ix1 d) := by pointwise []
  refine Eq.trans ?_ e
  rw [← gainK_eq]
  refine congrArg (show FVec Ideal S1x512 .f32 from V m c main_v40) ?_
  blk_ext [idx_val t]

theorem blk3_at (c : Dev nD) (t : Fin cfg0.N) (d : Fin 768) (k : Fin 3072) :
    iblk m c 3 t (ix2 d k) = wideQ (m ((c : Thread nD τ).loc main_arg2)) (ix2 d k) := by
  rw [← wideQ_eq]
  refine congrArg (show FVec Ideal S768x3072 .bf16 from V m c main_v41) ?_
  blk_ext [idx_val t]

theorem blk4_at (c : Dev nD) (t : Fin cfg0.N) (d : Fin 512) (k : Fin 2048) :
    iblk m c 4 t (ix2 d k) = wideK (m ((c : Thread nD τ).loc main_arg4)) (ix2 d k) := by
  rw [← wideK_eq]
  refine congrArg (show FVec Ideal S512x2048 .bf16 from V m c main_v42) ?_
  blk_ext [idx_val t]

theorem blk5_at (c : Dev nD) (t : Fin cfg0.N) (r : Fin 512) (l : Fin 128) : iblk m c 5 t (ix2 r l)
    = table (Cert.MlaPrepRefIdeal.Read.val_main_v16 (F := Ideal)) (ix2 ⟨(row t r).val % 4096, by omega⟩ l) := by
  rw [← cos_eq]
  refine congrArg (show FVec Ideal S4096x128 .f32 from V m c main_v37) ?_
  blk_ext [idx_val t]
  all_goals omega

theorem blk6_at (c : Dev nD) (t : Fin cfg0.N) (r : Fin 512) (l : Fin 128) : iblk m c 6 t (ix2 r l)
    = table (Cert.MlaPrepRefIdeal.Read.val_main_v17 (F := Ideal)) (ix2 ⟨(row t r).val % 4096, by omega⟩ l) := by
  rw [← sin_eq]
  refine congrArg (show FVec Ideal S4096x128 .f32 from V m c main_v38) ?_
  blk_ext [idx_val t]
  all_goals omega

/-- The negated products of real numbers add up to the negated sum. -/
theorem sum_neg {n : ℕ} (x w : Fin n → EReal) (hx : ∀ d, ∃ a : ℝ, x d = (a : EReal)) (hw : ∀ d, ∃ a : ℝ, w d = (a : EReal)) :
    ∑ d, x d * -w d = -∑ d, x d * w d := by
  choose a ha using hx
  choose b hb using hw
  have e1 : ∀ d, x d * -w d = ((-(a d * b d) : ℝ) : EReal) := fun d => by
    rw [ha, hb, ← EReal.coe_neg, ← EReal.coe_mul, mul_neg]
  have e2 : ∀ d, x d * w d = ((a d * b d : ℝ) : EReal) := fun d => by rw [ha, hb, ← EReal.coe_mul]
  rw [Finset.sum_congr rfl fun d _ => e1 d, Finset.sum_congr rfl fun d _ => e2 d, ← Cert.Online.coe_sum,
    ← Cert.Online.coe_sum, ← EReal.coe_neg, Finset.sum_neg_distrib]

/-- The number added under the root is positive. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- A normalised row of real numbers is of real numbers. -/
theorem rms_real {n : ℕ} (x g : Fin n → EReal) (hx : ∀ d, ∃ a : ℝ, x d = (a : EReal)) (hg : ∀ d, ∃ a : ℝ, g d = (a : EReal))
    (d : Fin n) : ∃ a : ℝ, rms (Ideal.ofBits .f32 0x44400000#32) x g d = (a : EReal) := by
  choose a ha using hx
  choose b hb using hg
  obtain ⟨e, he, h⟩ := eps_pos
  have s : ∑ k, x k * x k = ((∑ k, a k * a k : ℝ) : EReal) := by
    rw [Cert.Online.coe_sum]
    exact Finset.sum_congr rfl fun k _ => by rw [ha, ← EReal.coe_mul]
  have p : 0 < (∑ k, a k * a k) * (1 / 768) + e :=
    add_pos_of_nonneg_of_pos (mul_nonneg (Finset.sum_nonneg fun k _ => mul_self_nonneg _) (by norm_num)) he
  unfold rms
  rw [s, c768, Ideal.div_coe (by norm_num), ← EReal.coe_mul, h, ← EReal.coe_add, Ideal.rsqrt_coe, if_neg p.not_gt, if_neg p.ne', ha, hb,
    ← EReal.coe_mul, ← EReal.coe_mul]
  exact ⟨_, rfl⟩

/-- The call's precondition at a memory. -/
abbrev Holds (c : Dev nD) : Prop :=
  let f := Cert.Pre_mla_prep_args.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
  f.1 = (fun _ => 1#1) ∧ f.2.1 = (fun _ => 1#1) ∧ f.2.2.1 = (fun _ => 1#1) ∧ f.2.2.2.1 = (fun _ => 1#1)
    ∧ f.2.2.2.2 = (fun _ => 1#1)

/-- A lane of a head's second half. -/
theorem tail_lane (l : Fin 256) (hl : ¬l.val < 128) : ∃ (i : Fin 128) (h : 128 + i.val < 256), l = ⟨128 + i.val, h⟩ :=
  ⟨⟨l.val - 128, by omega⟩, by simp only []; omega, Fin.ext (by simp only []; omega)⟩

section entries

variable (c : Dev nD) (t : Fin cfg0.N) (r : Fin 512) (n : Fin 8)

/-- The queries' latent row of the block is the array's. -/
theorem latQ_at (d : Fin 768) : rms (Ideal.ofBits .f32 0x44400000#32) (fun d => iblk m c 0 t (ix2 r ⟨d.val, by omega⟩))
      (fun d => iblk m c 1 t (ix2 0 d)) d
    = latQ (m ((c : Thread nD τ).loc main_arg0)) (m ((c : Thread nD τ).loc main_arg1)) (row t r) d := by
  unfold latQ
  simp only [blk0_at, blk1_at]

theorem latK_at (d : Fin 512) : rms (Ideal.ofBits .f32 0x44000000#32) (fun d => iblk m c 0 t (ix2 r ⟨768 + d.val, by omega⟩))
      (fun d => iblk m c 2 t (ix2 0 d)) d
    = latK (m ((c : Thread nD τ).loc main_arg0)) (m ((c : Thread nD τ).loc main_arg3)) (row t r) d := by
  unfold latK
  simp only [blk0_at, blk2_at]

/-- The queries' product over the block, at a column of the widened weights. -/
theorem prodQ_at (k : Fin 3072) :
    k0_pay45 (F := Ideal) (iblk m c 0 t) (iblk m c 1 t) (iblk m c 2 t) (iblk m c 3 t) (iblk m c 4 t) (iblk m c 5 t) (iblk m c 6 t) (ix2 r k)
      = ∑ d : Fin 768, latQ (m ((c : Thread nD τ).loc main_arg0)) (m ((c : Thread nD τ).loc main_arg1)) (row t r) d
          * wideQ (m ((c : Thread nD τ).loc main_arg2)) (ix2 d k) := by
  refine (pay45_at (iblk m c 0 t) (iblk m c 1 t) (iblk m c 2 t) (iblk m c 3 t) (iblk m c 4 t) (iblk m c 5 t) (iblk m c 6 t) r k).trans ?_
  exact Finset.sum_congr rfl fun d _ => congrArg₂ (fun a b : EReal => a * b) (latQ_at m c t r d) (blk3_at m c t d k)

theorem prodK_at (k : Fin 2048) :
    k0_pay47 (F := Ideal) (iblk m c 0 t) (iblk m c 1 t) (iblk m c 2 t) (iblk m c 3 t) (iblk m c 4 t) (iblk m c 5 t) (iblk m c 6 t) (ix2 r k)
      = ∑ d : Fin 512, latK (m ((c : Thread nD τ).loc main_arg0)) (m ((c : Thread nD τ).loc main_arg3)) (row t r) d
          * wideK (m ((c : Thread nD τ).loc main_arg4)) (ix2 d k) := by
  refine (pay47_at (iblk m c 0 t) (iblk m c 1 t) (iblk m c 2 t) (iblk m c 3 t) (iblk m c 4 t) (iblk m c 5 t) (iblk m c 6 t) r k).trans ?_
  exact Finset.sum_congr rfl fun d _ => congrArg₂ (fun a b : EReal => a * b) (latK_at m c t r d) (blk4_at m c t d k)

/-- The queries that a grid point stores are the reference's. -/
theorem point_q (h : Holds m c) (l : Fin 256) :
    out0_7 (F := Ideal) (iblk m c 0 t) (iblk m c 1 t) (iblk m c 2 t) (iblk m c 3 t) (iblk m c 4 t) (iblk m c 5 t) (iblk m c 6 t)
        (ix2 r ⟨n.val * 256 + l.val, by omega⟩)
      = query (m ((c : Thread nD τ).loc main_arg0)) (m ((c : Thread nD τ).loc main_arg1)) (m ((c : Thread nD τ).loc main_arg2))
          (row t r) n l := by
  have lat : ∀ d, ∃ a : ℝ, latQ (m ((c : Thread nD τ).loc main_arg0)) (m ((c : Thread nD τ).loc main_arg1)) (row t r) d = (a : EReal) :=
    rms_real _ _ (fun d => Cert.Pre_mla_prep_args.Value.latent_at _ _ _ _ _ h.1 _ d)
      (fun d => Cert.Pre_mla_prep_args.Value.gain_at _ _ _ _ _ h.2.1 d)
  unfold query
  by_cases hl : l.val < 128
  · rw [dif_pos hl]
    refine (query_fst (iblk m c 0 t) (iblk m c 1 t) (iblk m c 2 t) (iblk m c 3 t) (iblk m c 4 t) (iblk m c 5 t) (iblk m c 6 t) r n
      ⟨l.val, hl⟩).trans ?_
    rw [prodQ_at]
    simp only [plain_at _ _ n ⟨l.val, hl⟩]
    rfl
  · rw [dif_neg hl]
    obtain ⟨i, hi, rfl⟩ := tail_lane l hl
    refine (query_snd (iblk m c 0 t) (iblk m c 1 t) (iblk m c 2 t) (iblk m c 3 t) (iblk m c 4 t) (iblk m c 5 t) (iblk m c 6 t) r n
      i).trans ?_
    rw [prodQ_at, prodQ_at, blk5_at, blk6_at, table_at, table_at]
    simp only [rot_at, turned_at, Nat.add_sub_cancel_left]
    by_cases h1 : i.val < 32
    · simp only [dif_pos h1, dif_pos (show i.val < 64 by omega), turn]
      rw [sum_neg _ _ lat fun d => Cert.Pre_mla_prep_args.Value.weight_at _ _ _ _ _ h.2.2.1 d n ⟨i.val, h1⟩, EReal.neg_mul,
        ← sub_eq_add_neg]
      unfold pq cosAt sinAt
      simp only [show ∀ k, 128 + (32 + k) = 160 + k by omega]
    · by_cases h2 : i.val - 32 < 32
      · simp only [dif_neg h1, dif_pos h2, dif_pos (show i.val < 64 by omega), turn]
        rw [add_comm]
        unfold pq cosAt sinAt
        simp only [show ∀ k, 128 + (32 + k) = 160 + k by omega]
      · simp only [dif_neg h1, dif_neg h2, dif_neg (show ¬i.val < 64 by omega), mul_zero, add_zero, zero_mul]

/-- Likewise the keys. -/
theorem point_k (h : Holds m c) (l : Fin 256) :
    out0_8 (F := Ideal) (iblk m c 0 t) (iblk m c 1 t) (iblk m c 2 t) (iblk m c 3 t) (iblk m c 4 t) (iblk m c 5 t) (iblk m c 6 t)
        (ix2 r ⟨n.val * 256 + l.val, by omega⟩)
      = key (m ((c : Thread nD τ).loc main_arg0)) (m ((c : Thread nD τ).loc main_arg3)) (m ((c : Thread nD τ).loc main_arg4))
          (row t r) n l := by
  unfold key
  by_cases hl : l.val < 128
  · rw [dif_pos hl]
    refine (key_fst (iblk m c 0 t) (iblk m c 1 t) (iblk m c 2 t) (iblk m c 3 t) (iblk m c 4 t) (iblk m c 5 t) (iblk m c 6 t) r n
      ⟨l.val, hl⟩).trans ?_
    rw [prodK_at]
    simp only [keys_at _ _ n ⟨l.val, hl⟩]
    rfl
  · rw [dif_neg hl]
    obtain ⟨i, hi, rfl⟩ := tail_lane l hl
    refine (key_snd (iblk m c 0 t) (iblk m c 1 t) (iblk m c 2 t) (iblk m c 3 t) (iblk m c 4 t) (iblk m c 5 t) (iblk m c 6 t) r n
      i).trans ?_
    rw [blk0_at, blk0_at, blk5_at, blk6_at, table_at, table_at]
    simp only [Nat.add_sub_cancel_left]
    by_cases h1 : i.val < 32
    · simp only [dif_pos h1, dif_pos (show i.val < 64 by omega), turn]
      rw [Cert.Pre_mla_prep_args.Value.turned_fst _ _ _ _ _ h.2.2.2.1 _ ⟨i.val, h1⟩, EReal.neg_mul, ← sub_eq_add_neg]
      unfold cosAt sinAt
      rfl
    · by_cases h2 : i.val - 32 < 32
      · simp only [dif_neg h1, dif_pos h2, dif_pos (show i.val < 64 by omega), turn]
        have e := Cert.Pre_mla_prep_args.Value.turned_snd _ _ _ _ _ h.2.2.2.2 (row t r) ⟨i.val - 32, h2⟩
        simp only [show 32 + (i.val - 32) = i.val by omega] at e ⊢
        rw [e, add_comm]
        unfold cosAt sinAt
        rfl
      · simp only [dif_neg h1, dif_neg h2, dif_neg (show ¬i.val < 64 by omega), mul_zero, add_zero]

/-- Likewise the values. -/
theorem point_v (l : Fin 256) :
    out0_9 (F := Ideal) (iblk m c 0 t) (iblk m c 1 t) (iblk m c 2 t) (iblk m c 3 t) (iblk m c 4 t) (iblk m c 5 t) (iblk m c 6 t)
        (ix2 r ⟨n.val * 256 + l.val, by omega⟩)
      = value (m ((c : Thread nD τ).loc main_arg0)) (m ((c : Thread nD τ).loc main_arg3)) (m ((c : Thread nD τ).loc main_arg4))
          (row t r) n l := by
  unfold value
  by_cases hl : l.val < 128
  · rw [dif_pos hl]
    refine (value_fst (iblk m c 0 t) (iblk m c 1 t) (iblk m c 2 t) (iblk m c 3 t) (iblk m c 4 t) (iblk m c 5 t) (iblk m c 6 t) r n
      ⟨l.val, hl⟩).trans ?_
    rw [prodK_at]
    simp only [values_at _ _ n ⟨l.val, hl⟩]
    rfl
  · rw [dif_neg hl]
    obtain ⟨i, hi, rfl⟩ := tail_lane l hl
    refine (value_snd (iblk m c 0 t) (iblk m c 1 t) (iblk m c 2 t) (iblk m c 3 t) (iblk m c 4 t) (iblk m c 5 t) (iblk m c 6 t) r n
      i).trans ?_
    simp only [Nat.add_sub_cancel_left, Nat.lt_one_iff, dite_eq_ite]

end entries

/-- An index of a block is its row, its head and its lane. -/
theorem block_ix (y : S512x2048.Idx) : ∃ (r : Fin 512) (n : Fin 8) (l : Fin 256), y = ix2 r ⟨n.val * 256 + l.val, by omega⟩ := by
  refine ⟨y 0, ⟨(y 1).val / 256, ?_⟩, ⟨(y 1).val % 256, ?_⟩, ?_⟩
  · have : (y 1).val < 2048 := (y 1).isLt
    omega
  · omega
  · funext a
    match a with
    | ⟨0, _⟩ => rfl
    | ⟨1, _⟩ => exact Fin.ext (Nat.div_add_mod' _ _).symm

/-- The three result arrays after the run. -/
theorem final_q (c : Dev nD) (h : Holds m c) : (dats m 0 c).arrAt 7 (cfgs 0).N
    = Cert.MlaPrepRefIdeal.Read.val_main_v100 (F := Ideal) (m ((c : Thread nD τ).loc main_arg0))
        (m ((c : Thread nD τ).loc main_arg1)) (m ((c : Thread nD τ).loc main_arg2)) := by
  refine (dats m 0 c).arrAt_eq_of_covers 7 _ (by decide +kernel) fun t hf y => ?_
  blk_simp; rw [after0_7]
  obtain ⟨r, n, l, rfl⟩ := block_ix y
  refine (point_q m c t r n h l).trans ((v100_at _ _ _ (row t r) n l).symm.trans (congrArg _ ?_))
  symm
  blk_ext [idx_val t]

theorem final_k (c : Dev nD) (h : Holds m c) : (dats m 0 c).arrAt 8 (cfgs 0).N
    = Cert.MlaPrepRefIdeal.Read.val_main_v104 (F := Ideal) (m ((c : Thread nD τ).loc main_arg0))
        (m ((c : Thread nD τ).loc main_arg3)) (m ((c : Thread nD τ).loc main_arg4)) := by
  refine (dats m 0 c).arrAt_eq_of_covers 8 _ (by decide +kernel) fun t hf y => ?_
  blk_simp; rw [after0_8]
  obtain ⟨r, n, l, rfl⟩ := block_ix y
  refine (point_k m c t r n h l).trans ((v104_at _ _ _ (row t r) n l).symm.trans (congrArg _ ?_))
  symm
  blk_ext [idx_val t]

theorem final_v (c : Dev nD) : (dats m 0 c).arrAt 9 (cfgs 0).N
    = Cert.MlaPrepRefIdeal.Read.val_main_v109 (F := Ideal) (m ((c : Thread nD τ).loc main_arg0))
        (m ((c : Thread nD τ).loc main_arg3)) (m ((c : Thread nD τ).loc main_arg4)) := by
  refine (dats m 0 c).arrAt_eq_of_covers 9 _ (by decide +kernel) fun t hf y => ?_
  blk_simp; rw [after0_9]
  obtain ⟨r, n, l, rfl⟩ := block_ix y
  refine (point_v m c t r n l).trans ((v109_at _ _ _ (row t r) n l).symm.trans (congrArg _ ?_))
  symm
  blk_ext [idx_val t]

end Cert.MlaPrepIdeal.Value

end
-- ==== Proof.Post.lean ====
/- The call that normalises the state's readout by heads is its reference, where the readout is of real numbers. -/
module

public import proofs.«01_k».proof.Proof.Online
public import proofs.«01_k».proof.Proof.AttnPre
public import proofs.«01_k».proof.Proof.Gen.Pre_rwkv_post_args
public import proofs.«01_k».proof.Proof.Gen.PostIdeal.Value
public import proofs.«01_k».proof.Proof.Gen.PostRefIdeal.Read
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Pre_rwkv_post_args.Value

open Cert.Pre_rwkv_post_args Cert.Pre_rwkv_post_args.Gen
open Cert.Pre_attn_args.Value (pos_inf real_of_abs of_ofBool)

variable (Y Z : FVec Ideal S32768x1024 .f32) (b g : FVec Ideal S32768x1024 .bf16) (w w' : FVec Ideal S1024 .f32)

/-- Both directions' readouts are real. -/
theorem fst_at (h : (fn (F := Ideal) Y Z b g w w').1 = fun _ => 1#1) (r : Fin 32768) (k : Fin 1024) :
    ∃ x : ℝ, Y (ix2 r k) = (x : EReal) := by
  have e := congrFun h (ix2 r k)
  pointwise [fn, pos_inf] at e
  exact real_of_abs _ (of_ofBool _ e)

theorem snd_at (h : (fn (F := Ideal) Y Z b g w w').2 = fun _ => 1#1) (r : Fin 32768) (k : Fin 1024) :
    ∃ x : ℝ, Z (ix2 r k) = (x : EReal) := by
  have e := congrFun h (ix2 r k)
  pointwise [fn, pos_inf] at e
  exact real_of_abs _ (of_ofBool _ e)

end Cert.Pre_rwkv_post_args.Value

namespace Cert.PostRefIdeal.Value

open Cert.PostRefIdeal Cert.PostRefIdeal.Gen Cert.PostRefIdeal.Read

theorem c64 : Ideal.ofBits .f32 0x42800000#32 = ((64 : ℝ) : EReal) := by
  simp [Ideal.ofBits, Ideal.ieee, -EReal.coe_mul]; norm_num

theorem c64inv : Ideal.ofBits .f32 0x3C800000#32 = ((1 / 64 : ℝ) : EReal) := by
  simp [Ideal.ofBits, Ideal.ieee, -EReal.coe_mul]; norm_num

/-- A head's mean. -/
def mean (z : Fin 1024 → EReal) (n : Fin 16) : EReal :=
  (∑ i : Fin 64, z ⟨n.val * 64 + i.val, by omega⟩) * ((1 / 64 : ℝ) : EReal)

/-- A row's entry less its head's mean. -/
def dev (z : Fin 1024 → EReal) (k : Fin 1024) : EReal := z k - mean z ⟨k.val / 64, by omega⟩

/-- A row normalised by heads, scaled and shifted, with the bonus added and gated. -/
def post (z b g w w' : Fin 1024 → EReal) (k : Fin 1024) : EReal :=
  (dev z k * Ideal.rsqrt (mean (fun j => dev z j * dev z j) ⟨k.val / 64, by omega⟩ + Ideal.ofBits .f32 0x3A27C5AC#32) * w k
    + w' k + b k) * g k

variable (Y Z : FVec Ideal S32768x1024 .f32) (b g : FVec Ideal S32768x1024 .bf16) (w w' : FVec Ideal S1024 .f32)

theorem v1_at (r : Fin 32768) (n : Fin 16) (i : Fin 64) : val_main_v1 (F := Ideal) Y Z (ix3 r n i)
    = Y (ix2 r ⟨n.val * 64 + i.val, by omega⟩) + Z (ix2 r ⟨n.val * 64 + i.val, by omega⟩) := by
  pointwise [val_main_v1, val_main_v0]

theorem v5_at (r : Fin 32768) (n : Fin 16) : val_main_v5 (F := Ideal) Y Z (ix3 r n 0)
    = mean (fun k => Y (ix2 r k) + Z (ix2 r k)) n := by
  unfold mean
  pointwise [val_main_v5, val_main_v4, val_main_v3, val_main_v2, val_main_cst, val_main_cst_0, v1_at, c64]
  rw [Ideal.div_coe (by norm_num)]

theorem head_eq (n : Fin 16) (i : Fin 64) (h) : (⟨(n.val * 64 + i.val) / 64, h⟩ : Fin 16) = n := Fin.ext (by simp only []; omega)

theorem v7_at (r : Fin 32768) (n : Fin 16) (i : Fin 64) : val_main_v7 (F := Ideal) Y Z (ix3 r n i)
    = dev (fun k => Y (ix2 r k) + Z (ix2 r k)) ⟨n.val * 64 + i.val, by omega⟩ := by
  unfold dev
  pointwise [val_main_v7, val_main_v6, v5_at, v1_at]
  rw [head_eq]

theorem v14_at (r : Fin 32768) (n : Fin 16) (i : Fin 64) : val_main_v14 (F := Ideal) Y Z (ix3 r n i)
    = dev (fun k => Y (ix2 r k) + Z (ix2 r k)) ⟨n.val * 64 + i.val, by omega⟩ := by
  unfold dev
  pointwise [val_main_v14, val_main_v13, v5_at, v1_at]
  rw [head_eq]

theorem v12_at (r : Fin 32768) (n : Fin 16) : val_main_v12 (F := Ideal) Y Z (ix3 r n 0)
    = mean (fun k => dev (fun k => Y (ix2 r k) + Z (ix2 r k)) k * dev (fun k => Y (ix2 r k) + Z (ix2 r k)) k) n := by
  unfold mean
  pointwise [val_main_v12, val_main_v11, val_main_v10, val_main_v9, val_main_v8, val_main_cst_1, val_main_cst_2, v7_at, c64]
  rw [Ideal.div_coe (by norm_num)]

/-- The reference's entry. -/
theorem ref_at (r : Fin 32768) (n : Fin 16) (i : Fin 64) :
    val_main_v31 (F := Ideal) Y Z b g w w' (ix2 r ⟨n.val * 64 + i.val, by omega⟩)
      = post (fun k => Y (ix2 r k) + Z (ix2 r k)) (fun k => b (ix2 r k)) (fun k => g (ix2 r k)) (fun k => w (ix1 k))
          (fun k => w' (ix1 k)) ⟨n.val * 64 + i.val, by omega⟩ := by
  unfold post
  pointwise [val_main_v31, val_main_v30, val_main_v29, val_main_v28, val_main_v27, val_main_v26, val_main_v25, val_main_v24,
    val_main_v23, val_main_v22, val_main_v21, val_main_v20, val_main_v19, val_main_v18, val_main_v17, val_main_v16,
    val_main_v15, val_main_cst_3, v12_at, v14_at]
  rw [head_eq]

end Cert.PostRefIdeal.Value

namespace Cert.PostIdeal.Value

open Cert.PostIdeal Cert.PostIdeal.Gen
open Cert.PostRefIdeal.Value

variable (m : (ℓ : Loc nD τ sig) → Buf (Elt Ideal) ℓ)

/-- A column's head within its 256, as the operations before the call compute it. -/
def headNo : IVec S256 32 :=
  let x : IVec S256 32 := iotaInDim S256 32 0
  let c : IVec S_ 32 := constantI S_ 32 64#32
  select (andi (cmpi .ne (signi x) (broadcastInDim S256 ![] bcast_S_S256 (signi c)))
      (cmpi .ne (Host.remsi x (broadcastInDim S256 ![] bcast_S_S256 c)) (broadcastInDim S256 ![] bcast_S_S256 (constantI S_ 32 0#32))))
    (subi (Host.divsi x (broadcastInDim S256 ![] bcast_S_S256 c)) (broadcastInDim S256 ![] bcast_S_S256 (constantI S_ 32 1#32)))
    (Host.divsi x (broadcastInDim S256 ![] bcast_S_S256 c))

/-- Ones where two columns are of one head. -/
def ones : FVec Ideal S256x256 .bf16 :=
  uitofp .bf16 (cmpi .eq (broadcastInDim S256x256 ![0, 1] bcast_S256x1_S256x256_0_1 (broadcastInDim S256x1 ![0] bcast_S256_S256x1_0 headNo))
    (broadcastInDim S256x256 ![0, 1] bcast_S1x256_S256x256_0_1 (broadcastInDim S1x256 ![1] bcast_S256_S1x256_1 headNo)))

theorem ones_eq (c : Dev nD) : V m c main_v7 = ones := by
  unfold_abbrev_sides
  simp only [hostOps0, hostOps0_1, hostOps0_2, List.flatten_cons, List.flatten_nil, List.append_nil, List.cons_append, List.nil_append]
  after_results <;> rfl

theorem headNo_at : ∀ j : Fin 256, headNo (ix1 j) = BitVec.ofNat 32 (j.val / 64) := by
  decide +kernel

theorem same_head : ∀ p q : Fin 4, IntOp.cmpi .eq (BitVec.ofNat 32 p.val) (BitVec.ofNat 32 q.val)
    = if p.val = q.val then 1#1 else 0#1 := by
  decide +kernel

theorem ones_at (j k : Fin 256) : ones (ix2 j k) = if j.val / 64 = k.val / 64 then 1 else 0 := by
  pointwise [ones, headNo_at]
  rw [same_head ⟨j.val / 64, by omega⟩ ⟨k.val / 64, by omega⟩]
  split_ifs
  · exact (by simp : (((1#1 : BitVec 1).toNat : ℝ) : EReal) = 1)
  · exact (by simp : (((0#1 : BitVec 1).toNat : ℝ) : EReal) = 0)

variable (x0 x1 : Vec Ideal S512x1024 .f32) (x2 x3 : Vec Ideal S512x1024 .bf16) (x4 x5 : Vec Ideal S1x1024 .f32)
  (x6 : Vec Ideal S256x256 .bf16) (r : Fin 512)

/-- A row times the matrix, 256 columns at a time. -/
def tiled (x6 : Vec Ideal S256x256 .bf16) (f : Fin 1024 → EReal) (k : Fin 1024) : EReal :=
  ∑ j : Fin 256, f ⟨k.val / 256 * 256 + j.val, by omega⟩ * x6 (ix2 j ⟨k.val % 256, by omega⟩)

/-- The four products side by side are the row's product by tiles. -/
theorem tiled_cases (a b : Fin 1024 → EReal) (k : Fin 1024) :
    tiled x6 a k + tiled x6 b k
      = if h : k.val < 256 then (∑ x : Fin 256, a ⟨x.val, by omega⟩ * x6 (ix2 x ⟨k.val, h⟩))
            + ∑ x : Fin 256, b ⟨x.val, by omega⟩ * x6 (ix2 x ⟨k.val, h⟩)
        else if h : k.val - 256 < 256 then (∑ x : Fin 256, a ⟨256 + x.val, by omega⟩ * x6 (ix2 x ⟨k.val - 256, h⟩))
            + ∑ x : Fin 256, b ⟨256 + x.val, by omega⟩ * x6 (ix2 x ⟨k.val - 256, h⟩)
        else if h : k.val - 256 - 256 < 256 then
          (∑ x : Fin 256, a ⟨512 + x.val, by omega⟩ * x6 (ix2 x ⟨k.val - 256 - 256, h⟩))
            + ∑ x : Fin 256, b ⟨512 + x.val, by omega⟩ * x6 (ix2 x ⟨k.val - 256 - 256, h⟩)
        else (∑ x : Fin 256, a ⟨768 + x.val, by omega⟩ * x6 (ix2 x ⟨k.val - 256 - 256 - 256, by omega⟩))
            + ∑ x : Fin 256, b ⟨768 + x.val, by omega⟩ * x6 (ix2 x ⟨k.val - 256 - 256 - 256, by omega⟩) := by
  unfold tiled
  split_ifs with h1 h2 h3
  · simp only [show ∀ x, k.val / 256 * 256 + x = x by omega, show k.val % 256 = k.val by omega]
  · simp only [show ∀ x, k.val / 256 * 256 + x = 256 + x by omega, show k.val % 256 = k.val - 256 by omega]
  · simp only [show ∀ x, k.val / 256 * 256 + x = 512 + x by omega, show k.val % 256 = k.val - 256 - 256 by omega]
  · simp only [show ∀ x, k.val / 256 * 256 + x = 768 + x by omega, show k.val % 256 = k.val - 256 - 256 - 256 by omega]

theorem pay3_at (k : Fin 1024) : k0_pay3 (F := Ideal) x6 x0 x1 (ix2 r k)
    = (x0 (ix2 r k) + x1 (ix2 r k)) - (tiled x6 (fun k => x0 (ix2 r k) + x1 (ix2 r k)) k
        + tiled x6 (fun k => (x0 (ix2 r k) + x1 (ix2 r k)) - (x0 (ix2 r k) + x1 (ix2 r k))) k) * ((1 / 64 : ℝ) : EReal) := by
  rw [tiled_cases]
  pointwise [k0_pay3, k0_pay2, c64inv]

theorem pay1_at (k : Fin 1024) (D : Fin 1024 → EReal) (hD : ∀ k, k0_pay3 (F := Ideal) x6 x0 x1 (ix2 r k) = D k) :
    k0_pay1 (F := Ideal) (k0_pay2 x6) (k0_pay3 x6 x0 x1) (k0_pay5 x6 x0 x1) (k0_pay6 x6 x0 x1) (k0_pay7 x6 x0 x1)
        (k0_pay8 x6 x0 x1) x4 x5 x2 x3 (ix2 r k)
      = (D k * Ideal.rsqrt ((tiled x6 (fun k => D k * D k) k + tiled x6 (fun k => D k * D k - D k * D k) k) * ((1 / 64 : ℝ) : EReal)
            + Ideal.ofBits .f32 0x3A27C5AC#32) * x4 (ix2 0 k) + x5 (ix2 0 k) + x2 (ix2 r k)) * x3 (ix2 r k) := by
  rw [tiled_cases]
  pointwise [k0_pay1, k0_pay2, k0_pay4, k0_pay5, k0_pay6, k0_pay7, k0_pay8, c64inv, hD]

/-- Adding up 256 entries where the column's head is `q` adds up that head's 64. -/
theorem group_sum (f : Fin 256 → EReal) (q : Fin 4) :
    (∑ j : Fin 256, f j * if j.val / 64 = q.val then 1 else 0) = ∑ i : Fin 64, f ⟨q.val * 64 + i.val, by omega⟩ := by
  rw [← (finProdFinEquiv : Fin 4 × Fin 64 ≃ Fin 256).sum_comp, Fintype.sum_prod_type, Finset.sum_eq_single q]
  · refine Finset.sum_congr rfl fun i _ => ?_
    have v : ((finProdFinEquiv : Fin 4 × Fin 64 ≃ Fin 256) (q, i)).val = q.val * 64 + i.val := by
      simp [finProdFinEquiv]; omega
    rw [if_pos (by omega), mul_one]
    exact congrArg f (Fin.ext v)
  · intro p _ hp
    refine Finset.sum_eq_zero fun i _ => ?_
    have v : ((finProdFinEquiv : Fin 4 × Fin 64 ≃ Fin 256) (p, i)).val = p.val * 64 + i.val := by
      simp [finProdFinEquiv]; omega
    rw [if_neg, mul_zero]
    intro e
    exact hp (Fin.ext (by omega))
  · simp

/-- The product with the matrix of ones adds up each head. -/
theorem tiled_ones (hx : ∀ j k, x6 (ix2 j k) = if j.val / 64 = k.val / 64 then 1 else 0) (f : Fin 1024 → EReal) (k : Fin 1024) :
    tiled x6 f k * ((1 / 64 : ℝ) : EReal) = mean f ⟨k.val / 64, by omega⟩ := by
  unfold tiled mean
  refine congrArg (fun e : EReal => e * ((1 / 64 : ℝ) : EReal)) ?_
  simp only [hx]
  refine (group_sum (fun j => f ⟨k.val / 256 * 256 + j.val, by omega⟩) ⟨k.val % 256 / 64, by omega⟩).trans ?_
  refine Finset.sum_congr rfl fun i _ => congrArg f (Fin.ext ?_)
  simp only []
  omega

/-- The product of zeros is zero. -/
theorem tiled_zero (f : Fin 1024 → EReal) (hf : ∀ k, f k = 0) (k : Fin 1024) : tiled x6 f k = 0 :=
  Finset.sum_eq_zero fun j _ => by rw [hf, zero_mul]

/-- A real number less itself. -/
theorem sub_zero_of_real (x : EReal) (h : ∃ a : ℝ, x = (a : EReal)) : x - x = 0 := by
  obtain ⟨a, rfl⟩ := h
  rw [← EReal.coe_sub, sub_self, EReal.coe_zero]

/-- A head's mean of real numbers is real. -/
theorem mean_real (f : Fin 1024 → EReal) (hf : ∀ k, ∃ a : ℝ, f k = (a : EReal)) (n : Fin 16) : ∃ a : ℝ, mean f n = (a : EReal) := by
  choose a ha using hf
  refine ⟨(∑ i : Fin 64, a ⟨n.val * 64 + i.val, by omega⟩) * (1 / 64), ?_⟩
  unfold mean
  rw [EReal.coe_mul, Cert.Online.coe_sum]
  simp only [ha]

theorem dev_real (f : Fin 1024 → EReal) (hf : ∀ k, ∃ a : ℝ, f k = (a : EReal)) (k : Fin 1024) : ∃ a : ℝ, dev f k = (a : EReal) := by
  obtain ⟨a, ha⟩ := hf k
  obtain ⟨b, hb⟩ := mean_real f hf ⟨k.val / 64, by omega⟩
  exact ⟨a - b, by rw [dev, ha, hb, EReal.coe_sub]⟩

/-- The stored entry is the row's, normalised by heads. -/
theorem stored_at (hx : ∀ j k, x6 (ix2 j k) = if j.val / 64 = k.val / 64 then 1 else 0)
    (hz : ∀ k, ∃ a : ℝ, x0 (ix2 r k) + x1 (ix2 r k) = (a : EReal)) (k : Fin 1024) :
    k0_pay1 (F := Ideal) (k0_pay2 x6) (k0_pay3 x6 x0 x1) (k0_pay5 x6 x0 x1) (k0_pay6 x6 x0 x1) (k0_pay7 x6 x0 x1)
        (k0_pay8 x6 x0 x1) x4 x5 x2 x3 (ix2 r k)
      = post (fun k => x0 (ix2 r k) + x1 (ix2 r k)) (fun k => x2 (ix2 r k)) (fun k => x3 (ix2 r k)) (fun k => x4 (ix2 0 k))
          (fun k => x5 (ix2 0 k)) k := by
  refine (pay1_at x0 x1 x2 x3 x4 x5 x6 r k (dev fun k => x0 (ix2 r k) + x1 (ix2 r k)) fun k => ?_).trans ?_
  · rw [pay3_at, tiled_zero x6 (fun k => (x0 (ix2 r k) + x1 (ix2 r k)) - (x0 (ix2 r k) + x1 (ix2 r k)))
      (fun k => sub_zero_of_real _ (hz k)), add_zero, tiled_ones x6 hx]
    rfl
  · have real : ∀ k, ∃ a : ℝ, dev (fun k => x0 (ix2 r k) + x1 (ix2 r k)) k * dev (fun k => x0 (ix2 r k) + x1 (ix2 r k)) k = (a : EReal) := by
      intro k
      obtain ⟨a, ha⟩ := dev_real (fun k => x0 (ix2 r k) + x1 (ix2 r k)) hz k
      exact ⟨a * a, by rw [ha, EReal.coe_mul]⟩
    rw [tiled_zero x6 (fun k => dev (fun k => x0 (ix2 r k) + x1 (ix2 r k)) k * dev (fun k => x0 (ix2 r k) + x1 (ix2 r k)) k
        - dev (fun k => x0 (ix2 r k) + x1 (ix2 r k)) k * dev (fun k => x0 (ix2 r k) + x1 (ix2 r k)) k)
      (fun k => sub_zero_of_real _ (real k)), add_zero, tiled_ones x6 hx]
    rfl

theorem vec4_eq (c : Dev nD) : V m c main_v8 = shapeCast S1x1024 (m ((c : Thread nD τ).loc main_arg4)) shapeCasts_S1024_S1x1024 := by
  unfold_abbrev_sides
  simp only [hostOps0, hostOps0_1, hostOps0_2, List.flatten_cons, List.flatten_nil, List.append_nil, List.cons_append, List.nil_append]
  after_results <;> rfl

theorem vec5_eq (c : Dev nD) : V m c main_v9 = shapeCast S1x1024 (m ((c : Thread nD τ).loc main_arg5)) shapeCasts_S1024_S1x1024 := by
  unfold_abbrev_sides
  simp only [hostOps0, hostOps0_1, hostOps0_2, List.flatten_cons, List.flatten_nil, List.append_nil, List.cons_append, List.nil_append]
  after_results <;> rfl

theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![t.val, 0] :=
  (by decide +kernel : ∀ t : Fin grid0.N, _)

theorem bound (t : Fin cfg0.N) (r : Fin 512) : t.val * 512 + r.val < 32768 := by
  have : t.val < 64 := t.isLt
  omega

/-- The row of the whole array at a block's row. -/
abbrev row (t : Fin cfg0.N) (r : Fin 512) : Fin 32768 := ⟨t.val * 512 + r.val, bound t r⟩

theorem blk0_at (c : Dev nD) (t : Fin cfg0.N) (r : Fin 512) (k : Fin 1024) :
    iblk m c 0 t (ix2 r k) = m ((c : Thread nD τ).loc main_arg0) (ix2 (row t r) k) := by
  rw [← V_main_arg0 m c]
  refine congrArg (show FVec Ideal S32768x1024 .f32 from V m c main_arg0) ?_
  blk_ext [idx_val t]

theorem blk1_at (c : Dev nD) (t : Fin cfg0.N) (r : Fin 512) (k : Fin 1024) :
    iblk m c 1 t (ix2 r k) = m ((c : Thread nD τ).loc main_arg1) (ix2 (row t r) k) := by
  rw [← V_main_arg1 m c]
  refine congrArg (show FVec Ideal S32768x1024 .f32 from V m c main_arg1) ?_
  blk_ext [idx_val t]

theorem blk2_at (c : Dev nD) (t : Fin cfg0.N) (r : Fin 512) (k : Fin 1024) :
    iblk m c 2 t (ix2 r k) = m ((c : Thread nD τ).loc main_arg2) (ix2 (row t r) k) := by
  rw [← V_main_arg2 m c]
  refine congrArg (show FVec Ideal S32768x1024 .bf16 from V m c main_arg2) ?_
  blk_ext [idx_val t]

theorem blk3_at (c : Dev nD) (t : Fin cfg0.N) (r : Fin 512) (k : Fin 1024) :
    iblk m c 3 t (ix2 r k) = m ((c : Thread nD τ).loc main_arg3) (ix2 (row t r) k) := by
  rw [← V_main_arg3 m c]
  refine congrArg (show FVec Ideal S32768x1024 .bf16 from V m c main_arg3) ?_
  blk_ext [idx_val t]

theorem blk4_at (c : Dev nD) (t : Fin cfg0.N) (k : Fin 1024) :
    iblk m c 4 t (ix2 0 k) = m ((c : Thread nD τ).loc main_arg4) (ix1 k) := by
  have e : shapeCast S1x1024 (m ((c : Thread nD τ).loc main_arg4)) shapeCasts_S1024_S1x1024 (ix2 0 k)
    = m ((c : Thread nD τ).loc main_arg4) (ix1 k) := by pointwise []
  refine Eq.trans ?_ e
  rw [← vec4_eq]
  refine congrArg (show FVec Ideal S1x1024 .f32 from V m c main_v8) ?_
  blk_ext [idx_val t]

theorem blk5_at (c : Dev nD) (t : Fin cfg0.N) (k : Fin 1024) :
    iblk m c 5 t (ix2 0 k) = m ((c : Thread nD τ).loc main_arg5) (ix1 k) := by
  have e : shapeCast S1x1024 (m ((c : Thread nD τ).loc main_arg5)) shapeCasts_S1024_S1x1024 (ix2 0 k)
    = m ((c : Thread nD τ).loc main_arg5) (ix1 k) := by pointwise []
  refine Eq.trans ?_ e
  rw [← vec5_eq]
  refine congrArg (show FVec Ideal S1x1024 .f32 from V m c main_v9) ?_
  blk_ext [idx_val t]

theorem blk6_at (c : Dev nD) (t : Fin cfg0.N) (j k : Fin 256) :
    iblk m c 6 t (ix2 j k) = if j.val / 64 = k.val / 64 then (1 : EReal) else (0 : EReal) := by
  rw [← ones_at, ← ones_eq]
  refine congrArg (show FVec Ideal S256x256 .bf16 from V m c main_v7) ?_
  blk_ext [idx_val t]

/-- The call's precondition at a memory. -/
abbrev Holds (c : Dev nD) : Prop :=
  let f := Cert.Pre_rwkv_post_args.fn (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5))
  f.1 = (fun _ => 1#1) ∧ f.2 = (fun _ => 1#1)

/-- One entry of the block that a grid point stores. -/
theorem point (c : Dev nD) (h : Holds m c) (t : Fin cfg0.N) (r : Fin 512) (n : Fin 16) (i : Fin 64) :
    k0_pay1 (F := Ideal) (k0_pay2 (iblk m c 6 t)) (k0_pay3 (iblk m c 6 t) (iblk m c 0 t) (iblk m c 1 t))
        (k0_pay5 (iblk m c 6 t) (iblk m c 0 t) (iblk m c 1 t)) (k0_pay6 (iblk m c 6 t) (iblk m c 0 t) (iblk m c 1 t))
        (k0_pay7 (iblk m c 6 t) (iblk m c 0 t) (iblk m c 1 t)) (k0_pay8 (iblk m c 6 t) (iblk m c 0 t) (iblk m c 1 t))
        (iblk m c 4 t) (iblk m c 5 t) (iblk m c 2 t) (iblk m c 3 t) (ix2 r ⟨n.val * 64 + i.val, by omega⟩)
      = Cert.PostRefIdeal.Read.val_main_v31 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (ix2 (row t r) ⟨n.val * 64 + i.val, by omega⟩) := by
  refine (stored_at (iblk m c 0 t) (iblk m c 1 t) (iblk m c 2 t) (iblk m c 3 t) (iblk m c 4 t) (iblk m c 5 t) (iblk m c 6 t) r
    (blk6_at m c t) (fun k => ?_) _).trans ?_
  · obtain ⟨a, ha⟩ := Cert.Pre_rwkv_post_args.Value.fst_at _ _ _ _ _ _ h.1 (row t r) k
    obtain ⟨b, hb⟩ := Cert.Pre_rwkv_post_args.Value.snd_at _ _ _ _ _ _ h.2 (row t r) k
    exact ⟨a + b, by rw [blk0_at, blk1_at, ha, hb, EReal.coe_add]⟩
  · rw [ref_at]
    simp only [blk0_at, blk1_at, blk2_at, blk3_at, blk4_at, blk5_at]

/-- An index of a block is its row, its head and its lane. -/
theorem block_ix (y : S512x1024.Idx) : ∃ (r : Fin 512) (n : Fin 16) (i : Fin 64), y = ix2 r ⟨n.val * 64 + i.val, by omega⟩ := by
  refine ⟨y 0, ⟨(y 1).val / 64, ?_⟩, ⟨(y 1).val % 64, ?_⟩, ?_⟩
  · have : (y 1).val < 1024 := (y 1).isLt
    omega
  · omega
  · funext a
    match a with
    | ⟨0, _⟩ => rfl
    | ⟨1, _⟩ => exact Fin.ext (Nat.div_add_mod' _ _).symm

/-- The result array after the run. -/
theorem final (c : Dev nD) (h : Holds m c) : (dats m 0 c).arrAt 7 (cfgs 0).N
    = Cert.PostRefIdeal.Read.val_main_v31 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp; rw [after0_7]; frame_out
  obtain ⟨r, n, i, rfl⟩ := block_ix y
  refine (point m c h t r n i).trans (congrArg _ ?_)
  symm
  blk_ext [idx_val t]

end Cert.PostIdeal.Value

end
-- ==== Proof.PrepRef.lean ====
/- The recurrence's operands as the reference computes them, read entry by entry. -/
module

public import proofs.«01_k».proof.Proof.Gen.PrepRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.PrepRefIdeal.Value

open Cert.PrepRefIdeal Cert.PrepRefIdeal.Gen Cert.PrepRefIdeal.Read

variable (X : FVec Ideal S32768x3584 .f32) (mu : FVec Ideal S2x3488 .f32) (A : FVec Ideal S2x1024 .f32)
  (U : FVec Ideal S2x64x1024 .f32) (G : FVec Ideal S160x1024 .f32) (wk wa : FVec Ideal S1024 .f32) (wr : FVec Ideal S16x64 .f32)

/-- The entry of the token before, zero for a sequence's first token. -/
def before (r : Fin 32768) (j : Fin 3584) : EReal :=
  if r.val % 4096 = 0 then 0 else X (ix2 ⟨r.val - 1, by omega⟩ j)

/-- The entry of the token after, zero for a sequence's last token. -/
def after (r : Fin 32768) (j : Fin 3584) : EReal :=
  if h : r.val % 4096 = 4095 then 0 else X (ix2 ⟨r.val + 1, by omega⟩ j)

/-- An entry moved towards its neighbours by their weights. -/
def mix (x m0 m1 p n : EReal) : EReal := x + m0 * (p - x) + m1 * (n - x)

/-- The shifted entry. -/
def shifted (r : Fin 32768) (j : Fin 3488) : EReal :=
  mix (X (ix2 r ⟨j.val, by omega⟩)) (mu (ix2 0 j)) (mu (ix2 1 j)) (before X r ⟨j.val, by omega⟩) (after X r ⟨j.val, by omega⟩)

/-- One direction's learning rate. -/
def rate (r : Fin 32768) (d : Fin 2) (k : Fin 1024) : EReal :=
  Ideal.logistic (A (ix2 d k) + ∑ i : Fin 64, U (ix3 d i k) * shifted X mu r ⟨3200 + (d.val * 64 + i.val), by omega⟩)

/-- The gate. -/
def gate (r : Fin 32768) (k : Fin 1024) : EReal :=
  ∑ i : Fin 160, Ideal.logistic (shifted X mu r ⟨3328 + i.val, by omega⟩) * G (ix2 i k)

/-- The key times the removal's weights. -/
def raw (r : Fin 32768) (k : Fin 1024) : EReal := shifted X mu r ⟨1024 + k.val, by omega⟩ * wk (ix1 k)

/-- The sum over a head. -/
def headSum (f : Fin 1024 → EReal) (n : Fin 16) : EReal := ∑ i : Fin 64, f ⟨n.val * 64 + i.val, by omega⟩

/-- The removal key, each head of length one. -/
def unit (r : Fin 32768) (k : Fin 1024) : EReal :=
  Ideal.div (raw X mu wk r k) (max (Ideal.sqrt (headSum (fun k => raw X mu wk r k * raw X mu wk r k) ⟨k.val / 64, by omega⟩))
    (Ideal.ofBits .f32 0x2B8CBCCC#32))

/-- One direction's key. -/
def keyOf (r : Fin 32768) (d : Fin 2) (k : Fin 1024) : EReal :=
  shifted X mu r ⟨1024 + k.val, by omega⟩ * (1 + (rate X mu A U r d k - 1) * wa (ix1 k))

/-- One direction's bonus. -/
def bonusOf (r : Fin 32768) (d : Fin 2) (k : Fin 1024) : EReal :=
  headSum (fun k => shifted X mu r ⟨k.val, by omega⟩ * keyOf X mu A U wa r d k
    * wr (ix2 ⟨k.val / 64, by omega⟩ ⟨k.val % 64, by omega⟩)) ⟨k.val / 64, by omega⟩ * shifted X mu r ⟨2048 + k.val, by omega⟩

/-- One row of the whole array. -/
abbrev tok (s : Fin 8) (p : Fin 4096) : Fin 32768 := ⟨s.val * 4096 + p.val, by omega⟩

theorem head_eq (n : Fin 16) (i : Fin 64) (h) : (⟨(n.val * 64 + i.val) / 64, h⟩ : Fin 16) = n := Fin.ext (by dsimp only; omega)
theorem lane_eq (n : Fin 16) (i : Fin 64) (h) : (⟨(n.val * 64 + i.val) % 64, h⟩ : Fin 64) = i := Fin.ext (by dsimp only; omega)

/-- The padding value, the integer zero made a float, is zero. -/
theorem pad_value : FloatOps.sitofp (F := Ideal) .f32 (0#32) = (0 : EReal) := by
  show (((0#32).toInt : ℝ) : EReal) = 0
  simp

theorem one_word : Ideal.ofBits .f32 0x3F800000#32 = (1 : EReal) := by
  rw [← EReal.coe_one]
  simp [Ideal.ofBits, Ideal.ieee, -EReal.coe_mul, -EReal.coe_one]; norm_num

theorem v1_at (s : Fin 8) (p : Fin 4096) (j : Fin 3488) :
    val_main_v1 (F := Ideal) X (ix3 s p j) = X (ix2 (tok s p) ⟨j.val, by omega⟩) := by
  pointwise [val_main_v1, val_main_v0]

theorem v3_at (s : Fin 8) (p : Fin 4096) (j : Fin 3488) :
    val_main_v3 (F := Ideal) X (ix3 s p j) = before X (tok s p) ⟨j.val, by omega⟩ := by
  have e : val_main_v3 (F := Ideal) X (ix3 s p j) = val_main_v2 (F := Ideal) X (ix3 s ⟨p.val, by omega⟩ j) := by
    pointwise [val_main_v3]
  rw [e]
  unfold before
  dsimp only
  split_ifs with h
  · refine (pad_apply_of_not_inside _ _ _ _ _ _ _ _ (1 : Fin 3) ?_).trans ?_
    · simp
      omega
    · pointwise [val_main_call0_v0, val_main_c]
      exact pad_value
  · have g : val_main_v2 (F := Ideal) X (ix3 s ⟨p.val, by omega⟩ j) = val_main_v1 (F := Ideal) X (ix3 s ⟨p.val - 1, by omega⟩ j) := by
      refine pad_apply_of_inside _ _ _ _ _ _ _ _ _ fun a => ?_
      match a with
      | ⟨0, _⟩ => simp
      | ⟨1, _⟩ => simp; omega
      | ⟨2, _⟩ => simp
    rw [g, v1_at]
    exact congrArg (fun q => X (ix2 q ⟨j.val, by omega⟩)) (Fin.ext (by dsimp only; omega))

theorem v5_at (s : Fin 8) (p : Fin 4096) (j : Fin 3488) :
    val_main_v5 (F := Ideal) X (ix3 s p j) = after X (tok s p) ⟨j.val, by omega⟩ := by
  have e : val_main_v5 (F := Ideal) X (ix3 s p j) = val_main_v4 (F := Ideal) X (ix3 s ⟨1 + p.val, by omega⟩ j) := by
    pointwise [val_main_v5]
  rw [e]
  unfold after
  dsimp only
  split_ifs with h
  · refine (pad_apply_of_not_inside _ _ _ _ _ _ _ _ (1 : Fin 3) ?_).trans ?_
    · simp
      omega
    · pointwise [val_main_call1_v0, val_main_c_0]
      exact pad_value
  · have g : val_main_v4 (F := Ideal) X (ix3 s ⟨1 + p.val, by omega⟩ j) = val_main_v1 (F := Ideal) X (ix3 s ⟨p.val + 1, by omega⟩ j) := by
      refine pad_apply_of_inside _ _ _ _ _ _ _ _ _ fun a => ?_
      match a with
      | ⟨0, _⟩ => simp
      | ⟨1, _⟩ => simp; omega
      | ⟨2, _⟩ => simp
    rw [g, v1_at]
    exact congrArg (fun q => X (ix2 q ⟨j.val, by omega⟩)) (Fin.ext (by dsimp only; omega))

theorem v19_at (s : Fin 8) (p : Fin 4096) (j : Fin 3488) :
    val_main_v19 (F := Ideal) X mu (ix3 s p j) = shifted X mu (tok s p) j := by
  rw [shifted, mix, ← v3_at X, ← v5_at X, ← v1_at X]
  pointwise [val_main_v19, val_main_v18, val_main_v17, val_main_v16, val_main_v15, val_main_v14, val_main_v13, val_main_v12,
    val_main_v11, val_main_v10, val_main_v9, val_main_v8, val_main_v7, val_main_v6]

theorem v20_at (s : Fin 8) (p : Fin 4096) (k : Fin 1024) :
    val_main_v20 (F := Ideal) X mu (ix3 s p k) = shifted X mu (tok s p) ⟨k.val, by omega⟩ := by
  pointwise [val_main_v20, v19_at]

theorem v21_at (s : Fin 8) (p : Fin 4096) (k : Fin 1024) :
    val_main_v21 (F := Ideal) X mu (ix3 s p k) = shifted X mu (tok s p) ⟨1024 + k.val, by omega⟩ := by
  pointwise [val_main_v21, v19_at]

theorem v22_at (s : Fin 8) (p : Fin 4096) (k : Fin 1024) :
    val_main_v22 (F := Ideal) X mu (ix3 s p k) = shifted X mu (tok s p) ⟨2048 + k.val, by omega⟩ := by
  pointwise [val_main_v22, v19_at]

theorem v33_at (s : Fin 8) (p : Fin 4096) (d : Fin 2) (i : Fin 64) :
    val_main_v33 (F := Ideal) X mu (ix4 s p d i) = shifted X mu (tok s p) ⟨3200 + (d.val * 64 + i.val), by omega⟩ := by
  pointwise [val_main_v33, val_main_v24, v19_at]

theorem v44_at (s : Fin 8) (p : Fin 4096) (d : Fin 2) (k : Fin 1024) :
    val_main_v44 (F := Ideal) X mu A U (ix4 s p d k) = rate X mu A U (tok s p) d k := by
  unfold rate Ideal.logistic
  pointwise [val_main_v44, val_main_v43, val_main_v42, val_main_v41, val_main_v40, val_main_v39, val_main_v38, val_main_v37,
    val_main_v36, val_main_v35, val_main_v34, val_main_cst_2, val_main_cst_3, v33_at, one_word]

theorem v32_at (s : Fin 8) (p : Fin 4096) (k : Fin 1024) :
    val_main_v32 (F := Ideal) X mu G (ix3 s p k) = gate X mu G (tok s p) k := by
  unfold gate Ideal.logistic
  pointwise [val_main_v32, val_main_v31, val_main_v30, val_main_v29, val_main_v28, val_main_v27, val_main_v26, val_main_v25,
    val_main_cst, val_main_cst_1, v19_at, one_word]

theorem v60_at (s : Fin 8) (p : Fin 4096) (k : Fin 1024) :
    val_main_v60 (F := Ideal) X mu A U (ix3 s p k) = rate X mu A U (tok s p) 0 k := by
  pointwise [val_main_v60, val_main_v59, v44_at]

theorem v81_at (s : Fin 8) (p : Fin 4096) (k : Fin 1024) :
    val_main_v81 (F := Ideal) X mu A U (ix3 s p k) = rate X mu A U (tok s p) 1 k := by
  pointwise [val_main_v81, val_main_v80, v44_at]

theorem v48_at (s : Fin 8) (p : Fin 4096) (n : Fin 16) (i : Fin 64) :
    val_main_v48 (F := Ideal) X mu wk (ix4 s p n i) = raw X mu wk (tok s p) ⟨n.val * 64 + i.val, by omega⟩ := by
  unfold raw
  pointwise [val_main_v48, val_main_v47, val_main_v46, val_main_v45, v21_at]

theorem v54_at (s : Fin 8) (p : Fin 4096) (n : Fin 16) :
    val_main_v54 (F := Ideal) X mu wk (ix4 s p n 0)
      = max (Ideal.sqrt (headSum (fun k => raw X mu wk (tok s p) k * raw X mu wk (tok s p) k) n)) (Ideal.ofBits .f32 0x2B8CBCCC#32) := by
  unfold headSum
  pointwise [val_main_v54, val_main_v53, val_main_v52, val_main_v51, val_main_v50, val_main_v49, val_main_cst_4, val_main_cst_5, v48_at]

theorem v56_at (s : Fin 8) (p : Fin 4096) (n : Fin 16) (i : Fin 64) :
    val_main_v56 (F := Ideal) X mu wk (ix4 s p n i) = unit X mu wk (tok s p) ⟨n.val * 64 + i.val, by omega⟩ := by
  unfold unit
  pointwise [val_main_v56, val_main_v55, v54_at, v48_at]
  rw [head_eq]

theorem v68_at (s : Fin 8) (p : Fin 4096) (k : Fin 1024) :
    val_main_v68 (F := Ideal) X mu A U wa (ix3 s p k) = keyOf X mu A U wa (tok s p) 0 k := by
  unfold keyOf
  pointwise [val_main_v68, val_main_v67, val_main_v66, val_main_v65, val_main_v64, val_main_v63, val_main_v62, val_main_v61,
    val_main_cst_6, val_main_cst_7, v60_at, v21_at, one_word]

theorem v89_at (s : Fin 8) (p : Fin 4096) (k : Fin 1024) :
    val_main_v89 (F := Ideal) X mu A U wa (ix3 s p k) = keyOf X mu A U wa (tok s p) 1 k := by
  unfold keyOf
  pointwise [val_main_v89, val_main_v88, val_main_v87, val_main_v86, val_main_v85, val_main_v84, val_main_v83, val_main_v82,
    val_main_cst_9, val_main_cst_10, v81_at, v21_at, one_word]

theorem v79_at (s : Fin 8) (p : Fin 4096) (n : Fin 16) (i : Fin 64) :
    val_main_v79 (F := Ideal) X mu A U wa wr (ix4 s p n i) = bonusOf X mu A U wa wr (tok s p) 0 ⟨n.val * 64 + i.val, by omega⟩ := by
  unfold bonusOf
  dsimp only
  rw [head_eq]
  unfold headSum
  dsimp only
  simp only [head_eq, lane_eq]
  pointwise [val_main_v79, val_main_v78, val_main_v77, val_main_v76, val_main_v75, val_main_v74, val_main_v73, val_main_v72,
    val_main_v69, val_main_v58, val_main_v57, val_main_cst_8, v68_at, v20_at, v22_at]

theorem v100_at (s : Fin 8) (p : Fin 4096) (n : Fin 16) (i : Fin 64) :
    val_main_v100 (F := Ideal) X mu A U wa wr (ix4 s p n i) = bonusOf X mu A U wa wr (tok s p) 1 ⟨n.val * 64 + i.val, by omega⟩ := by
  unfold bonusOf
  dsimp only
  rw [head_eq]
  unfold headSum
  dsimp only
  simp only [head_eq, lane_eq]
  pointwise [val_main_v100, val_main_v99, val_main_v98, val_main_v97, val_main_v96, val_main_v95, val_main_v94, val_main_v93,
    val_main_v90, val_main_v58, val_main_v57, val_main_cst_11, v89_at, v20_at, v22_at]

theorem tok_row (r : Fin 32768) (h1 h2) : tok ⟨r.val / 4096, h1⟩ ⟨r.val % 4096, h2⟩ = r := Fin.ext (by dsimp only; omega)

section Results
variable (r : Fin 32768) (n : Fin 16) (i : Fin 64)

/-- The results, entry by entry. -/
theorem v102_at : val_main_v102 (F := Ideal) X mu (ix2 r ⟨n.val * 64 + i.val, by omega⟩)
    = shifted X mu r ⟨n.val * 64 + i.val, by omega⟩ := by
  pointwise [val_main_v102, val_main_v101, v20_at]
  simp only [tok_row]

theorem v104_at : val_main_v104 (F := Ideal) X mu (ix2 r ⟨n.val * 64 + i.val, by omega⟩)
    = shifted X mu r ⟨2048 + (n.val * 64 + i.val), by omega⟩ := by
  pointwise [val_main_v104, val_main_v103, v22_at]
  simp only [tok_row]

theorem v107_at : val_main_v107 (F := Ideal) X mu wk (ix2 r ⟨n.val * 64 + i.val, by omega⟩)
    = -unit X mu wk r ⟨n.val * 64 + i.val, by omega⟩ := by
  pointwise [val_main_v107, val_main_v106, val_main_v105, v56_at]
  simp only [tok_row]

theorem v109_at : val_main_v109 (F := Ideal) X mu A U wa (ix2 r ⟨n.val * 64 + i.val, by omega⟩)
    = keyOf X mu A U wa r 0 ⟨n.val * 64 + i.val, by omega⟩ := by
  pointwise [val_main_v109, val_main_v108, val_main_v69, v68_at]
  simp only [tok_row]

theorem v111_at : val_main_v111 (F := Ideal) X mu A U wa (ix2 r ⟨n.val * 64 + i.val, by omega⟩)
    = keyOf X mu A U wa r 1 ⟨n.val * 64 + i.val, by omega⟩ := by
  pointwise [val_main_v111, val_main_v110, val_main_v90, v89_at]
  simp only [tok_row]

theorem v113_at : val_main_v113 (F := Ideal) X mu A U wk (ix2 r ⟨n.val * 64 + i.val, by omega⟩)
    = unit X mu wk r ⟨n.val * 64 + i.val, by omega⟩ * rate X mu A U r 0 ⟨n.val * 64 + i.val, by omega⟩ := by
  pointwise [val_main_v113, val_main_v112, val_main_v71, val_main_v70, v56_at, v60_at]
  simp only [tok_row]

theorem v115_at : val_main_v115 (F := Ideal) X mu A U wk (ix2 r ⟨n.val * 64 + i.val, by omega⟩)
    = unit X mu wk r ⟨n.val * 64 + i.val, by omega⟩ * rate X mu A U r 1 ⟨n.val * 64 + i.val, by omega⟩ := by
  pointwise [val_main_v115, val_main_v114, val_main_v92, val_main_v91, v56_at, v81_at]
  simp only [tok_row]

theorem v118_at : val_main_v118 (F := Ideal) X mu A U wa wr (ix2 r ⟨n.val * 64 + i.val, by omega⟩)
    = bonusOf X mu A U wa wr r 0 ⟨n.val * 64 + i.val, by omega⟩
      + bonusOf X mu A U wa wr r 1 ⟨n.val * 64 + i.val, by omega⟩ := by
  pointwise [val_main_v118, val_main_v117, val_main_v116, v79_at, v100_at]
  simp only [tok_row]

theorem v120_at : val_main_v120 (F := Ideal) X mu G (ix2 r ⟨n.val * 64 + i.val, by omega⟩)
    = gate X mu G r ⟨n.val * 64 + i.val, by omega⟩ := by
  pointwise [val_main_v120, val_main_v119, v32_at]
  simp only [tok_row]

end Results

end Cert.PrepRefIdeal.Value

end
-- ==== Proof.PrepPay.lean ====
/- What the call before the recurrence stores, over the blocks that its body loads. -/
module

public import proofs.«01_k».proof.Proof.Post
public import proofs.«01_k».proof.Proof.PrepRef
public import proofs.«01_k».proof.Proof.Gen.PrepIdeal.Value
public import Idealize.ShloMosaic.Lib.Pipeline.ValueKit
public import Idealize.ShloMosaic.Lib.Claim

@[expose] public section

set_option maxRecDepth 16384

noncomputable section

open Idealize.ShloMosaic Idealize.ShloMosaic.TcCoe Idealize.SL.Sem

namespace Cert.PrepIdeal.Value

open Cert.PrepIdeal Cert.PrepIdeal.Gen
open Cert.PrepRefIdeal.Value (mix one_word)
open Cert.PostIdeal.Value (tiled tiled_cases)

/-- The reference's floor of a length, as a real number. -/
def floor : ℝ := 2305843 / 2305843009213693952

/-- The kernel's named constant is the floor's square. -/
theorem tiny_named : Named.named (F := Ideal) κ "tiny" (φ := .f32) 0x179ABE15#32 = ((floor * floor : ℝ) : EReal) :=
  IdealRules.named_const.ideal_named_scalar _ _ _ _ rfl

theorem first_row (j : Fin 128) : IntOp.cmpi .eq (BitVec.ofNat 32 j.val) 0#32 = if j.val = 0 then 1#1 else 0#1 := by
  revert j; decide +kernel

theorem last_row (j : Fin 128) : IntOp.cmpi .eq (BitVec.ofNat 32 j.val) 127#32 = if j.val = 127 then 1#1 else 0#1 := by
  revert j; decide +kernel

theorem first_block (i : grid0.Coords) :
    Scalar.cmpi .eq (BitVec.ofNat 32 (i 1).val) 0#32 = if (i 1).val = 0 then 1#1 else 0#1 :=
  (by decide +kernel : ∀ j : Fin 32, Scalar.cmpi .eq (BitVec.ofNat 32 j.val) 0#32 = if j.val = 0 then 1#1 else 0#1) (i 1)

theorem last_block (i : grid0.Coords) :
    Scalar.cmpi .eq (BitVec.ofNat 32 (i 1).val) 31#32 = if (i 1).val = 31 then 1#1 else 0#1 :=
  (by decide +kernel : ∀ j : Fin 32, Scalar.cmpi .eq (BitVec.ofNat 32 j.val) 31#32 = if j.val = 31 then 1#1 else 0#1) (i 1)

/-- A choice by a comparison's bit is a choice by the comparison. -/
theorem sel (p : Prop) [Decidable p] (a b : EReal) : Scalar.select (if p then 1#1 else 0#1) a b = if p then a else b := by
  split_ifs <;> rfl

variable (i : grid0.Coords) (x0 : Vec Ideal S128x3584 .f32) (x1 x2 : Vec Ideal S8x3584 .f32) (x3 : Vec Ideal S2x3584 .f32)
  (x4 x5 : Vec Ideal S1x2048 .f32) (x6 x7 : Vec Ideal S128x2048 .bf16) (x8 : Vec Ideal S256x1024 .bf16)
  (x9 x10 x11 : Vec Ideal S1x1024 .f32) (x12 : Vec Ideal S256x256 .bf16) (r : Fin 128)

/-- The shifted row. -/
theorem pay32_at (j : Fin 3584) : k0_pay32 (F := Ideal) i x0 x1 x2 x3 x4 x5 x6 x7 x8 x9 x10 x11 x12 (ix2 r j)
    = mix (x0 (ix2 r j)) (x3 (ix2 0 j)) (x3 (ix2 1 j))
        (if r.val = 0 then (if (i 1).val = 0 then 0 else x1 (ix2 7 j)) else x0 (ix2 ⟨r.val - 1, by omega⟩ j))
        (if h : r.val = 127 then (if (i 1).val = 31 then 0 else x2 (ix2 0 j)) else x0 (ix2 ⟨r.val + 1, by omega⟩ j)) := by
  unfold mix k0_pay32
  pointwise [k0_pay2]
  rw [first_row, first_block, last_row, last_block]
  have e : (⟨(r.val + 128 - 1) % 128, Nat.mod_lt _ (by decide)⟩ : Fin 128)
      = ⟨r.val - 1 + (if r.val = 0 then 127 else 0), by split_ifs <;> omega⟩ :=
    Fin.ext (by dsimp only; split_ifs <;> omega)
  have e' : (⟨(r.val + 128 - 127) % 128, Nat.mod_lt _ (by decide)⟩ : Fin 128)
      = ⟨if r.val = 127 then 0 else r.val + 1, by split_ifs <;> omega⟩ :=
    Fin.ext (by dsimp only; split_ifs <;> omega)
  have p : Scalar.select (if r.val = 0 then 1#1 else 0#1)
      (Scalar.select (if (i 1).val = 0 then 1#1 else 0#1) (0 : EReal) (x1 (ix2 7 j)))
      (x0 (ix2 ⟨r.val - 1 + (if r.val = 0 then 127 else 0), by split_ifs <;> omega⟩ j))
      = if r.val = 0 then (if (i 1).val = 0 then 0 else x1 (ix2 7 j)) else x0 (ix2 ⟨r.val - 1, by omega⟩ j) := by
    split_ifs <;> rfl
  have q : Scalar.select (if r.val = 127 then 1#1 else 0#1)
      (Scalar.select (if (i 1).val = 31 then 1#1 else 0#1) (0 : EReal) (x2 (ix2 0 j)))
      (x0 (ix2 ⟨if r.val = 127 then 0 else r.val + 1, by split_ifs <;> omega⟩ j))
      = if h : r.val = 127 then (if (i 1).val = 31 then 0 else x2 (ix2 0 j)) else x0 (ix2 ⟨r.val + 1, by omega⟩ j) := by
    rw [sel, sel]
    by_cases c : r.val = 127
    · simp only [c, ↓reduceIte, ↓reduceDIte]
    · simp only [c, ↓reduceIte, ↓reduceDIte]
  rw [e, e', p, q]

theorem pay33_at (k : Fin 1024) : k0_pay33 (F := Ideal) i x0 x1 x2 x3 x4 x5 x6 x7 x8 x9 x10 x11 x12 (ix2 r k)
    = k0_pay32 (F := Ideal) i x0 x1 x2 x3 x4 x5 x6 x7 x8 x9 x10 x11 x12 (ix2 r ⟨k.val, by omega⟩) := by
  unfold k0_pay33 k0_pay32
  pointwise [k0_pay3]

theorem pay34_at (k : Fin 1024) : k0_pay34 (F := Ideal) i x0 x1 x2 x3 x4 x5 x6 x7 x8 x9 x10 x11 x12 (ix2 r k)
    = k0_pay32 (F := Ideal) i x0 x1 x2 x3 x4 x5 x6 x7 x8 x9 x10 x11 x12 (ix2 r ⟨1024 + k.val, by omega⟩) := by
  unfold k0_pay34 k0_pay32
  pointwise [k0_pay4]

theorem pay35_at (k : Fin 1024) : k0_pay35 (F := Ideal) i x0 x1 x2 x3 x4 x5 x6 x7 x8 x9 x10 x11 x12 (ix2 r k)
    = k0_pay32 (F := Ideal) i x0 x1 x2 x3 x4 x5 x6 x7 x8 x9 x10 x11 x12 (ix2 r ⟨2048 + k.val, by omega⟩) := by
  unfold k0_pay35
  pointwise [k0_pay5]

/-- Both directions' rates. -/
theorem pay37_at (k : Fin 2048) : k0_pay37 (F := Ideal) i x0 x1 x2 x3 x4 x5 x6 x7 x8 x9 x10 x11 x12 (ix2 r k)
    = Ideal.logistic (x5 (ix2 0 k) + ∑ j : Fin 128, k0_pay32 (F := Ideal) i x0 x1 x2 x3 x4 x5 x6 x7 x8 x9 x10 x11 x12 (ix2 r ⟨3200 + j.val, by omega⟩) * x7 (ix2 j k)) := by
  unfold k0_pay37
  pointwise [k0_pay8]

/-- The removal key times the reciprocal length of its head. -/
theorem pay39_at (k : Fin 1024) (w : Fin 1024 → EReal)
    (hw : ∀ k, k0_pay34 (F := Ideal) i x0 x1 x2 x3 x4 x5 x6 x7 x8 x9 x10 x11 x12 (ix2 r k) * x9 (ix2 0 k) = w k) : k0_pay39 (F := Ideal) i x0 x1 x2 x3 x4 x5 x6 x7 x8 x9 x10 x11 x12 (ix2 r k)
    = w k * Ideal.rsqrt (max (tiled x12 (fun k => w k * w k) k + tiled x12 (fun k => w k * w k - w k * w k) k)
        ((floor * floor : ℝ) : EReal)) := by
  rw [tiled_cases]
  unfold k0_pay39 k0_pay38
  pointwise [k0_pay14, k0_pay9, k0_pay10, k0_pay11, k0_pay12, k0_pay13, tiny_named, hw]

theorem pay40_at (k : Fin 1024) : k0_pay40 (F := Ideal) i x0 x1 x2 x3 x4 x5 x6 x7 x8 x9 x10 x11 x12 (ix2 r k)
    = k0_pay34 (F := Ideal) i x0 x1 x2 x3 x4 x5 x6 x7 x8 x9 x10 x11 x12 (ix2 r k)
      * (1 + (k0_pay37 (F := Ideal) i x0 x1 x2 x3 x4 x5 x6 x7 x8 x9 x10 x11 x12 (ix2 r ⟨k.val, by omega⟩) - 1) * x10 (ix2 0 k)) := by
  unfold k0_pay40
  pointwise [k0_pay18, k0_pay15, k0_pay16, one_word]

theorem pay41_at (k : Fin 1024) : k0_pay41 (F := Ideal) i x0 x1 x2 x3 x4 x5 x6 x7 x8 x9 x10 x11 x12 (ix2 r k)
    = k0_pay34 (F := Ideal) i x0 x1 x2 x3 x4 x5 x6 x7 x8 x9 x10 x11 x12 (ix2 r k)
      * (1 + (k0_pay37 (F := Ideal) i x0 x1 x2 x3 x4 x5 x6 x7 x8 x9 x10 x11 x12 (ix2 r ⟨1024 + k.val, by omega⟩) - 1) * x10 (ix2 0 k)) := by
  unfold k0_pay41
  pointwise [k0_pay19, k0_pay15, k0_pay17, one_word]

/-- The stored blocks' entries. -/
theorem pay20_at (v : FVec Ideal S128x1024 .f32) (k : Fin 1024) : k0_pay20 (F := Ideal) v (ix2 r k) = v (ix2 r k) := by
  pointwise [k0_pay20]

theorem pay21_at (v : FVec Ideal S128x1024 .f32) (k : Fin 1024) : k0_pay21 (F := Ideal) v (ix2 r k) = v (ix2 r k) := by
  pointwise [k0_pay21]

theorem pay22_at (v : FVec Ideal S128x1024 .f32) (k : Fin 1024) : k0_pay22 (F := Ideal) v (ix2 r k) = -v (ix2 r k) := by
  pointwise [k0_pay22]
  exact zero_sub _

theorem pay25_at (v : FVec Ideal S128x1024 .f32) (k : Fin 1024) : k0_pay25 (F := Ideal) v (ix2 r k) = v (ix2 r k) := by
  pointwise [k0_pay25]

theorem pay26_at (v : FVec Ideal S128x1024 .f32) (k : Fin 1024) : k0_pay26 (F := Ideal) v (ix2 r k) = v (ix2 r k) := by
  pointwise [k0_pay26]

theorem pay27_at (v : FVec Ideal S128x1024 .f32) (w : FVec Ideal S128x2048 .f32) (k : Fin 1024) :
    k0_pay27 (F := Ideal) v (k0_pay16 w) (ix2 r k) = v (ix2 r k) * w (ix2 r ⟨k.val, by omega⟩) := by
  pointwise [k0_pay27, k0_pay16]

theorem pay28_at (v : FVec Ideal S128x1024 .f32) (w : FVec Ideal S128x2048 .f32) (k : Fin 1024) :
    k0_pay28 (F := Ideal) v (k0_pay17 w) (ix2 r k) = v (ix2 r k) * w (ix2 r ⟨1024 + k.val, by omega⟩) := by
  pointwise [k0_pay28, k0_pay17]

theorem pay6_at (v : FVec Ideal S128x3584 .f32) (k : Fin 1024) : k0_pay6 (F := Ideal) v x8 (ix2 r k)
    = ∑ j : Fin 256, Ideal.logistic (v (ix2 r ⟨3328 + j.val, by omega⟩)) * x8 (ix2 j k) := by
  pointwise [k0_pay6]

/-- The bonus: a head's sum, times the value. -/
theorem pay1_at (a b d e : FVec Ideal S128x1024 .f32) (k : Fin 1024) (w : Fin 1024 → EReal)
    (hw : ∀ k, a (ix2 r k) * x11 (ix2 0 k) * (b (ix2 r k) + d (ix2 r k)) = w k) :
    k0_pay1 (F := Ideal) e (k0_pay38 (F := Ideal) i x0 x1 x2 x3 x4 x5 x6 x7 x8 x9 x10 x11 x12)
        (k0_pay29 a b d x11) (k0_pay30 a b d x11) (k0_pay31 a b d x11) (ix2 r k)
      = (tiled x12 w k + tiled x12 (fun k => w k - w k) k) * e (ix2 r k) := by
  rw [tiled_cases]
  unfold k0_pay38
  pointwise [k0_pay1, k0_pay9, k0_pay29, k0_pay30, k0_pay31, hw]

end Cert.PrepIdeal.Value

end
-- ==== Proof.PrepBlk.lean ====
/- The blocks that the call before the recurrence loads, in terms of its arguments. -/
module

public import proofs.«01_k».proof.Proof.PrepPay
public import proofs.«01_k».proof.Proof.AttnPre
public import proofs.«01_k».proof.Proof.Online
public import proofs.«01_k».proof.Proof.Gen.Pre_rwkv_prep_args

@[expose] public section

set_option maxRecDepth 16384

noncomputable section

open Idealize.ShloMosaic Idealize.ShloMosaic.TcCoe Idealize.SL.Sem

namespace Cert.Pre_rwkv_prep_args.Value

open Cert.Pre_rwkv_prep_args
open Cert.Pre_attn_args.Value (pos_inf real_of_abs of_ofBool)

variable (a0 : FVec Ideal S32768x3584 .f32) (a1 : FVec Ideal S2x3488 .f32) (a2 : FVec Ideal S1x2048 .f32)
  (a3 : FVec Ideal S128x2048 .bf16) (a4 : FVec Ideal S2x1024 .f32) (a5 : FVec Ideal S2x64x1024 .f32)
  (a6 : FVec Ideal S160x1024 .f32) (a7 a8 : FVec Ideal S1024 .f32) (a9 : FVec Ideal S16x64 .f32)

theorem u_at (h : (fn (F := Ideal) a0 a1 a2 a3 a4 a5 a6 a7 a8 a9).1 = fun _ => 1#1) (r : Fin 32768) (j : Fin 3584) :
    ∃ x : ℝ, a0 (ix2 r j) = (x : EReal) := by
  have e := congrFun h (ix2 r j)
  pointwise [fn, pos_inf] at e
  exact real_of_abs _ (of_ofBool _ e)

theorem mu_at (h : (fn (F := Ideal) a0 a1 a2 a3 a4 a5 a6 a7 a8 a9).2.1 = fun _ => 1#1) (d : Fin 2) (j : Fin 3488) :
    ∃ x : ℝ, a1 (ix2 d j) = (x : EReal) := by
  have e := congrFun h (ix2 d j)
  pointwise [fn, pos_inf] at e
  exact real_of_abs _ (of_ofBool _ e)

theorem kk_at (h : (fn (F := Ideal) a0 a1 a2 a3 a4 a5 a6 a7 a8 a9).2.2.1 = fun _ => 1#1) (k : Fin 1024) :
    ∃ x : ℝ, a7 (ix1 k) = (x : EReal) := by
  have e := congrFun h (ix1 k)
  pointwise [fn, pos_inf] at e
  exact real_of_abs _ (of_ofBool _ e)

theorem ka_at (h : (fn (F := Ideal) a0 a1 a2 a3 a4 a5 a6 a7 a8 a9).2.2.2.1 = fun _ => 1#1) (k : Fin 1024) :
    ∃ x : ℝ, a8 (ix1 k) = (x : EReal) := by
  have e := congrFun h (ix1 k)
  pointwise [fn, pos_inf] at e
  exact real_of_abs _ (of_ofBool _ e)

theorem rk_at (h : (fn (F := Ideal) a0 a1 a2 a3 a4 a5 a6 a7 a8 a9).2.2.2.2 = fun _ => 1#1) (n : Fin 16) (i : Fin 64) :
    ∃ x : ℝ, a9 (ix2 n i) = (x : EReal) := by
  have e := congrFun h (ix2 n i)
  pointwise [fn, pos_inf] at e
  exact real_of_abs _ (of_ofBool _ e)

end Cert.Pre_rwkv_prep_args.Value

namespace Cert.PrepIdeal.Value

open Cert.PrepIdeal Cert.PrepIdeal.Gen
open Cert.PrepRefIdeal.Value (before after mix shifted)

variable (m : (ℓ : Loc nD τ sig) → Buf (Elt Ideal) ℓ)

/-- Blocks of 128 tokens; the 8-row blocks that end just before and begin just after them; every weight whole. -/
theorem idx_val : ∀ t : Fin cfg0.N, win0_0.index t = ![t.val, 0]
    ∧ win0_1.index t = ![t.val * 16 - 1, 0]
    ∧ win0_2.index t = ![min (t.val * 16 + 16) 4095, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![t.val, 0]
    ∧ win0_14.index t = ![t.val, 0]
    ∧ win0_15.index t = ![t.val, 0]
    ∧ win0_18.index t = ![t.val, 0]
    ∧ win0_19.index t = ![t.val, 0]
    ∧ win0_20.index t = ![t.val, 0]
    ∧ win0_21.index t = ![t.val, 0]
    ∧ win0_22.index t = ![t.val, 0]
    ∧ win0_23.index t = ![t.val, 0] :=
  (by decide +kernel : ∀ t : Fin grid0.N, _)

theorem coord_val : ∀ t : Fin cfg0.N, (cfg0.grid.coords t 1).val = t.val % 32 :=
  (by decide +kernel : ∀ t : Fin grid0.N, _)

/-- The row of the whole array at a block's row. -/
abbrev row (t : Fin cfg0.N) (r : Fin 128) : Fin 32768 := ⟨t.val * 128 + r.val, by have : t.val < 256 := t.isLt; omega⟩

/-! The arrays made before the call. -/

theorem mu_at (c : Dev nD) (d : Fin 2) (j : Fin 3584) :
    (show FVec Ideal S2x3584 .f32 from V m c main_v11) (ix2 d j)
      = if h : j.val < 3488 then (show FVec Ideal S2x3488 .f32 from m ((c : Thread nD τ).loc main_arg1)) (ix2 d ⟨j.val, h⟩)
        else (0 : EReal) := by
  dsimp only
  entry_read
  pointwise []

theorem a0_at (c : Dev nD) (k : Fin 2048) :
    (show FVec Ideal S1x2048 .f32 from V m c main_v21) (ix2 0 k)
      = (show FVec Ideal S2x1024 .f32 from m ((c : Thread nD τ).loc main_arg4)) (ix2 ⟨k.val / 1024, by omega⟩ ⟨k.val % 1024, by omega⟩) := by
  dsimp only
  entry_read
  pointwise []

theorem aup_at (c : Dev nD) (j : Fin 128) (k : Fin 2048) :
    (show FVec Ideal S128x2048 .bf16 from V m c main_v22) (ix2 j k)
      = if h : j.val < 64 then
          (if g : k.val < 1024 then (show FVec Ideal S2x64x1024 .f32 from m ((c : Thread nD τ).loc main_arg5)) (ix3 0 ⟨j.val, h⟩ ⟨k.val, g⟩)
            else (0 : EReal))
        else (if g : k.val < 1024 then (0 : EReal)
            else (show FVec Ideal S2x64x1024 .f32 from m ((c : Thread nD τ).loc main_arg5))
              (ix3 1 ⟨j.val - 64, by omega⟩ ⟨k.val - 1024, by omega⟩)) := by
  dsimp only
  entry_read
  pointwise []

theorem gup_at (c : Dev nD) (j : Fin 256) (k : Fin 1024) :
    (show FVec Ideal S256x1024 .bf16 from V m c main_v23) (ix2 j k)
      = if h : j.val < 160 then (show FVec Ideal S160x1024 .f32 from m ((c : Thread nD τ).loc main_arg6)) (ix2 ⟨j.val, h⟩ k)
        else (0 : EReal) := by
  dsimp only
  entry_read
  pointwise []

theorem kk_at (c : Dev nD) (k : Fin 1024) :
    (show FVec Ideal S1x1024 .f32 from V m c main_v24) (ix2 0 k)
      = (show FVec Ideal S1024 .f32 from m ((c : Thread nD τ).loc main_arg7)) (ix1 k) := by
  dsimp only
  entry_read
  pointwise []

theorem ka_at (c : Dev nD) (k : Fin 1024) :
    (show FVec Ideal S1x1024 .f32 from V m c main_v25) (ix2 0 k)
      = (show FVec Ideal S1024 .f32 from m ((c : Thread nD τ).loc main_arg8)) (ix1 k) := by
  dsimp only
  entry_read
  pointwise []

theorem rk_at (c : Dev nD) (k : Fin 1024) :
    (show FVec Ideal S1x1024 .f32 from V m c main_v26) (ix2 0 k)
      = (show FVec Ideal S16x64 .f32 from m ((c : Thread nD τ).loc main_arg9)) (ix2 ⟨k.val / 64, by omega⟩ ⟨k.val % 64, by omega⟩) := by
  dsimp only
  entry_read
  pointwise []

theorem head_no : ∀ j : Fin 256, IntOp.shrsi .host (BitVec.ofNat 32 j.val) 6#32 = BitVec.ofNat 32 (j.val / 64) := by
  decide +kernel

theorem ones_at (c : Dev nD) (j k : Fin 256) :
    (show FVec Ideal S256x256 .bf16 from V m c main_v20) (ix2 j k) = if j.val / 64 = k.val / 64 then (1 : EReal) else 0 := by
  dsimp only
  entry_read
  pointwise []
  rw [head_no, head_no, Cert.PostIdeal.Value.same_head ⟨j.val / 64, by omega⟩ ⟨k.val / 64, by omega⟩]
  split_ifs
  · exact (by simp : (((1#1 : BitVec 1).toNat : ℝ) : EReal) = 1)
  · exact (by simp : (((0#1 : BitVec 1).toNat : ℝ) : EReal) = 0)

/-! The blocks. -/

theorem blk0_at (c : Dev nD) (t : Fin cfg0.N) (r : Fin 128) (k : Fin 3584) :
    iblk m c 0 t (ix2 r k) = m ((c : Thread nD τ).loc main_arg0) (ix2 (row t r) k) := by
  rw [← V_main_arg0 m c]
  refine congrArg (show FVec Ideal S32768x3584 .f32 from V m c main_arg0) ?_
  blk_ext [idx_val t]

theorem blk1_at (c : Dev nD) (t : Fin cfg0.N) (h : t.val % 32 ≠ 0) (k : Fin 3584) :
    iblk m c 1 t (ix2 7 k)
      = m ((c : Thread nD τ).loc main_arg0) (ix2 ⟨t.val * 128 - 1, by have : t.val < 256 := t.isLt; omega⟩ k) := by
  have e : (⟨t.val * 128 - 1, by have : t.val < 256 := t.isLt; omega⟩ : Fin 32768)
      = ⟨(t.val * 16 - 1) * 8 + 7, by have : t.val < 256 := t.isLt; omega⟩ := Fin.ext (by dsimp only; omega)
  rw [e, ← V_main_arg0 m c]
  refine congrArg (show FVec Ideal S32768x3584 .f32 from V m c main_arg0) ?_
  blk_ext [idx_val t]

theorem blk2_at (c : Dev nD) (t : Fin cfg0.N) (h : t.val % 32 ≠ 31) (k : Fin 3584) :
    iblk m c 2 t (ix2 0 k)
      = m ((c : Thread nD τ).loc main_arg0) (ix2 ⟨t.val * 128 + 128, by have : t.val < 256 := t.isLt; omega⟩ k) := by
  have e : (⟨t.val * 128 + 128, by have : t.val < 256 := t.isLt; omega⟩ : Fin 32768)
      = ⟨min (t.val * 16 + 16) 4095 * 8, by have : t.val < 256 := t.isLt; omega⟩ := Fin.ext (by
        have : t.val < 256 := t.isLt
        dsimp only; omega)
  rw [e, ← V_main_arg0 m c]
  refine congrArg (show FVec Ideal S32768x3584 .f32 from V m c main_arg0) ?_
  blk_ext [idx_val t]

theorem blk3_at (c : Dev nD) (t : Fin cfg0.N) (d : Fin 2) (j : Fin 3584) :
    iblk m c 3 t (ix2 d j) = (show FVec Ideal S2x3584 .f32 from V m c main_v11) (ix2 d j) := by
  refine congrArg (show FVec Ideal S2x3584 .f32 from V m c main_v11) ?_
  blk_ext [idx_val t]

theorem blk5_at (c : Dev nD) (t : Fin cfg0.N) (k : Fin 2048) :
    iblk m c 5 t (ix2 0 k) = (show FVec Ideal S1x2048 .f32 from V m c main_v21) (ix2 0 k) := by
  refine congrArg (show FVec Ideal S1x2048 .f32 from V m c main_v21) ?_
  blk_ext [idx_val t]

theorem blk7_at (c : Dev nD) (t : Fin cfg0.N) (j : Fin 128) (k : Fin 2048) :
    iblk m c 7 t (ix2 j k) = (show FVec Ideal S128x2048 .bf16 from V m c main_v22) (ix2 j k) := by
  refine congrArg (show FVec Ideal S128x2048 .bf16 from V m c main_v22) ?_
  blk_ext [idx_val t]

theorem blk8_at (c : Dev nD) (t : Fin cfg0.N) (j : Fin 256) (k : Fin 1024) :
    iblk m c 8 t (ix2 j k) = (show FVec Ideal S256x1024 .bf16 from V m c main_v23) (ix2 j k) := by
  refine congrArg (show FVec Ideal S256x1024 .bf16 from V m c main_v23) ?_
  blk_ext [idx_val t]

theorem blk9_at (c : Dev nD) (t : Fin cfg0.N) (k : Fin 1024) :
    iblk m c 9 t (ix2 0 k) = (show FVec Ideal S1x1024 .f32 from V m c main_v24) (ix2 0 k) := by
  refine congrArg (show FVec Ideal S1x1024 .f32 from V m c main_v24) ?_
  blk_ext [idx_val t]

theorem blk10_at (c : Dev nD) (t : Fin cfg0.N) (k : Fin 1024) :
    iblk m c 10 t (ix2 0 k) = (show FVec Ideal S1x1024 .f32 from V m c main_v25) (ix2 0 k) := by
  refine congrArg (show FVec Ideal S1x1024 .f32 from V m c main_v25) ?_
  blk_ext [idx_val t]

theorem blk11_at (c : Dev nD) (t : Fin cfg0.N) (k : Fin 1024) :
    iblk m c 11 t (ix2 0 k) = (show FVec Ideal S1x1024 .f32 from V m c main_v26) (ix2 0 k) := by
  refine congrArg (show FVec Ideal S1x1024 .f32 from V m c main_v26) ?_
  blk_ext [idx_val t]

theorem blk12_at (c : Dev nD) (t : Fin cfg0.N) (j k : Fin 256) :
    iblk m c 12 t (ix2 j k) = (show FVec Ideal S256x256 .bf16 from V m c main_v20) (ix2 j k) := by
  refine congrArg (show FVec Ideal S256x256 .bf16 from V m c main_v20) ?_
  blk_ext [idx_val t]

/-- The shifted block is the shifted rows, on the columns that have weights. -/
theorem shifted_at (c : Dev nD) (t : Fin cfg0.N) (r : Fin 128) (j : Fin 3488) :
    k0_pay32 (F := Ideal) (cfg0.grid.coords t) (iblk m c 0 t) (iblk m c 1 t) (iblk m c 2 t) (iblk m c 3 t) (iblk m c 4 t)
        (iblk m c 5 t) (iblk m c 6 t) (iblk m c 7 t) (iblk m c 8 t) (iblk m c 9 t) (iblk m c 10 t) (iblk m c 11 t)
        (iblk m c 12 t) (ix2 r ⟨j.val, by omega⟩)
      = shifted (m ((c : Thread nD τ).loc main_arg0)) (m ((c : Thread nD τ).loc main_arg1)) (row t r) j := by
  have lt : t.val < 256 := t.isLt
  rw [pay32_at, shifted, blk0_at, coord_val]
  have p : ∀ d : Fin 2, iblk m c 3 t (ix2 d ⟨j.val, by omega⟩) = m ((c : Thread nD τ).loc main_arg1) (ix2 d j) := fun d =>
    (blk3_at m c t d _).trans ((mu_at m c d _).trans (dif_pos j.isLt))
  rw [p 0, p 1]
  refine congrArg₂ (mix _ _ _) ?_ ?_
  · unfold before
    by_cases h0 : r.val = 0
    · rw [if_pos h0]
      by_cases h8 : t.val % 32 = 0
      · rw [if_pos h8, if_pos (by dsimp only; omega)]
      · rw [if_neg h8, if_neg (by dsimp only; omega), blk1_at m c t h8]
        exact congrArg (fun q => m ((c : Thread nD τ).loc main_arg0) (ix2 q ⟨j.val, by omega⟩)) (Fin.ext (by dsimp only; omega))
    · rw [if_neg h0, if_neg (by dsimp only; omega), blk0_at]
      exact congrArg (fun q => m ((c : Thread nD τ).loc main_arg0) (ix2 q ⟨j.val, by omega⟩)) (Fin.ext (by dsimp only; omega))
  · unfold after
    by_cases h0 : r.val = 127
    · rw [dif_pos h0]
      by_cases h8 : t.val % 32 = 31
      · rw [if_pos h8, dif_pos (by dsimp only; omega)]
      · rw [if_neg h8, dif_neg (by dsimp only; omega), blk2_at m c t h8]
        exact congrArg (fun q => m ((c : Thread nD τ).loc main_arg0) (ix2 q ⟨j.val, by omega⟩)) (Fin.ext (by dsimp only; omega))
    · rw [dif_neg h0, dif_neg (by dsimp only; omega), blk0_at]
      exact congrArg (fun q => m ((c : Thread nD τ).loc main_arg0) (ix2 q ⟨j.val, by omega⟩)) (Fin.ext (by dsimp only; omega))

end Cert.PrepIdeal.Value

end
-- ==== Proof.Prep.lean ====
/- The call before the recurrence stores the reference's arrays. -/
module

public import proofs.«01_k».proof.Proof.PrepBlk

@[expose] public section

set_option maxRecDepth 16384

noncomputable section

open Idealize.ShloMosaic Idealize.ShloMosaic.TcCoe Idealize.SL.Sem

namespace Cert.PrepIdeal.Value

open Cert.PrepIdeal Cert.PrepIdeal.Gen
open Cert.PrepRefIdeal.Value (before after mix shifted rate gate raw headSum unit keyOf bonusOf v102_at v104_at v107_at v109_at
  v111_at v113_at v115_at v118_at v120_at)
open Cert.PostIdeal.Value (tiled tiled_zero group_sum sub_zero_of_real)

/-! Sums. -/

/-- A sum whose last terms are zero. -/
theorem sum_left {a b : ℕ} (f : Fin (a + b) → EReal) (z : ∀ i : Fin b, f (Fin.natAdd a i) = 0) :
    ∑ j, f j = ∑ i : Fin a, f (Fin.castAdd b i) := by
  rw [Fin.sum_univ_add, Finset.sum_eq_zero (fun i _ => z i), add_zero]

/-- A sum whose first terms are zero. -/
theorem sum_right {a b : ℕ} (f : Fin (a + b) → EReal) (z : ∀ i : Fin a, f (Fin.castAdd b i) = 0) :
    ∑ j, f j = ∑ i : Fin b, f (Fin.natAdd a i) := by
  rw [Fin.sum_univ_add, Finset.sum_eq_zero (fun i _ => z i), zero_add]

/-- A product with rows of which those from 160 are zero. -/
theorem gate_sum (f w : Fin 256 → EReal) (f' w' : Fin 160 → EReal) (hw : ∀ j, w j = if h : j.val < 160 then w' ⟨j.val, h⟩ else 0)
    (hf : ∀ i : Fin 160, f ⟨i.val, by omega⟩ = f' i) : ∑ j, f j * w j = ∑ i, f' i * w' i := by
  refine (sum_left (a := 160) (b := 96) (fun j => f j * w j) fun i => ?_).trans (Finset.sum_congr rfl fun i _ => ?_)
  · refine (congrArg (fun e : EReal => f (Fin.natAdd 160 i) * e) ((hw _).trans (dif_neg ?_))).trans (mul_zero _)
    exact (Nat.le_add_right 160 i.val).not_gt
  · exact congrArg₂ (fun p q : EReal => p * q) (hf i) ((hw _).trans (dif_pos i.isLt))

/-- The product with the matrix of ones adds up each head. -/
theorem tiled_head (x : Vec Ideal S256x256 .bf16) (hx : ∀ j k, x (ix2 j k) = if j.val / 64 = k.val / 64 then 1 else 0)
    (f : Fin 1024 → EReal) (k : Fin 1024) : tiled x f k = headSum f ⟨k.val / 64, by omega⟩ := by
  unfold tiled headSum
  simp only [hx]
  refine (group_sum (fun j => f ⟨k.val / 256 * 256 + j.val, by omega⟩) ⟨k.val % 256 / 64, by omega⟩).trans ?_
  refine Finset.sum_congr rfl fun i _ => congrArg f (Fin.ext ?_)
  simp only []
  omega

/-- A head's sum from the two parts that the kernel makes of its entries. -/
theorem two_parts (x : Vec Ideal S256x256 .bf16) (hx : ∀ j k, x (ix2 j k) = if j.val / 64 = k.val / 64 then 1 else 0)
    (f : Fin 1024 → EReal) (hf : ∀ k, ∃ a : ℝ, f k = (a : EReal)) (k : Fin 1024) :
    tiled x f k + tiled x (fun k => f k - f k) k = headSum f ⟨k.val / 64, by omega⟩ := by
  rw [tiled_zero x (fun k => f k - f k) (fun k => sub_zero_of_real _ (hf k)), add_zero, tiled_head x hx]

/-! Real numbers. -/

theorem add_real {x y : EReal} (hx : ∃ a : ℝ, x = (a : EReal)) (hy : ∃ a : ℝ, y = (a : EReal)) : ∃ a : ℝ, x + y = (a : EReal) := by
  obtain ⟨a, rfl⟩ := hx
  obtain ⟨b, rfl⟩ := hy
  exact ⟨a + b, (EReal.coe_add a b).symm⟩

theorem sub_real {x y : EReal} (hx : ∃ a : ℝ, x = (a : EReal)) (hy : ∃ a : ℝ, y = (a : EReal)) : ∃ a : ℝ, x - y = (a : EReal) := by
  obtain ⟨a, rfl⟩ := hx
  obtain ⟨b, rfl⟩ := hy
  exact ⟨a - b, (EReal.coe_sub a b).symm⟩

theorem mul_real {x y : EReal} (hx : ∃ a : ℝ, x = (a : EReal)) (hy : ∃ a : ℝ, y = (a : EReal)) : ∃ a : ℝ, x * y = (a : EReal) := by
  obtain ⟨a, rfl⟩ := hx
  obtain ⟨b, rfl⟩ := hy
  exact ⟨a * b, (EReal.coe_mul a b).symm⟩

theorem one_real : ∃ a : ℝ, (1 : EReal) = (a : EReal) := ⟨1, EReal.coe_one.symm⟩

theorem zero_real : ∃ a : ℝ, (0 : EReal) = (a : EReal) := ⟨0, EReal.coe_zero.symm⟩

theorem logistic_real (x : EReal) : ∃ a : ℝ, Ideal.logistic x = (a : EReal) := by
  induction x with
  | bot => exact ⟨0, by rw [Ideal.logistic_bot, EReal.coe_zero]⟩
  | top => exact ⟨1, by rw [Ideal.logistic_top, EReal.coe_one]⟩
  | coe r => exact ⟨_, Ideal.logistic_coe r⟩

theorem headSum_coe (f : Fin 1024 → EReal) (a : Fin 1024 → ℝ) (h : ∀ k, f k = (a k : EReal)) (n : Fin 16) :
    headSum f n = ((∑ i : Fin 64, a ⟨n.val * 64 + i.val, by omega⟩ : ℝ) : EReal) := by
  unfold headSum
  rw [Cert.Online.coe_sum]
  simp only [h]

theorem floor_word : Ideal.ofBits .f32 0x2B8CBCCC#32 = ((floor : ℝ) : EReal) := by
  simp [floor, Ideal.ofBits, Ideal.ieee, -EReal.coe_mul]; norm_num

/-- Times the reciprocal square root of the floored square is over the floored length. -/
theorem over_length (x s : ℝ) (hs : 0 ≤ s) : (x : EReal) * Ideal.rsqrt (max (s : EReal) ((floor * floor : ℝ) : EReal))
    = Ideal.div (x : EReal) (max (Ideal.sqrt (s : EReal)) (Ideal.ofBits .f32 0x2B8CBCCC#32)) := by
  have hf : 0 < floor := by unfold floor; norm_num
  have hm : 0 < max s (floor * floor) := lt_max_of_lt_right (mul_pos hf hf)
  have cm : ∀ a b : ℝ, max (a : EReal) (b : EReal) = ((max a b : ℝ) : EReal) := fun a b =>
    (EReal.coe_strictMono.monotone.map_max).symm
  have e : Real.sqrt (max s (floor * floor)) = max (Real.sqrt s) floor := by
    rw [Monotone.map_max (f := Real.sqrt) (fun _ _ h => Real.sqrt_le_sqrt h), Real.sqrt_mul_self hf.le]
  rw [floor_word, Ideal.sqrt_coe, if_neg hs.not_gt, cm, cm, Ideal.rsqrt_coe, if_neg hm.not_gt,
    if_neg hm.ne', Ideal.div_coe (lt_max_of_lt_right hf).ne', e, one_div]

/-- The same for a key whose entries are real. -/
theorem unit_eq (w : Fin 1024 → EReal) (hw : ∀ k, ∃ a : ℝ, w k = (a : EReal)) (k : Fin 1024) :
    w k * Ideal.rsqrt (max (headSum (fun k => w k * w k) ⟨k.val / 64, by omega⟩) ((floor * floor : ℝ) : EReal))
      = Ideal.div (w k) (max (Ideal.sqrt (headSum (fun k => w k * w k) ⟨k.val / 64, by omega⟩)) (Ideal.ofBits .f32 0x2B8CBCCC#32)) := by
  choose a ha using hw
  rw [headSum_coe (fun k => w k * w k) (fun k => a k * a k) (fun k => by rw [ha, EReal.coe_mul]), ha]
  exact over_length _ _ (Finset.sum_nonneg fun i _ => mul_self_nonneg _)

/-- The two directions' bonuses together are the bonus of the keys' sum. -/
theorem bonus_eq (f g h : Fin 1024 → EReal) (v : EReal) (hf : ∀ k, ∃ a : ℝ, f k = (a : EReal))
    (hg : ∀ k, ∃ a : ℝ, g k = (a : EReal)) (hfg : ∀ k, h k = f k + g k) (hv : ∃ a : ℝ, v = (a : EReal)) (n : Fin 16) :
    headSum h n * v = headSum f n * v + headSum g n * v := by
  choose a ha using hf
  choose b hb using hg
  obtain ⟨d, rfl⟩ := hv
  rw [headSum_coe f a ha, headSum_coe g b hb, headSum_coe h (fun k => a k + b k) (fun k => by rw [hfg, ha, hb, EReal.coe_add]),
    ← EReal.coe_mul, ← EReal.coe_mul, ← EReal.coe_mul, ← EReal.coe_add, Finset.sum_add_distrib, add_mul]

/-- Weights and keys multiplied in either order. -/
theorem bonus_terms {x w p q : EReal} (hx : ∃ a : ℝ, x = (a : EReal)) (hw : ∃ a : ℝ, w = (a : EReal))
    (hp : ∃ a : ℝ, p = (a : EReal)) (hq : ∃ a : ℝ, q = (a : EReal)) : x * w * (p + q) = x * p * w + x * q * w := by
  obtain ⟨a, rfl⟩ := hx
  obtain ⟨b, rfl⟩ := hw
  obtain ⟨d, rfl⟩ := hp
  obtain ⟨e, rfl⟩ := hq
  rw [← EReal.coe_mul, ← EReal.coe_add, ← EReal.coe_mul, ← EReal.coe_mul, ← EReal.coe_mul, ← EReal.coe_mul, ← EReal.coe_mul,
    ← EReal.coe_add]
  exact congrArg _ (by ring)

variable (m : (ℓ : Loc nD τ sig) → Buf (Elt Ideal) ℓ)

/-- The call's precondition at a memory. -/
abbrev Holds (c : Dev nD) : Prop :=
  let f := Cert.Pre_rwkv_prep_args.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
  f.1 = (fun _ => 1#1) ∧ f.2.1 = (fun _ => 1#1) ∧ f.2.2.1 = (fun _ => 1#1) ∧ f.2.2.2.1 = (fun _ => 1#1) ∧ f.2.2.2.2 = (fun _ => 1#1)

theorem shifted_real (c : Dev nD) (h : Holds m c) (r : Fin 32768) (j : Fin 3488) :
    ∃ a : ℝ, shifted (m ((c : Thread nD τ).loc main_arg0)) (m ((c : Thread nD τ).loc main_arg1)) r j = (a : EReal) := by
  have u := Cert.Pre_rwkv_prep_args.Value.u_at _ _ _ _ _ _ _ _ _ _ h.1
  have w := Cert.Pre_rwkv_prep_args.Value.mu_at _ _ _ _ _ _ _ _ _ _ h.2.1
  have p : ∃ a : ℝ, before (m ((c : Thread nD τ).loc main_arg0)) r ⟨j.val, by omega⟩ = (a : EReal) := by
    unfold before
    split_ifs
    · exact zero_real
    · exact u _ _
  have n : ∃ a : ℝ, after (m ((c : Thread nD τ).loc main_arg0)) r ⟨j.val, by omega⟩ = (a : EReal) := by
    unfold after
    split_ifs
    · exact zero_real
    · exact u _ _
  unfold shifted mix
  exact add_real (add_real (u _ _) (mul_real (w _ _) (sub_real p (u _ _)))) (mul_real (w _ _) (sub_real n (u _ _)))

theorem raw_real (c : Dev nD) (h : Holds m c) (r : Fin 32768) (k : Fin 1024) :
    ∃ a : ℝ, raw (m ((c : Thread nD τ).loc main_arg0)) (m ((c : Thread nD τ).loc main_arg1)) (m ((c : Thread nD τ).loc main_arg7)) r k = (a : EReal) :=
  mul_real (shifted_real m c h _ _) (Cert.Pre_rwkv_prep_args.Value.kk_at _ _ _ _ _ _ _ _ _ _ h.2.2.1 k)

theorem keyOf_real (c : Dev nD) (h : Holds m c) (r : Fin 32768) (d : Fin 2) (k : Fin 1024) :
    ∃ a : ℝ, keyOf (m ((c : Thread nD τ).loc main_arg0)) (m ((c : Thread nD τ).loc main_arg1)) (m ((c : Thread nD τ).loc main_arg4)) (m ((c : Thread nD τ).loc main_arg5)) (m ((c : Thread nD τ).loc main_arg8)) r d k = (a : EReal) :=
  mul_real (shifted_real m c h _ _) (add_real one_real (mul_real (sub_real (logistic_real _) one_real)
    (Cert.Pre_rwkv_prep_args.Value.ka_at _ _ _ _ _ _ _ _ _ _ h.2.2.2.1 k)))

/-! The blocks that the body makes, over the call's arguments. -/

variable (c : Dev nD) (t : Fin cfg0.N) (r : Fin 128)

theorem recept_at (k : Fin 1024) : k0_pay33 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = shifted (m ((c : Thread nD τ).loc main_arg0)) (m ((c : Thread nD τ).loc main_arg1)) (row t r) ⟨k.val, by omega⟩ :=
  (pay33_at _ _ _ _ _ _ _ _ _ _ _ _ _ _ r k).trans (shifted_at m c t r ⟨k.val, by omega⟩)

theorem key_at (k : Fin 1024) : k0_pay34 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = shifted (m ((c : Thread nD τ).loc main_arg0)) (m ((c : Thread nD τ).loc main_arg1)) (row t r) ⟨1024 + k.val, by omega⟩ :=
  (pay34_at _ _ _ _ _ _ _ _ _ _ _ _ _ _ r k).trans (shifted_at m c t r ⟨1024 + k.val, by omega⟩)

theorem value_at (k : Fin 1024) : k0_pay35 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = shifted (m ((c : Thread nD τ).loc main_arg0)) (m ((c : Thread nD τ).loc main_arg1)) (row t r) ⟨2048 + k.val, by omega⟩ :=
  (pay35_at _ _ _ _ _ _ _ _ _ _ _ _ _ _ r k).trans (shifted_at m c t r ⟨2048 + k.val, by omega⟩)

theorem rate0_at (k : Fin 1024) : k0_pay37 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r ⟨k.val, by omega⟩)
    = rate (m ((c : Thread nD τ).loc main_arg0)) (m ((c : Thread nD τ).loc main_arg1)) (m ((c : Thread nD τ).loc main_arg4)) (m ((c : Thread nD τ).loc main_arg5)) (row t r) 0 k := by
  rw [pay37_at, blk5_at, a0_at]
  unfold rate
  refine congrArg Ideal.logistic (congrArg₂ (fun p q : EReal => p + q) ?_ ?_)
  · exact congrArg₂ (fun p q => m ((c : Thread nD τ).loc main_arg4) (ix2 p q)) (Fin.ext (Nat.div_eq_of_lt k.isLt))
      (Fin.ext (Nat.mod_eq_of_lt k.isLt))
  · refine (sum_left (a := 64) (b := 64) _ fun i => ?_).trans (Finset.sum_congr rfl fun i _ => ?_)
    · refine (congrArg (fun e : EReal => _ * e) ((blk7_at m c t _ _).trans ((aup_at m c _ _).trans ?_))).trans (mul_zero _)
      exact (dif_neg (by simp)).trans (dif_pos k.isLt)
    · refine (mul_comm _ _).trans (congrArg₂ (fun p q : EReal => p * q)
        ((blk7_at m c t _ _).trans ((aup_at m c _ _).trans ((dif_pos i.isLt).trans (dif_pos k.isLt)))) ?_)
      exact (shifted_at m c t r ⟨3200 + i.val, by omega⟩).trans (congrArg (shifted _ _ _) (Fin.ext (by simp)))

theorem rate1_at (k : Fin 1024) : k0_pay37 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r ⟨1024 + k.val, by omega⟩)
    = rate (m ((c : Thread nD τ).loc main_arg0)) (m ((c : Thread nD τ).loc main_arg1)) (m ((c : Thread nD τ).loc main_arg4)) (m ((c : Thread nD τ).loc main_arg5)) (row t r) 1 k := by
  rw [pay37_at, blk5_at, a0_at]
  unfold rate
  refine congrArg Ideal.logistic (congrArg₂ (fun p q : EReal => p + q) ?_ ?_)
  · exact congrArg₂ (fun p q => m ((c : Thread nD τ).loc main_arg4) (ix2 p q)) (Fin.ext (by dsimp only [Fin.val_one]; omega))
      (Fin.ext (by dsimp only; omega))
  · refine (sum_right (a := 64) (b := 64) _ fun i => ?_).trans (Finset.sum_congr rfl fun i _ => ?_)
    · refine (congrArg (fun e : EReal => _ * e) ((blk7_at m c t _ _).trans ((aup_at m c _ _).trans ?_))).trans (mul_zero _)
      exact (dif_pos i.isLt).trans (dif_neg (by simp))
    · refine (mul_comm _ _).trans (congrArg₂ (fun p q : EReal => p * q)
        ((blk7_at m c t _ _).trans ((aup_at m c _ _).trans ((dif_neg (by simp)).trans ((dif_neg (by simp)).trans ?_)))) ?_)
      · exact congrArg₂ (fun p q => m ((c : Thread nD τ).loc main_arg5) (ix3 1 p q)) (Fin.ext (by simp)) (Fin.ext (by simp))
      · exact (shifted_at m c t r ⟨3200 + (64 + i.val), by omega⟩).trans (congrArg (shifted _ _ _) (Fin.ext (by simp)))

theorem key0_at (k : Fin 1024) : k0_pay40 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = keyOf (m ((c : Thread nD τ).loc main_arg0)) (m ((c : Thread nD τ).loc main_arg1)) (m ((c : Thread nD τ).loc main_arg4)) (m ((c : Thread nD τ).loc main_arg5)) (m ((c : Thread nD τ).loc main_arg8)) (row t r) 0 k := by
  rw [pay40_at, key_at, rate0_at, blk10_at, ka_at, keyOf]

theorem key1_at (k : Fin 1024) : k0_pay41 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = keyOf (m ((c : Thread nD τ).loc main_arg0)) (m ((c : Thread nD τ).loc main_arg1)) (m ((c : Thread nD τ).loc main_arg4)) (m ((c : Thread nD τ).loc main_arg5)) (m ((c : Thread nD τ).loc main_arg8)) (row t r) 1 k := by
  rw [pay41_at, key_at, rate1_at, blk10_at, ka_at, keyOf]

theorem ones (j k : Fin 256) : iblk m c 12 t (ix2 j k) = if j.val / 64 = k.val / 64 then (1 : EReal) else (0 : EReal) :=
  (blk12_at m c t j k).trans (ones_at m c j k)

theorem unit_at (h : Holds m c) (k : Fin 1024) : k0_pay39 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r k)
    = unit (m ((c : Thread nD τ).loc main_arg0)) (m ((c : Thread nD τ).loc main_arg1)) (m ((c : Thread nD τ).loc main_arg7)) (row t r) k := by
  refine (pay39_at _ _ _ _ _ _ _ _ _ _ _ _ _ _ r k (raw (m ((c : Thread nD τ).loc main_arg0)) (m ((c : Thread nD τ).loc main_arg1)) (m ((c : Thread nD τ).loc main_arg7)) (row t r)) fun k => ?_).trans ?_
  · rw [key_at, blk9_at, kk_at, raw]
  · rw [two_parts (iblk m c 12 t) (ones m c t) (fun k => raw (m ((c : Thread nD τ).loc main_arg0)) (m ((c : Thread nD τ).loc main_arg1)) (m ((c : Thread nD τ).loc main_arg7)) (row t r) k * raw (m ((c : Thread nD τ).loc main_arg0)) (m ((c : Thread nD τ).loc main_arg1)) (m ((c : Thread nD τ).loc main_arg7)) (row t r) k)
      (fun k => mul_real (raw_real m c h _ k) (raw_real m c h _ k))]
    exact unit_eq _ (raw_real m c h _) k

theorem gate_at (k : Fin 1024) : k0_pay6 (F := Ideal) (k0_pay32 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 8 t) (ix2 r k)
    = gate (m ((c : Thread nD τ).loc main_arg0)) (m ((c : Thread nD τ).loc main_arg1)) (m ((c : Thread nD τ).loc main_arg6)) (row t r) k := by
  rw [pay6_at]
  unfold gate
  exact gate_sum _ _ _ (fun i => (m ((c : Thread nD τ).loc main_arg6)) (ix2 i k)) (fun j => (blk8_at m c t _ _).trans (gup_at m c _ _))
    fun i => congrArg Ideal.logistic (shifted_at m c t r ⟨3328 + i.val, by omega⟩)

theorem bonus_at (h : Holds m c) (k : Fin 1024) :
    k0_pay1 (F := Ideal) (k0_pay35 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay38 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t))
        (k0_pay29 (k0_pay33 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay40 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay41 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t))
        (k0_pay30 (k0_pay33 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay40 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay41 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t))
        (k0_pay31 (k0_pay33 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay40 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay41 (F := Ideal) (cfg0.grid.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (iblk m c 11 t)) (ix2 r k)
      = bonusOf (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (row t r) 0 k + bonusOf (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (row t r) 1 k := by
  have kr := keyOf_real m c h (row t r)
  have rr : ∀ k : Fin 1024, ∃ a : ℝ, (m ((c : Thread nD τ).loc main_arg9)) (ix2 ⟨k.val / 64, by omega⟩ ⟨k.val % 64, by omega⟩) = (a : EReal) := fun k =>
    Cert.Pre_rwkv_prep_args.Value.rk_at _ _ _ _ _ _ _ _ _ _ h.2.2.2.2 _ _
  refine (pay1_at _ _ _ _ _ _ _ _ _ _ _ _ (iblk m c 11 t) (iblk m c 12 t) r _ _ _ _ k
    (fun k => shifted (m ((c : Thread nD τ).loc main_arg0)) (m ((c : Thread nD τ).loc main_arg1)) (row t r) ⟨k.val, by omega⟩ * (m ((c : Thread nD τ).loc main_arg9)) (ix2 ⟨k.val / 64, by omega⟩ ⟨k.val % 64, by omega⟩)
      * (keyOf (m ((c : Thread nD τ).loc main_arg0)) (m ((c : Thread nD τ).loc main_arg1)) (m ((c : Thread nD τ).loc main_arg4)) (m ((c : Thread nD τ).loc main_arg5)) (m ((c : Thread nD τ).loc main_arg8)) (row t r) 0 k + keyOf (m ((c : Thread nD τ).loc main_arg0)) (m ((c : Thread nD τ).loc main_arg1)) (m ((c : Thread nD τ).loc main_arg4)) (m ((c : Thread nD τ).loc main_arg5)) (m ((c : Thread nD τ).loc main_arg8)) (row t r) 1 k)) fun k => ?_).trans ?_
  · rw [recept_at, key0_at, key1_at, blk11_at, rk_at]
  · rw [two_parts (iblk m c 12 t) (ones m c t) _
      (fun k => mul_real (mul_real (shifted_real m c h _ _) (rr k)) (add_real (kr 0 k) (kr 1 k))), value_at]
    exact bonus_eq _ _ _ _ (fun k => mul_real (mul_real (shifted_real m c h _ _) (kr 0 k)) (rr k))
      (fun k => mul_real (mul_real (shifted_real m c h _ _) (kr 1 k)) (rr k))
      (fun k => bonus_terms (shifted_real m c h _ _) (rr k) (kr 0 k) (kr 1 k)) (shifted_real m c h _ _) _

/-- An index of a block is its row, its head and its lane. -/
theorem block_ix (y : S128x1024.Idx) : ∃ (r : Fin 128) (n : Fin 16) (i : Fin 64), y = ix2 r ⟨n.val * 64 + i.val, by omega⟩ := by
  refine ⟨y 0, ⟨(y 1).val / 64, ?_⟩, ⟨(y 1).val % 64, ?_⟩, ?_⟩
  · have : (y 1).val < 1024 := (y 1).isLt
    omega
  · omega
  · funext a
    match a with
    | ⟨0, _⟩ => rfl
    | ⟨1, _⟩ => exact Fin.ext (Nat.div_add_mod' _ _).symm

/-! The result arrays after the run. -/

theorem final13 (c : Dev nD) : (dats m 0 c).arrAt 13 (cfgs 0).N
    = Cert.PrepRefIdeal.Read.val_main_v102 (F := Ideal) (m ((c : Thread nD τ).loc main_arg0)) (m ((c : Thread nD τ).loc main_arg1)) := by
  refine (dats m 0 c).arrAt_eq_of_covers 13 _ (by decide +kernel) fun t hf y => ?_
  blk_simp; rw [after0_13]; frame_out
  obtain ⟨r, n, i, rfl⟩ := block_ix y
  refine (((pay20_at r _ ⟨n.val * 64 + i.val, by omega⟩).trans (recept_at m c t r _)).trans (v102_at (m ((c : Thread nD τ).loc main_arg0)) (m ((c : Thread nD τ).loc main_arg1)) (row t r) n i).symm).trans (congrArg _ ?_)
  symm
  blk_ext [idx_val t]

theorem final14 (c : Dev nD) : (dats m 0 c).arrAt 14 (cfgs 0).N
    = Cert.PrepRefIdeal.Read.val_main_v104 (F := Ideal) (m ((c : Thread nD τ).loc main_arg0)) (m ((c : Thread nD τ).loc main_arg1)) := by
  refine (dats m 0 c).arrAt_eq_of_covers 14 _ (by decide +kernel) fun t hf y => ?_
  blk_simp; rw [after0_14]; frame_out
  obtain ⟨r, n, i, rfl⟩ := block_ix y
  refine (((pay21_at r _ ⟨n.val * 64 + i.val, by omega⟩).trans (value_at m c t r _)).trans (v104_at (m ((c : Thread nD τ).loc main_arg0)) (m ((c : Thread nD τ).loc main_arg1)) (row t r) n i).symm).trans (congrArg _ ?_)
  symm
  blk_ext [idx_val t]

theorem final15 (c : Dev nD) (h : Holds m c) : (dats m 0 c).arrAt 15 (cfgs 0).N
    = Cert.PrepRefIdeal.Read.val_main_v107 (F := Ideal) (m ((c : Thread nD τ).loc main_arg0)) (m ((c : Thread nD τ).loc main_arg1)) (m ((c : Thread nD τ).loc main_arg7)) := by
  refine (dats m 0 c).arrAt_eq_of_covers 15 _ (by decide +kernel) fun t hf y => ?_
  blk_simp; rw [after0_15]; frame_out
  obtain ⟨r, n, i, rfl⟩ := block_ix y
  refine (((pay22_at r _ ⟨n.val * 64 + i.val, by omega⟩).trans (congrArg (fun e : EReal => -e) (unit_at m c t r h _))).trans (v107_at (m ((c : Thread nD τ).loc main_arg0)) (m ((c : Thread nD τ).loc main_arg1)) (m ((c : Thread nD τ).loc main_arg7)) (row t r) n i).symm).trans (congrArg _ ?_)
  symm
  blk_ext [idx_val t]

theorem final18 (c : Dev nD) : (dats m 0 c).arrAt 18 (cfgs 0).N
    = Cert.PrepRefIdeal.Read.val_main_v109 (F := Ideal) (m ((c : Thread nD τ).loc main_arg0)) (m ((c : Thread nD τ).loc main_arg1)) (m ((c : Thread nD τ).loc main_arg4)) (m ((c : Thread nD τ).loc main_arg5)) (m ((c : Thread nD τ).loc main_arg8)) := by
  refine (dats m 0 c).arrAt_eq_of_covers 18 _ (by decide +kernel) fun t hf y => ?_
  blk_simp; rw [after0_18]; frame_out
  obtain ⟨r, n, i, rfl⟩ := block_ix y
  refine (((pay25_at r _ ⟨n.val * 64 + i.val, by omega⟩).trans (key0_at m c t r _)).trans (v109_at (m ((c : Thread nD τ).loc main_arg0)) (m ((c : Thread nD τ).loc main_arg1)) (m ((c : Thread nD τ).loc main_arg4)) (m ((c : Thread nD τ).loc main_arg5)) (m ((c : Thread nD τ).loc main_arg8)) (row t r) n i).symm).trans (congrArg _ ?_)
  symm
  blk_ext [idx_val t]

theorem final19 (c : Dev nD) : (dats m 0 c).arrAt 19 (cfgs 0).N
    = Cert.PrepRefIdeal.Read.val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg8)) := by
  refine (dats m 0 c).arrAt_eq_of_covers 19 _ (by decide +kernel) fun t hf y => ?_
  blk_simp; rw [after0_19]; frame_out
  obtain ⟨r, n, i, rfl⟩ := block_ix y
  refine (((pay26_at r _ ⟨n.val * 64 + i.val, by omega⟩).trans (key1_at m c t r _)).trans (v111_at (m ((c : Thread nD τ).loc main_arg0)) (m ((c : Thread nD τ).loc main_arg1)) (m ((c : Thread nD τ).loc main_arg4)) (m ((c : Thread nD τ).loc main_arg5)) (m ((c : Thread nD τ).loc main_arg8)) (row t r) n i).symm).trans (congrArg _ ?_)
  symm
  blk_ext [idx_val t]

theorem final20 (c : Dev nD) (h : Holds m c) : (dats m 0 c).arrAt 20 (cfgs 0).N
    = Cert.PrepRefIdeal.Read.val_main_v113 (F := Ideal) (m ((c : Thread nD τ).loc main_arg0)) (m ((c : Thread nD τ).loc main_arg1)) (m ((c : Thread nD τ).loc main_arg4)) (m ((c : Thread nD τ).loc main_arg5)) (m ((c : Thread nD τ).loc main_arg7)) := by
  refine (dats m 0 c).arrAt_eq_of_covers 20 _ (by decide +kernel) fun t hf y => ?_
  blk_simp; rw [after0_20]; frame_out
  obtain ⟨r, n, i, rfl⟩ := block_ix y
  refine (((pay27_at r _ _ ⟨n.val * 64 + i.val, by omega⟩).trans (congrArg₂ (fun p q : EReal => p * q) (unit_at m c t r h _) (rate0_at m c t r _))).trans (v113_at (m ((c : Thread nD τ).loc main_arg0)) (m ((c : Thread nD τ).loc main_arg1)) (m ((c : Thread nD τ).loc main_arg4)) (m ((c : Thread nD τ).loc main_arg5)) (m ((c : Thread nD τ).loc main_arg7)) (row t r) n i).symm).trans (congrArg _ ?_)
  symm
  blk_ext [idx_val t]

theorem final21 (c : Dev nD) (h : Holds m c) : (dats m 0 c).arrAt 21 (cfgs 0).N
    = Cert.PrepRefIdeal.Read.val_main_v115 (F := Ideal) (m ((c : Thread nD τ).loc main_arg0)) (m ((c : Thread nD τ).loc main_arg1)) (m ((c : Thread nD τ).loc main_arg4)) (m ((c : Thread nD τ).loc main_arg5)) (m ((c : Thread nD τ).loc main_arg7)) := by
  refine (dats m 0 c).arrAt_eq_of_covers 21 _ (by decide +kernel) fun t hf y => ?_
  blk_simp; rw [after0_21]; frame_out
  obtain ⟨r, n, i, rfl⟩ := block_ix y
  refine (((pay28_at r _ _ ⟨n.val * 64 + i.val, by omega⟩).trans (congrArg₂ (fun p q : EReal => p * q) (unit_at m c t r h _) (rate1_at m c t r _))).trans (v115_at (m ((c : Thread nD τ).loc main_arg0)) (m ((c : Thread nD τ).loc main_arg1)) (m ((c : Thread nD τ).loc main_arg4)) (m ((c : Thread nD τ).loc main_arg5)) (m ((c : Thread nD τ).loc main_arg7)) (row t r) n i).symm).trans (congrArg _ ?_)
  symm
  blk_ext [idx_val t]

theorem final22 (c : Dev nD) (h : Holds m c) : (dats m 0 c).arrAt 22 (cfgs 0).N
    = Cert.PrepRefIdeal.Read.val_main_v118 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) := by
  refine (dats m 0 c).arrAt_eq_of_covers 22 _ (by decide +kernel) fun t hf y => ?_
  blk_simp; rw [after0_22]; frame_out
  obtain ⟨r, n, i, rfl⟩ := block_ix y
  refine ((bonus_at m c t r h ⟨n.val * 64 + i.val, by omega⟩).trans (v118_at (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) (row t r) n i).symm).trans (congrArg _ ?_)
  symm
  blk_ext [idx_val t]

theorem final23 (c : Dev nD) : (dats m 0 c).arrAt 23 (cfgs 0).N
    = Cert.PrepRefIdeal.Read.val_main_v120 (F := Ideal) (m ((c : Thread nD τ).loc main_arg0)) (m ((c : Thread nD τ).loc main_arg1)) (m ((c : Thread nD τ).loc main_arg6)) := by
  refine (dats m 0 c).arrAt_eq_of_covers 23 _ (by decide +kernel) fun t hf y => ?_
  blk_simp; rw [after0_23]; frame_out
  obtain ⟨r, n, i, rfl⟩ := block_ix y
  refine ((gate_at m c t r ⟨n.val * 64 + i.val, by omega⟩).trans (v120_at (m ((c : Thread nD τ).loc main_arg0)) (m ((c : Thread nD τ).loc main_arg1)) (m ((c : Thread nD τ).loc main_arg6)) (row t r) n i).symm).trans (congrArg _ ?_)
  symm
  blk_ext [idx_val t]

/-! The buffers at the end. -/

theorem out13 (c : Dev nD) {q} (hq : Pipeline.FramePost cfgs (dats m) 0 (V m) q) :
    q.2.mem ((c.tc : Thread nD τ).loc main_v27_0) = Cert.PrepRefIdeal.Read.val_main_v102 (F := Ideal) (m ((c : Thread nD τ).loc main_arg0)) (m ((c : Thread nD τ).loc main_arg1)) :=
  ((hq c).1 13).trans (final13 m c)

theorem out14 (c : Dev nD) {q} (hq : Pipeline.FramePost cfgs (dats m) 0 (V m) q) :
    q.2.mem ((c.tc : Thread nD τ).loc main_v27_1) = Cert.PrepRefIdeal.Read.val_main_v104 (F := Ideal) (m ((c : Thread nD τ).loc main_arg0)) (m ((c : Thread nD τ).loc main_arg1)) :=
  ((hq c).1 14).trans (final14 m c)

theorem out15 (c : Dev nD) (h : Holds m c) {q} (hq : Pipeline.FramePost cfgs (dats m) 0 (V m) q) :
    q.2.mem ((c.tc : Thread nD τ).loc main_v27_2) = Cert.PrepRefIdeal.Read.val_main_v107 (F := Ideal) (m ((c : Thread nD τ).loc main_arg0)) (m ((c : Thread nD τ).loc main_arg1)) (m ((c : Thread nD τ).loc main_arg7)) :=
  ((hq c).1 15).trans (final15 m c h)

theorem out18 (c : Dev nD) {q} (hq : Pipeline.FramePost cfgs (dats m) 0 (V m) q) :
    q.2.mem ((c.tc : Thread nD τ).loc main_v27_5) = Cert.PrepRefIdeal.Read.val_main_v109 (F := Ideal) (m ((c : Thread nD τ).loc main_arg0)) (m ((c : Thread nD τ).loc main_arg1)) (m ((c : Thread nD τ).loc main_arg4)) (m ((c : Thread nD τ).loc main_arg5)) (m ((c : Thread nD τ).loc main_arg8)) :=
  ((hq c).1 18).trans (final18 m c)

theorem out19 (c : Dev nD) {q} (hq : Pipeline.FramePost cfgs (dats m) 0 (V m) q) :
    q.2.mem ((c.tc : Thread nD τ).loc main_v27_6) = Cert.PrepRefIdeal.Read.val_main_v111 (F := Ideal) (m ((c : Thread nD τ).loc main_arg0)) (m ((c : Thread nD τ).loc main_arg1)) (m ((c : Thread nD τ).loc main_arg4)) (m ((c : Thread nD τ).loc main_arg5)) (m ((c : Thread nD τ).loc main_arg8)) :=
  ((hq c).1 19).trans (final19 m c)

theorem out20 (c : Dev nD) (h : Holds m c) {q} (hq : Pipeline.FramePost cfgs (dats m) 0 (V m) q) :
    q.2.mem ((c.tc : Thread nD τ).loc main_v27_7) = Cert.PrepRefIdeal.Read.val_main_v113 (F := Ideal) (m ((c : Thread nD τ).loc main_arg0)) (m ((c : Thread nD τ).loc main_arg1)) (m ((c : Thread nD τ).loc main_arg4)) (m ((c : Thread nD τ).loc main_arg5)) (m ((c : Thread nD τ).loc main_arg7)) :=
  ((hq c).1 20).trans (final20 m c h)

theorem out21 (c : Dev nD) (h : Holds m c) {q} (hq : Pipeline.FramePost cfgs (dats m) 0 (V m) q) :
    q.2.mem ((c.tc : Thread nD τ).loc main_v27_8) = Cert.PrepRefIdeal.Read.val_main_v115 (F := Ideal) (m ((c : Thread nD τ).loc main_arg0)) (m ((c : Thread nD τ).loc main_arg1)) (m ((c : Thread nD τ).loc main_arg4)) (m ((c : Thread nD τ).loc main_arg5)) (m ((c : Thread nD τ).loc main_arg7)) :=
  ((hq c).1 21).trans (final21 m c h)

theorem out22 (c : Dev nD) (h : Holds m c) {q} (hq : Pipeline.FramePost cfgs (dats m) 0 (V m) q) :
    q.2.mem ((c.tc : Thread nD τ).loc main_v27_9) = Cert.PrepRefIdeal.Read.val_main_v118 (F := Ideal) (m ((c : Thread nD τ).loc main_arg0)) (m ((c : Thread nD τ).loc main_arg1)) (m ((c : Thread nD τ).loc main_arg4)) (m ((c : Thread nD τ).loc main_arg5)) (m ((c : Thread nD τ).loc main_arg8)) (m ((c : Thread nD τ).loc main_arg9)) :=
  ((hq c).1 22).trans (final22 m c h)

theorem out23 (c : Dev nD) {q} (hq : Pipeline.FramePost cfgs (dats m) 0 (V m) q) :
    q.2.mem ((c.tc : Thread nD τ).loc main_v27_10) = Cert.PrepRefIdeal.Read.val_main_v120 (F := Ideal) (m ((c : Thread nD τ).loc main_arg0)) (m ((c : Thread nD τ).loc main_arg1)) (m ((c : Thread nD τ).loc main_arg6)) :=
  ((hq c).1 23).trans (final23 m c)

end Cert.PrepIdeal.Value

end
-- ==== Proof.Conv.lean ====
/- The convolution's call is the reference's padded three-tap convolution of the gated input. -/
module

public import proofs.«01_k».proof.Proof.Gen.ConvIdeal.Value
public import proofs.«01_k».proof.Proof.Gen.ConvRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem
open Idealize.ShloMosaic.Pipeline (Dat)

namespace Cert.ConvRefIdeal.Value

open Cert.ConvRefIdeal Cert.ConvRefIdeal.Gen Cert.ConvRefIdeal.Read

variable (X : FVec Ideal S32768x3072 .bf16) (W : FVec Ideal S3x1024 .f32)

/-- The gated entry: the second column third times the last. -/
def gated (r : Fin 32768) (k : Fin 1024) : EReal :=
  X (ix2 r ⟨1024 + k.val, by omega⟩) * X (ix2 r ⟨2048 + k.val, by omega⟩)

/-- The gated entry of the token before, zero for a sequence's first token. -/
def before (r : Fin 32768) (k : Fin 1024) : EReal :=
  if r.val % 4096 = 0 then 0 else gated X ⟨r.val - 1, by omega⟩ k

/-- The gated entry of the token after, zero for a sequence's last token. -/
def after (r : Fin 32768) (k : Fin 1024) : EReal :=
  if h : r.val % 4096 = 4095 then 0 else gated X ⟨r.val + 1, by omega⟩ k

/-- One row of the whole array. -/
abbrev tok (s : Fin 8) (p : Fin 4096) : Fin 32768 := ⟨s.val * 4096 + p.val, by omega⟩

theorem v5_at (s : Fin 8) (p : Fin 4096) (k : Fin 1024) :
    val_main_v5 (F := Ideal) X (ix3 s p k) = gated X (tok s p) k := by
  pointwise [val_main_v5, val_main_v4, val_main_v3, val_main_v1, val_main_v0, gated]

theorem v6_inside (s : Fin 8) (q : Fin 4098) (k : Fin 1024) (p : Fin 4096) (h : q.val = 1 + p.val) :
    val_main_v6 (F := Ideal) X (ix3 s q k) = gated X (tok s p) k := by
  rw [← v5_at]
  refine pad_apply_of_inside _ _ _ _ _ _ _ _ _ fun a => ?_
  match a with
  | ⟨0, _⟩ => simp
  | ⟨1, _⟩ => simpa using h
  | ⟨2, _⟩ => simp

/-- The padding value, the integer zero made a float, is zero. -/
theorem pad_value : FloatOps.sitofp (F := Ideal) .f32 (0#32) = (0 : EReal) := by
  show (((0#32).toInt : ℝ) : EReal) = 0
  simp

theorem v6_outside (s : Fin 8) (q : Fin 4098) (k : Fin 1024) (h : q.val = 0 ∨ q.val = 4097) :
    val_main_v6 (F := Ideal) X (ix3 s q k) = 0 := by
  refine (pad_apply_of_not_inside _ _ _ _ _ _ _ _ (1 : Fin 3) ?_).trans ?_
  · simp
    omega
  · pointwise [val_main_call0_v0, val_main_c]
    exact pad_value

theorem before_at (s : Fin 8) (p : Fin 4096) (k : Fin 1024) :
    val_main_v6 (F := Ideal) X (ix3 s ⟨p.val, by omega⟩ k) = before X (tok s p) k := by
  unfold before
  dsimp only
  split_ifs with h
  · exact v6_outside X s _ k (Or.inl (by dsimp only; omega))
  · refine (v6_inside X s _ k ⟨p.val - 1, by omega⟩ (by dsimp only; omega)).trans ?_
    exact congrArg (fun r => gated X r k) (Fin.ext (by dsimp only; omega))

theorem after_at (s : Fin 8) (p : Fin 4096) (k : Fin 1024) :
    val_main_v6 (F := Ideal) X (ix3 s ⟨2 + p.val, by omega⟩ k) = after X (tok s p) k := by
  unfold after
  dsimp only
  split_ifs with h
  · exact v6_outside X s _ k (Or.inr (by dsimp only; omega))
  · refine (v6_inside X s _ k ⟨p.val + 1, by omega⟩ (by dsimp only; omega)).trans ?_
    exact congrArg (fun r => gated X r k) (Fin.ext (by dsimp only; omega))

theorem here_at (s : Fin 8) (p : Fin 4096) (k : Fin 1024) :
    val_main_v6 (F := Ideal) X (ix3 s ⟨1 + p.val, by omega⟩ k) = gated X (tok s p) k :=
  v6_inside X s _ k p rfl

/-- The convolution's entry: the first column third times the three weighted neighbours. -/
def mixed (a w0 w1 w2 l c r : EReal) : EReal := a * (w0 * l + w1 * c + w2 * r)

theorem v27_at (s : Fin 8) (p : Fin 4096) (k : Fin 1024) :
    val_main_v27 (F := Ideal) X W (ix3 s p k)
      = mixed (X (ix2 (tok s p) ⟨k.val, by omega⟩)) (W (ix2 0 k)) (W (ix2 1 k)) (W (ix2 2 k))
          (before X (tok s p) k) (gated X (tok s p) k) (after X (tok s p) k) := by
  rw [mixed, ← before_at, ← after_at, ← here_at]
  pointwise [val_main_v27, val_main_v26, val_main_v25, val_main_v24, val_main_v23, val_main_v22, val_main_v21, val_main_v20,
    val_main_v19, val_main_v18, val_main_v17, val_main_v16, val_main_v15, val_main_v14, val_main_v13, val_main_v12,
    val_main_v11, val_main_v10, val_main_v9, val_main_v8, val_main_v7, val_main_v2, val_main_v1, val_main_v0]

theorem v29_at (r : Fin 32768) (k : Fin 1024) :
    val_main_v29 (F := Ideal) X W (ix2 r k)
      = mixed (X (ix2 r ⟨k.val, by omega⟩)) (W (ix2 0 k)) (W (ix2 1 k)) (W (ix2 2 k))
          (before X r k) (gated X r k) (after X r k) := by
  have e : tok ⟨r.val / 4096, by omega⟩ ⟨r.val % 4096, by omega⟩ = r := Fin.ext (by dsimp only; omega)
  have h := v27_at X W ⟨r.val / 4096, by omega⟩ ⟨r.val % 4096, by omega⟩ k
  rw [e] at h
  rw [← h]
  pointwise [val_main_v29, val_main_v28]

end Cert.ConvRefIdeal.Value

namespace Cert.ConvIdeal.Value

open Cert.ConvIdeal Cert.ConvIdeal.Gen
open Cert.ConvRefIdeal.Value (gated before after mixed v29_at)

variable (m : (ℓ : Loc nD τ sig) → Buf (Elt Ideal) ℓ)

theorem first_row (j : Fin 512) : IntOp.cmpi .eq (BitVec.ofNat 32 j.val) 0#32 = if j.val = 0 then 1#1 else 0#1 := by
  revert j; decide +kernel

theorem last_row (j : Fin 512) : IntOp.cmpi .eq (BitVec.ofNat 32 j.val) 511#32 = if j.val = 511 then 1#1 else 0#1 := by
  revert j; decide +kernel

theorem first_block (i : grid0.Coords) :
    Scalar.cmpi .eq (BitVec.ofNat 32 (i 1).val) 0#32 = if (i 1).val = 0 then 1#1 else 0#1 :=
  (by decide +kernel : ∀ j : Fin 8, Scalar.cmpi .eq (BitVec.ofNat 32 j.val) 0#32 = if j.val = 0 then 1#1 else 0#1) (i 1)

theorem last_block (i : grid0.Coords) :
    Scalar.cmpi .eq (BitVec.ofNat 32 (i 1).val) 7#32 = if (i 1).val = 7 then 1#1 else 0#1 :=
  (by decide +kernel : ∀ j : Fin 8, Scalar.cmpi .eq (BitVec.ofNat 32 j.val) 7#32 = if j.val = 7 then 1#1 else 0#1) (i 1)

theorem pay3_at (x0 : FVec Ideal S512x3072 .bf16) (r : Fin 512) (k : Fin 1024) :
    k0_pay3 (F := Ideal) x0 (ix2 r k) = x0 (ix2 r ⟨1024 + k.val, by omega⟩) * x0 (ix2 r ⟨2048 + k.val, by omega⟩) := by
  pointwise [k0_pay3, k0_pay2]

theorem pay4_at (i : grid0.Coords) (x0 : FVec Ideal S512x3072 .bf16) (x1 : FVec Ideal S16x3072 .bf16) (r : Fin 512)
    (k : Fin 1024) :
    k0_pay4 (F := Ideal) i x0 x1 (ix2 r k)
      = if r.val = 0 then (if (i 1).val = 0 then 0
          else x1 (ix2 15 ⟨1024 + k.val, by omega⟩) * x1 (ix2 15 ⟨2048 + k.val, by omega⟩))
        else k0_pay3 (F := Ideal) x0 (ix2 ⟨r.val - 1, by omega⟩ k) := by
  pointwise [k0_pay4]
  rw [first_row, first_block]
  have e : (⟨(r.val + 512 - 1) % 512, Nat.mod_lt _ (by decide)⟩ : Fin 512)
      = ⟨r.val - 1 + (if r.val = 0 then 511 else 0), by split_ifs <;> omega⟩ :=
    Fin.ext (by dsimp only; split_ifs <;> omega)
  rw [e]
  split_ifs <;> rfl

theorem pay5_at (i : grid0.Coords) (x0 : FVec Ideal S512x3072 .bf16) (x2 : FVec Ideal S16x3072 .bf16) (r : Fin 512)
    (k : Fin 1024) :
    k0_pay5 (F := Ideal) i x0 x2 (ix2 r k)
      = if h : r.val = 511 then (if (i 1).val = 7 then 0
          else x2 (ix2 0 ⟨1024 + k.val, by omega⟩) * x2 (ix2 0 ⟨2048 + k.val, by omega⟩))
        else k0_pay3 (F := Ideal) x0 (ix2 ⟨r.val + 1, by omega⟩ k) := by
  pointwise [k0_pay5]
  rw [last_row, last_block]
  have e : (⟨(r.val + 512 - 511) % 512, Nat.mod_lt _ (by decide)⟩ : Fin 512)
      = ⟨if r.val = 511 then 0 else r.val + 1, by split_ifs <;> omega⟩ :=
    Fin.ext (by dsimp only; split_ifs <;> omega)
  rw [e]
  split_ifs <;> rfl

/-- One stored entry, over the blocks that the body loads. -/
theorem pay1_at (i : grid0.Coords) (x0 : FVec Ideal S512x3072 .bf16) (x1 x2 : FVec Ideal S16x3072 .bf16)
    (x3 : FVec Ideal S3x1024 .f32) (r : Fin 512) (k : Fin 1024) :
    k0_pay1 (F := Ideal) (k0_pay2 x0) (k0_pay3 x0) (k0_pay4 i x0 x1) (k0_pay5 i x0 x2) (k0_pay6 (View.ld x3 r0_2))
        (View.ld x3 r0_3) (View.ld x3 r0_4) (ix2 r k)
      = mixed (x0 (ix2 r ⟨k.val, by omega⟩)) (x3 (ix2 0 k)) (x3 (ix2 1 k)) (x3 (ix2 2 k))
          (k0_pay4 (F := Ideal) i x0 x1 (ix2 r k)) (k0_pay3 (F := Ideal) x0 (ix2 r k))
          (k0_pay5 (F := Ideal) i x0 x2 (ix2 r k)) := by
  pointwise [k0_pay1, k0_pay2, k0_pay6, mixed]

/-- Blocks of 512 tokens; the 16-row blocks that end just before and begin just after them. -/
theorem idx_val : ∀ t : Fin cfg0.N, win0_0.index t = ![t.val, 0]
    ∧ win0_1.index t = ![t.val * 32 - 1, 0]
    ∧ win0_2.index t = ![min (t.val * 32 + 32) 2047, 0]
    ∧ win0_3.index t = ![0, 0]
    ∧ win0_4.index t = ![t.val, 0] :=
  (by decide +kernel : ∀ t : Fin grid0.N, _)

theorem coord_val : ∀ t : Fin cfg0.N, (cfg0.grid.coords t 1).val = t.val % 8 :=
  (by decide +kernel : ∀ t : Fin grid0.N, _)

/-- The row of the whole array at a block's row. -/
abbrev row (t : Fin cfg0.N) (r : Fin 512) : Fin 32768 := ⟨t.val * 512 + r.val, by have : t.val < 64 := t.isLt; omega⟩

theorem blk0_at (c : Dev nD) (t : Fin cfg0.N) (r : Fin 512) (k : Fin 3072) :
    iblk m c 0 t (ix2 r k) = m ((c : Thread nD τ).loc main_arg0) (ix2 (row t r) k) := by
  blk_point [iblk, V, idx_val t]

theorem blk1_at (c : Dev nD) (t : Fin cfg0.N) (h : t.val % 8 ≠ 0) (k : Fin 3072) :
    iblk m c 1 t (ix2 15 k)
      = m ((c : Thread nD τ).loc main_arg0) (ix2 ⟨t.val * 512 - 1, by have : t.val < 64 := t.isLt; omega⟩ k) := by
  have e : (⟨t.val * 512 - 1, by have : t.val < 64 := t.isLt; omega⟩ : Fin 32768)
      = ⟨(t.val * 32 - 1) * 16 + 15, by have : t.val < 64 := t.isLt; omega⟩ := Fin.ext (by dsimp only; omega)
  rw [e]
  blk_point [iblk, V, idx_val t]

theorem blk2_at (c : Dev nD) (t : Fin cfg0.N) (h : t.val % 8 ≠ 7) (k : Fin 3072) :
    iblk m c 2 t (ix2 0 k)
      = m ((c : Thread nD τ).loc main_arg0) (ix2 ⟨t.val * 512 + 512, by have : t.val < 64 := t.isLt; omega⟩ k) := by
  have e : (⟨t.val * 512 + 512, by have : t.val < 64 := t.isLt; omega⟩ : Fin 32768)
      = ⟨min (t.val * 32 + 32) 2047 * 16, by have : t.val < 64 := t.isLt; omega⟩ := Fin.ext (by
        have : t.val < 64 := t.isLt
        dsimp only; omega)
  rw [e]
  blk_point [iblk, V, idx_val t]

theorem blk3_at (c : Dev nD) (t : Fin cfg0.N) (j : Fin 3) (k : Fin 1024) :
    iblk m c 3 t (ix2 j k) = m ((c : Thread nD τ).loc main_arg1) (ix2 j k) := by
  blk_point [iblk, V, idx_val t]

theorem here_at (c : Dev nD) (t : Fin cfg0.N) (r : Fin 512) (k : Fin 1024) :
    k0_pay3 (F := Ideal) (iblk m c 0 t) (ix2 r k) = gated (m ((c : Thread nD τ).loc main_arg0)) (row t r) k := by
  rw [pay3_at, blk0_at, blk0_at, gated]

theorem before_at (c : Dev nD) (t : Fin cfg0.N) (r : Fin 512) (k : Fin 1024) :
    k0_pay4 (F := Ideal) (cfg0.grid.coords t) (iblk m c 0 t) (iblk m c 1 t) (ix2 r k)
      = before (m ((c : Thread nD τ).loc main_arg0)) (row t r) k := by
  rw [pay4_at, coord_val, before]
  by_cases h0 : r.val = 0
  · rw [if_pos h0]
    by_cases h8 : t.val % 8 = 0
    · rw [if_pos h8, if_pos (by dsimp only; omega)]
    · rw [if_neg h8, if_neg (by dsimp only; omega), blk1_at m c t h8, blk1_at m c t h8]
      exact congrArg (fun q => gated (m ((c : Thread nD τ).loc main_arg0)) q k) (Fin.ext (by dsimp only; omega))
  · rw [if_neg h0, if_neg (by dsimp only; omega), here_at]
    exact congrArg (fun q => gated (m ((c : Thread nD τ).loc main_arg0)) q k) (Fin.ext (by dsimp only; omega))

theorem after_at (c : Dev nD) (t : Fin cfg0.N) (r : Fin 512) (k : Fin 1024) :
    k0_pay5 (F := Ideal) (cfg0.grid.coords t) (iblk m c 0 t) (iblk m c 2 t) (ix2 r k)
      = after (m ((c : Thread nD τ).loc main_arg0)) (row t r) k := by
  rw [pay5_at, coord_val, after]
  by_cases h0 : r.val = 511
  · rw [dif_pos h0]
    by_cases h8 : t.val % 8 = 7
    · rw [if_pos h8, dif_pos (by dsimp only; omega)]
    · rw [if_neg h8, dif_neg (by dsimp only; omega), blk2_at m c t h8, blk2_at m c t h8]
      exact congrArg (fun q => gated (m ((c : Thread nD τ).loc main_arg0)) q k) (Fin.ext (by dsimp only; omega))
  · rw [dif_neg h0, dif_neg (by dsimp only; omega), here_at]
    exact congrArg (fun q => gated (m ((c : Thread nD τ).loc main_arg0)) q k) (Fin.ext (by dsimp only; omega))

/-- One entry of the block that a grid point stores. -/
theorem point (c : Dev nD) (t : Fin cfg0.N) (r : Fin 512) (k : Fin 1024) :
    k0_pay1 (F := Ideal) (k0_pay2 (iblk m c 0 t)) (k0_pay3 (iblk m c 0 t))
        (k0_pay4 (cfg0.grid.coords t) (iblk m c 0 t) (iblk m c 1 t)) (k0_pay5 (cfg0.grid.coords t) (iblk m c 0 t) (iblk m c 2 t))
        (k0_pay6 (View.ld (iblk m c 3 t) r0_2)) (View.ld (iblk m c 3 t) r0_3) (View.ld (iblk m c 3 t) r0_4) (ix2 r k)
      = Cert.ConvRefIdeal.Read.val_main_v29 (F := Ideal) (m ((c : Thread nD τ).loc main_arg0))
          (m ((c : Thread nD τ).loc main_arg1)) (ix2 (row t r) k) := by
  refine (pay1_at (cfg0.grid.coords t) (iblk m c 0 t) (iblk m c 1 t) (iblk m c 2 t) (iblk m c 3 t) r k).trans ?_
  rw [v29_at, before_at, here_at, after_at, blk0_at, blk3_at, blk3_at, blk3_at]

theorem block_ix (y : S512x1024.Idx) : ∃ (r : Fin 512) (k : Fin 1024), y = ix2 r k :=
  ⟨y 0, y 1, by funext a; match a with | ⟨0, _⟩ => rfl | ⟨1, _⟩ => rfl⟩

/-- The result array after the run. -/
theorem final (c : Dev nD) : (dats m 0 c).arrAt 4 (cfgs 0).N
    = Cert.ConvRefIdeal.Read.val_main_v29 (F := Ideal) (m ((c : Thread nD τ).loc main_arg0))
        (m ((c : Thread nD τ).loc main_arg1)) := by
  refine (dats m 0 c).arrAt_eq_of_covers 4 _ (by decide +kernel) fun t hf y => ?_
  blk_simp; rw [after0_4]; frame_out
  obtain ⟨r, k, rfl⟩ := block_ix y
  refine (point m c t r k).trans (congrArg _ ?_)
  symm
  blk_ext [idx_val t]

end Cert.ConvIdeal.Value

end
-- ==== Proof.LnIn.lean ====
/- The first layer norm's call is the reference's layer norm of the input. -/
module

public import proofs.«01_k».proof.Proof.LayerNorm
public import proofs.«01_k».proof.Proof.Gen.LnInIdeal.Value
public import proofs.«01_k».proof.Proof.Gen.LnInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.LnInRefIdeal.Value

open Cert.LnInRefIdeal Cert.LnInRefIdeal.Gen Cert.LnInRefIdeal.Read Cert.LayerNorm

variable (X : FVec Ideal S8x4096x2048 .f32) (g b : FVec Ideal S2048 .f32)

/-- A token's row. -/
def row (s : Fin 8) (p : Fin 4096) (k : Fin 2048) : EReal := X (ix3 s p k)

theorem v3_at (s : Fin 8) (p : Fin 4096) : val_main_v3 (F := Ideal) X (ix3 s p 0) = mean (row X s p) := by
  pointwise [val_main_v3, val_main_v2, val_main_v1, val_main_v0, val_main_cst, val_main_cst_0, mean, row]

theorem v10_at (s : Fin 8) (p : Fin 4096) : val_main_v10 (F := Ideal) X (ix3 s p 0)
    = mean (fun k => (row X s p k - mean (row X s p)) * (row X s p k - mean (row X s p))) := by
  rw [mean]
  pointwise [val_main_v10, val_main_v9, val_main_v8, val_main_v7, val_main_v6, val_main_v5, val_main_v4,
    val_main_cst_1, val_main_cst_2, v3_at, row]

theorem v23_at (s : Fin 8) (p : Fin 4096) (c : Fin 2048) :
    val_main_v23 (F := Ideal) X g b (ix3 s p c) = layerNorm (row X s p) (g (ix1 c)) (b (ix1 c)) c := by
  pointwise [val_main_v23, val_main_v22, val_main_v21, val_main_v20, val_main_v19, val_main_v18, val_main_v17,
    val_main_v16, val_main_v15, val_main_v14, val_main_v13, val_main_v12, val_main_v11, val_main_cst_3, v3_at, v10_at,
    row, layerNorm]

/-- The reference's first result at a row and a column. -/
theorem v24_at (r : Fin 32768) (c : Fin 2048) :
    val_main_v24 (F := Ideal) X g b (ix2 r c)
      = layerNorm (row X ⟨r.val / 4096, by omega⟩ ⟨r.val % 4096, by omega⟩) (g (ix1 c)) (b (ix1 c)) c := by
  pointwise [val_main_v24, v23_at]

/-- The second result is the first, of another format. -/
theorem v25_at (i) : val_main_v25 (F := Ideal) X g b i = val_main_v24 (F := Ideal) X g b i := rfl

end Cert.LnInRefIdeal.Value

namespace Cert.LnInIdeal.Value

open Cert.LnInIdeal Cert.LnInIdeal.Gen Cert.LayerNorm
open Cert.LnInRefIdeal.Value (row v24_at v25_at)

variable (m : (ℓ : Loc nD τ sig) → Buf (Elt Ideal) ℓ)

/-- The stored entry, over the blocks that the body loads. -/
theorem pay1_at (v0 : FVec Ideal S512x2048 .f32) (v2 v4 : FVec Ideal S1x2048 .f32) (r : Fin 512) (c : Fin 2048) :
    k0_pay1 (F := Ideal) v0 v2 v4 (ix2 r c)
      = layerNorm (fun k => v0 (ix2 r k)) (v2 (ix2 0 c)) (v4 (ix2 0 c)) c := by
  pointwise [k0_pay1, layerNorm, mean]

theorem idx_val : ∀ t : Fin cfg0.N, win0_0.index t = ![t.val, 0]
    ∧ win0_1.index t = ![0, 0]
    ∧ win0_2.index t = ![0, 0]
    ∧ win0_3.index t = ![t.val, 0]
    ∧ win0_4.index t = ![t.val, 0] :=
  (by decide +kernel : ∀ t : Fin grid0.N, _)

/-- One entry of the f32 block that a grid point stores. -/
theorem point (c : Dev nD) (t : Fin cfg0.N) (r : Fin 512) (l : Fin 2048) :
    k0_pay1 (iblk m c 0 t) (iblk m c 1 t) (iblk m c 2 t) (ix2 r l)
      = Cert.LnInRefIdeal.Read.val_main_v24 (F := Ideal) (m ((c : Thread nD τ).loc main_arg0))
          (m ((c : Thread nD τ).loc main_arg1)) (m ((c : Thread nD τ).loc main_arg2))
          (ix2 ⟨t.val * 512 + r.val, by have : t.val < 64 := t.isLt; omega⟩ l) := by
  rw [v24_at, pay1_at]
  congr 1
  · funext k
    unfold row
    blk_point [iblk, V, idx_val t]
  · blk_point [iblk, V, idx_val t]
  · blk_point [iblk, V, idx_val t]

theorem ix2_of (y : S512x2048.Idx) : ∃ (r : Fin 512) (l : Fin 2048), y = ix2 r l :=
  ⟨y 0, y 1, by funext a; match a with | ⟨0, _⟩ => rfl | ⟨1, _⟩ => rfl⟩

/-- The f32 result after the run. -/
theorem final_f32 (c : Dev nD) : (dats m 0 c).arrAt 3 (cfgs 0).N
    = Cert.LnInRefIdeal.Read.val_main_v24 (F := Ideal) (m ((c : Thread nD τ).loc main_arg0))
        (m ((c : Thread nD τ).loc main_arg1)) (m ((c : Thread nD τ).loc main_arg2)) := by
  refine (dats m 0 c).arrAt_eq_of_covers 3 _ (by decide +kernel) fun t hf y => ?_
  blk_simp; rw [after0_3]; frame_out
  obtain ⟨r, l, rfl⟩ := ix2_of y
  refine (point m c t r l).trans (congrArg _ ?_)
  symm
  blk_ext [idx_val t]

/-- The bf16 result after the run. -/
theorem final_bf16 (c : Dev nD) : (dats m 0 c).arrAt 4 (cfgs 0).N
    = Cert.LnInRefIdeal.Read.val_main_v25 (F := Ideal) (m ((c : Thread nD τ).loc main_arg0))
        (m ((c : Thread nD τ).loc main_arg1)) (m ((c : Thread nD τ).loc main_arg2)) := by
  refine (dats m 0 c).arrAt_eq_of_covers 4 _ (by decide +kernel) fun t hf y => ?_
  blk_simp; rw [after0_4]; frame_out
  obtain ⟨r, l, rfl⟩ := ix2_of y
  refine Eq.trans ?_ (v25_at _ _ _ _).symm
  refine Eq.trans (show k0_pay2 (F := Ideal) _ _ _ (ix2 r l) = k0_pay1 (F := Ideal) _ _ _ (ix2 r l) from rfl) ?_
  refine (point m c t r l).trans (congrArg _ ?_)
  symm
  blk_ext [idx_val t]

end Cert.LnInIdeal.Value

end
-- ==== Proof.lean ====
/- The claim about the layer's calls: each kernel's run from its generated frame, each value from the module of its call. -/
module

public import proofs.«01_k».proof.Defs
public import proofs.«01_k».proof.Proof.Gen.Attn.Frame
public import proofs.«01_k».proof.Proof.Gen.AttnIdeal.Frame
public import proofs.«01_k».proof.Proof.Gen.AttnRefIdeal.Run
public import proofs.«01_k».proof.Proof.Gen.AttnRefIdeal.Read
public import proofs.«01_k».proof.Proof.Attn
public import proofs.«01_k».proof.Proof.Gen.Ffn.Frame
public import proofs.«01_k».proof.Proof.Gen.FfnIdeal.Frame
public import proofs.«01_k».proof.Proof.Gen.FfnRefIdeal.Run
public import proofs.«01_k».proof.Proof.Gen.FfnRefIdeal.Read
public import proofs.«01_k».proof.Proof.Ffn
public import proofs.«01_k».proof.Proof.Gen.InGate.Frame
public import proofs.«01_k».proof.Proof.Gen.InGateIdeal.Frame
public import proofs.«01_k».proof.Proof.Gen.InGateRefIdeal.Run
public import proofs.«01_k».proof.Proof.Gen.InGateRefIdeal.Read
public import proofs.«01_k».proof.Proof.InGate
public import proofs.«01_k».proof.Proof.Gen.InConv.Frame
public import proofs.«01_k».proof.Proof.Gen.InConvIdeal.Frame
public import proofs.«01_k».proof.Proof.Gen.InConvRefIdeal.Run
public import proofs.«01_k».proof.Proof.Gen.InConvRefIdeal.Read
public import proofs.«01_k».proof.Proof.InConv
public import proofs.«01_k».proof.Proof.Gen.InRwkv.Frame
public import proofs.«01_k».proof.Proof.Gen.InRwkvIdeal.Frame
public import proofs.«01_k».proof.Proof.Gen.InRwkvRefIdeal.Run
public import proofs.«01_k».proof.Proof.Gen.InRwkvRefIdeal.Read
public import proofs.«01_k».proof.Proof.InRwkv
public import proofs.«01_k».proof.Proof.Gen.InMla.Frame
public import proofs.«01_k».proof.Proof.Gen.InMlaIdeal.Frame
public import proofs.«01_k».proof.Proof.Gen.InMlaRefIdeal.Run
public import proofs.«01_k».proof.Proof.Gen.InMlaRefIdeal.Read
public import proofs.«01_k».proof.Proof.InMla
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.Merge
public import proofs.«01_k».proof.Proof.Gen.OutLn.Frame
public import proofs.«01_k».proof.Proof.Gen.OutLnIdeal.Frame
public import proofs.«01_k».proof.Proof.Gen.OutLnRefIdeal.Run
public import proofs.«01_k».proof.Proof.Gen.OutLnRefIdeal.Read
public import proofs.«01_k».proof.Proof.OutLn
public import proofs.«01_k».proof.Proof.Gen.MlaPrep.Frame
public import proofs.«01_k».proof.Proof.Gen.MlaPrepIdeal.Frame
public import proofs.«01_k».proof.Proof.Gen.MlaPrepIdeal.Value
public import proofs.«01_k».proof.Proof.Gen.MlaPrepRefIdeal.Run
public import proofs.«01_k».proof.Proof.Gen.MlaPrepRefIdeal.Read
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal.Run
public import proofs.«01_k».proof.Proof.Gen.PostRefIdeal.Read
public import proofs.«01_k».proof.Proof.Gen.Conv.Frame
public import proofs.«01_k».proof.Proof.Gen.ConvIdeal.Frame
public import proofs.«01_k».proof.Proof.Gen.ConvIdeal.Value
public import proofs.«01_k».proof.Proof.Gen.ConvRefIdeal.Run
public import proofs.«01_k».proof.Proof.Gen.ConvRefIdeal.Read
public import proofs.«01_k».proof.Proof.Gen.LnIn.Frame
public import proofs.«01_k».proof.Proof.Gen.LnInIdeal.Frame
public import proofs.«01_k».proof.Proof.Gen.LnInIdeal.Value
public import proofs.«01_k».proof.Proof.Gen.LnInRefIdeal.Run
public import proofs.«01_k».proof.Proof.Gen.LnInRefIdeal.Read
public import proofs.«01_k».proof.Proof.Gen.Prep.Frame
public import proofs.«01_k».proof.Proof.Gen.PrepIdeal.Frame
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Pre_rwkv_prep_args
public import proofs.«01_k».proof.Proof.Gen.Pre_mla_prep_args
public import proofs.«01_k».proof.Proof.Gen.Pre_rwkv_post_args
public import proofs.«01_k».proof.Proof.MlaPrep
public import proofs.«01_k».proof.Proof.Prep
public import proofs.«01_k».proof.Proof.Post
public import proofs.«01_k».proof.Proof.Conv
public import proofs.«01_k».proof.Proof.LnIn
public import Idealize.ShloMosaic.Lib.Claim

@[expose] public section

set_option maxRecDepth 16384

noncomputable section

namespace Cert.Proof

open Idealize.ShloMosaic Idealize.SL.Sem

/-- Kernel and reference of the attention agree. -/
theorem algebraic_Attn : algebraic_AttnIdeal_AttnRefIdeal_pre_attn_args := by
  pair_intro
  · run_from Cert.AttnIdeal.Gen.run_main m g
  · run_from Cert.AttnRefIdeal.Value.run m' g'
    exact (Cert.AttnIdeal.Value.final m c (hpre c).1 (hpre c).2.1 (hpre c).2.2).symm

/-- In the channel mixer's kernel the named constant is the fourth root of 8. -/
theorem preserves_Ffn : preserves_Ffn_FfnIdeal :=
  IdealRules.named_const.statement Cert.FfnIdeal.κ "alpha" .f32 0x3FD744FD#32 _ rfl

/-- Kernel and reference of the channel mixer agree. -/
theorem algebraic_Ffn : algebraic_FfnIdeal_FfnRefIdeal := by
  pair_intro
  · run_from Cert.FfnIdeal.Gen.run_main m g
  · run_from Cert.FfnRefIdeal.Value.run m' g'
    all_goals obtain ⟨h0, h1, h2, h3, h4, h5⟩ := hagree c
    · rw [Cert.FfnRefIdeal.Read.val_main_v35_eq, h0, h1, h2, h3, h4, h5]
      exact (Cert.FfnIdeal.Value.final_f32 m c).symm
    · rw [Cert.FfnRefIdeal.Read.val_main_v36_eq, h0, h1, h2, h3, h4, h5]
      exact (Cert.FfnIdeal.Value.final_bf16 m c).symm

/-- Kernel and reference of the gates' projection agree. -/
theorem algebraic_InGate : algebraic_InGateIdeal_InGateRefIdeal := by
  pair_intro
  · run_from Cert.InGateIdeal.Gen.run_main m g
  · run_from Cert.InGateRefIdeal.Value.run m' g'
    exact (Cert.InGateIdeal.Value.final m c).symm

/-- Kernel and reference of the convolution's projection agree. -/
theorem algebraic_InConv : algebraic_InConvIdeal_InConvRefIdeal := by
  pair_intro
  · run_from Cert.InConvIdeal.Gen.run_main m g
  · run_from Cert.InConvRefIdeal.Value.run m' g'
    exact (Cert.InConvIdeal.Value.final m c).symm

/-- Kernel and reference of the recurrence's projection agree. -/
theorem algebraic_InRwkv : algebraic_InRwkvIdeal_InRwkvRefIdeal := by
  pair_intro
  · run_from Cert.InRwkvIdeal.Gen.run_main m g
  · run_from Cert.InRwkvRefIdeal.Value.run m' g'
    exact (Cert.InRwkvIdeal.Value.final m c).symm

/-- Kernel and reference of the attention's projection agree. -/
theorem algebraic_InMla : algebraic_InMlaIdeal_InMlaRefIdeal_pre_in_mla_args := by
  pair_intro
  · run_from Cert.InMlaIdeal.Gen.run_main m g
  · run_from Cert.InMlaRefIdeal.Value.run m' g'
    exact (Cert.InMlaIdeal.Value.final m c (hpre c).1 (hpre c).2).symm

/-- Kernel and reference of the merge agree. -/
theorem algebraic_Merge : algebraic_MergeIdeal_MergeRefIdeal := by
  pair_intro
  · run_from Cert.MergeIdeal.Gen.run_main m g
  · refine θ_run_mono (Cert.MergeRefIdeal.Value.run m' g') fun r h c =>
      ⟨(h c).1.trans ((Cert.MergeRefIdeal.Read.val_main_v19_eq _ _ _ _ _).trans ?_), (h c).2⟩
    obtain ⟨h0, h1, h2, h3, h4⟩ := hagree c
    rw [h0, h1, h2, h3, h4]
    exact (Cert.MergeIdeal.Value.final m c).symm

/-- In the output projection's kernel the named constant is the fourth root of 8. -/
theorem preserves_OutLn : preserves_OutLn_OutLnIdeal :=
  IdealRules.named_const.statement Cert.OutLnIdeal.κ "alpha" .f32 0x3FD744FD#32 _ rfl

/-- Kernel and reference of the output projection and layer norm agree. -/
theorem algebraic_OutLn : algebraic_OutLnIdeal_OutLnRefIdeal := by
  pair_intro
  · run_from Cert.OutLnIdeal.Gen.run_main m g
  · run_from Cert.OutLnRefIdeal.Value.run m' g'
    · exact (Cert.OutLnIdeal.Value.final_f32 m c).symm
    · exact (Cert.OutLnIdeal.Value.final_bf16 m c).symm

/-- In the attention's preparation the named constant is the reciprocal of the root of 192 times the logarithm of 2. -/
theorem preserves_MlaPrep : preserves_MlaPrep_MlaPrepIdeal :=
  IdealRules.named_const.statement Cert.MlaPrepIdeal.κ "scale" .f32 0x3DD53B95#32 _ rfl

/-- Kernel and reference of the attention's preparation agree. -/
theorem algebraic_MlaPrep : algebraic_MlaPrepIdeal_MlaPrepRefIdeal_pre_mla_prep_args := by
  intro m g m' g' hpre hagree
  refine ⟨fun c => Cert.MlaPrepRefIdeal.Read.val_main_v100 (F := Ideal) (m (c.tc.loc Cert.MlaPrepIdeal.main_arg0))
      (m (c.tc.loc Cert.MlaPrepIdeal.main_arg1)) (m (c.tc.loc Cert.MlaPrepIdeal.main_arg2)),
    fun c => Cert.MlaPrepRefIdeal.Read.val_main_v104 (F := Ideal) (m (c.tc.loc Cert.MlaPrepIdeal.main_arg0))
      (m (c.tc.loc Cert.MlaPrepIdeal.main_arg3)) (m (c.tc.loc Cert.MlaPrepIdeal.main_arg4)),
    fun c => Cert.MlaPrepRefIdeal.Read.val_main_v109 (F := Ideal) (m (c.tc.loc Cert.MlaPrepIdeal.main_arg0))
      (m (c.tc.loc Cert.MlaPrepIdeal.main_arg3)) (m (c.tc.loc Cert.MlaPrepIdeal.main_arg4)), ?_, ?_⟩
  · exact θ_run_mono (θ_run_and (Cert.MlaPrepIdeal.Gen.run_main m g) (Cert.MlaPrepIdeal.Gen.unchanged m g)) fun r h c =>
      ⟨((h.1 c).1 7).trans (Cert.MlaPrepIdeal.Value.final_q m c (hpre c)),
        ((h.1 c).1 8).trans (Cert.MlaPrepIdeal.Value.final_k m c (hpre c)),
        ((h.1 c).1 9).trans (Cert.MlaPrepIdeal.Value.final_v m c), h.2 c⟩
  · refine θ_run_mono (Cert.MlaPrepRefIdeal.Value.run m' g') fun r h c =>
      ⟨(h c).1.trans ((Cert.MlaPrepRefIdeal.Read.val_main_v100_eq m' c).trans ?_),
        (h c).2.1.trans ((Cert.MlaPrepRefIdeal.Read.val_main_v104_eq m' c).trans ?_),
        (h c).2.2.1.trans ((Cert.MlaPrepRefIdeal.Read.val_main_v109_eq _ _ _).trans ?_), (h c).2.2.2⟩
    all_goals obtain ⟨h0, h1, h2, h3, h4⟩ := hagree c
    · rw [h0, h1, h2]
    · rw [h0, h3, h4]
    · rw [h0, h3, h4]

/-- Kernel and reference of the recurrence's last part agree. -/
theorem algebraic_Post : algebraic_PostIdeal_PostRefIdeal_pre_rwkv_post_args := by
  intro m g m' g' hpre hagree
  refine ⟨fun c => Cert.PostRefIdeal.Read.val_main_v31 (F := Ideal) (m (c.tc.loc Cert.PostIdeal.main_arg0))
      (m (c.tc.loc Cert.PostIdeal.main_arg1)) (m (c.tc.loc Cert.PostIdeal.main_arg2)) (m (c.tc.loc Cert.PostIdeal.main_arg3))
      (m (c.tc.loc Cert.PostIdeal.main_arg4)) (m (c.tc.loc Cert.PostIdeal.main_arg5)), ?_, ?_⟩
  · exact θ_run_mono (θ_run_and (Cert.PostIdeal.Gen.run_main m g) (Cert.PostIdeal.Gen.unchanged m g)) fun r h c =>
      ⟨((h.1 c).1 7).trans (Cert.PostIdeal.Value.final m c (hpre c)), h.2 c⟩
  · run_from Cert.PostRefIdeal.Value.run m' g'
    rfl

/-- Kernel and reference of the convolution agree. -/
theorem algebraic_Conv : algebraic_ConvIdeal_ConvRefIdeal := by
  pair_intro
  · run_from Cert.ConvIdeal.Gen.run_main m g
  · run_from Cert.ConvRefIdeal.Value.run m' g'
    exact (Cert.ConvIdeal.Value.final m c).symm

/-- Kernel and reference of the first layer norm agree. -/
theorem algebraic_LnIn : algebraic_LnInIdeal_LnInRefIdeal := by
  pair_intro
  · run_from Cert.LnInIdeal.Gen.run_main m g
  · run_from Cert.LnInRefIdeal.Value.run m' g'
    · exact (Cert.LnInIdeal.Value.final_f32 m c).symm
    · exact (Cert.LnInIdeal.Value.final_bf16 m c).symm

/-- In the call before the recurrence the named constant is the square of the reference's smallest length. -/
theorem preserves_Prep : preserves_Prep_PrepIdeal :=
  IdealRules.named_const.statement Cert.PrepIdeal.κ "tiny" .f32 0x179ABE15#32 _ rfl

/-- Kernel and reference of the call before the recurrence agree. -/
theorem algebraic_Prep : algebraic_PrepIdeal_PrepRefIdeal_pre_rwkv_prep_args := by
  intro m g m' g' hpre hagree
  refine ⟨fun c => Cert.PrepRefIdeal.Read.val_main_v102 (F := Ideal) (m (c.tc.loc Cert.PrepIdeal.main_arg0)) (m (c.tc.loc Cert.PrepIdeal.main_arg1)),
    fun c => Cert.PrepRefIdeal.Read.val_main_v104 (F := Ideal) (m (c.tc.loc Cert.PrepIdeal.main_arg0)) (m (c.tc.loc Cert.PrepIdeal.main_arg1)),
    fun c => Cert.PrepRefIdeal.Read.val_main_v107 (F := Ideal) (m (c.tc.loc Cert.PrepIdeal.main_arg0)) (m (c.tc.loc Cert.PrepIdeal.main_arg1)) (m (c.tc.loc Cert.PrepIdeal.main_arg7)),
    fun c => Cert.PrepRefIdeal.Read.val_main_v109 (F := Ideal) (m (c.tc.loc Cert.PrepIdeal.main_arg0)) (m (c.tc.loc Cert.PrepIdeal.main_arg1)) (m (c.tc.loc Cert.PrepIdeal.main_arg4)) (m (c.tc.loc Cert.PrepIdeal.main_arg5)) (m (c.tc.loc Cert.PrepIdeal.main_arg8)),
    fun c => Cert.PrepRefIdeal.Read.val_main_v111 (F := Ideal) (m (c.tc.loc Cert.PrepIdeal.main_arg0)) (m (c.tc.loc Cert.PrepIdeal.main_arg1)) (m (c.tc.loc Cert.PrepIdeal.main_arg4)) (m (c.tc.loc Cert.PrepIdeal.main_arg5)) (m (c.tc.loc Cert.PrepIdeal.main_arg8)),
    fun c => Cert.PrepRefIdeal.Read.val_main_v113 (F := Ideal) (m (c.tc.loc Cert.PrepIdeal.main_arg0)) (m (c.tc.loc Cert.PrepIdeal.main_arg1)) (m (c.tc.loc Cert.PrepIdeal.main_arg4)) (m (c.tc.loc Cert.PrepIdeal.main_arg5)) (m (c.tc.loc Cert.PrepIdeal.main_arg7)),
    fun c => Cert.PrepRefIdeal.Read.val_main_v115 (F := Ideal) (m (c.tc.loc Cert.PrepIdeal.main_arg0)) (m (c.tc.loc Cert.PrepIdeal.main_arg1)) (m (c.tc.loc Cert.PrepIdeal.main_arg4)) (m (c.tc.loc Cert.PrepIdeal.main_arg5)) (m (c.tc.loc Cert.PrepIdeal.main_arg7)),
    fun c => Cert.PrepRefIdeal.Read.val_main_v118 (F := Ideal) (m (c.tc.loc Cert.PrepIdeal.main_arg0)) (m (c.tc.loc Cert.PrepIdeal.main_arg1)) (m (c.tc.loc Cert.PrepIdeal.main_arg4)) (m (c.tc.loc Cert.PrepIdeal.main_arg5)) (m (c.tc.loc Cert.PrepIdeal.main_arg8)) (m (c.tc.loc Cert.PrepIdeal.main_arg9)),
    fun c => Cert.PrepRefIdeal.Read.val_main_v120 (F := Ideal) (m (c.tc.loc Cert.PrepIdeal.main_arg0)) (m (c.tc.loc Cert.PrepIdeal.main_arg1)) (m (c.tc.loc Cert.PrepIdeal.main_arg6)), ?_, ?_⟩
  · exact θ_run_mono (θ_run_and (Cert.PrepIdeal.Gen.run_main m g) (Cert.PrepIdeal.Gen.unchanged m g)) fun r h c =>
      ⟨Cert.PrepIdeal.Value.out13 m c h.1,
        Cert.PrepIdeal.Value.out14 m c h.1,
        Cert.PrepIdeal.Value.out15 m c (hpre c) h.1,
        Cert.PrepIdeal.Value.out18 m c h.1,
        Cert.PrepIdeal.Value.out19 m c h.1,
        Cert.PrepIdeal.Value.out20 m c (hpre c) h.1,
        Cert.PrepIdeal.Value.out21 m c (hpre c) h.1,
        Cert.PrepIdeal.Value.out22 m c (hpre c) h.1,
        Cert.PrepIdeal.Value.out23 m c h.1, h.2 c⟩
  · refine θ_run_mono (Cert.PrepRefIdeal.Value.run m' g') fun r h c =>
      ⟨(h c).1.trans ((Cert.PrepRefIdeal.Read.val_main_v102_eq _ _).trans ?_),
        (h c).2.1.trans ((Cert.PrepRefIdeal.Read.val_main_v104_eq _ _).trans ?_),
        (h c).2.2.1.trans ((Cert.PrepRefIdeal.Read.val_main_v107_eq m' c).trans ?_),
        (h c).2.2.2.1.trans ((Cert.PrepRefIdeal.Read.val_main_v109_eq m' c).trans ?_),
        (h c).2.2.2.2.1.trans ((Cert.PrepRefIdeal.Read.val_main_v111_eq m' c).trans ?_),
        (h c).2.2.2.2.2.1.trans ((Cert.PrepRefIdeal.Read.val_main_v113_eq m' c).trans ?_),
        (h c).2.2.2.2.2.2.1.trans ((Cert.PrepRefIdeal.Read.val_main_v115_eq m' c).trans ?_),
        (h c).2.2.2.2.2.2.2.1.trans ((Cert.PrepRefIdeal.Read.val_main_v118_eq m' c).trans ?_),
        (h c).2.2.2.2.2.2.2.2.1.trans ((Cert.PrepRefIdeal.Read.val_main_v120_eq _ _ _).trans ?_), (h c).2.2.2.2.2.2.2.2.2⟩
    all_goals obtain ⟨h0, h1, h2, h3, h4, h5, h6, h7, h8, h9⟩ := hagree c
    · rw [h0, h1]
    · rw [h0, h1]
    · rw [h0, h1, h7]
    · rw [h0, h1, h4, h5, h8]
    · rw [h0, h1, h4, h5, h8]
    · rw [h0, h1, h4, h5, h7]
    · rw [h0, h1, h4, h5, h7]
    · rw [h0, h1, h4, h5, h8, h9]
    · rw [h0, h1, h6]

/-- The reference of the attention runs and leaves its arguments. -/
theorem frame_AttnRef : quiescent_AttnRefIdeal := fun m g _ =>
  (θ_run Cert.AttnRefIdeal.defs _ _).mono (fun r h => ⟨fun c => (h c).2, sem_eq_zero_of_no_sems (by decide) r.2⟩)
    (Cert.AttnRefIdeal.Value.run m g)

/-- The reference of the channel mixer runs and leaves its arguments. -/
theorem frame_FfnRef : quiescent_FfnRefIdeal := fun m g _ =>
  (θ_run Cert.FfnRefIdeal.defs _ _).mono (fun r h => ⟨fun c => (h c).2.2, sem_eq_zero_of_no_sems (by decide) r.2⟩)
    (Cert.FfnRefIdeal.Value.run m g)

/-- The reference of the gates' projection runs and leaves its arguments. -/
theorem frame_InGateRef : quiescent_InGateRefIdeal := fun m g _ =>
  (θ_run Cert.InGateRefIdeal.defs _ _).mono (fun r h => ⟨fun c => (h c).2, sem_eq_zero_of_no_sems (by decide) r.2⟩)
    (Cert.InGateRefIdeal.Value.run m g)

/-- The reference of the convolution's projection runs and leaves its arguments. -/
theorem frame_InConvRef : quiescent_InConvRefIdeal := fun m g _ =>
  (θ_run Cert.InConvRefIdeal.defs _ _).mono (fun r h => ⟨fun c => (h c).2, sem_eq_zero_of_no_sems (by decide) r.2⟩)
    (Cert.InConvRefIdeal.Value.run m g)

/-- The reference of the recurrence's projection runs and leaves its arguments. -/
theorem frame_InRwkvRef : quiescent_InRwkvRefIdeal := fun m g _ =>
  (θ_run Cert.InRwkvRefIdeal.defs _ _).mono (fun r h => ⟨fun c => (h c).2, sem_eq_zero_of_no_sems (by decide) r.2⟩)
    (Cert.InRwkvRefIdeal.Value.run m g)

/-- The reference of the attention's projection runs and leaves its arguments. -/
theorem frame_InMlaRef : quiescent_InMlaRefIdeal := fun m g _ =>
  (θ_run Cert.InMlaRefIdeal.defs _ _).mono (fun r h => ⟨fun c => (h c).2, sem_eq_zero_of_no_sems (by decide) r.2⟩)
    (Cert.InMlaRefIdeal.Value.run m g)

/-- The reference of the merge runs and leaves its arguments. -/
theorem frame_MergeRef : quiescent_MergeRefIdeal := fun m g _ =>
  (θ_run Cert.MergeRefIdeal.defs _ _).mono (fun r h => ⟨fun c => (h c).2, sem_eq_zero_of_no_sems (by decide) r.2⟩)
    (Cert.MergeRefIdeal.Value.run m g)

/-- The reference of the output projection and layer norm runs and leaves its arguments. -/
theorem frame_OutLnRef : quiescent_OutLnRefIdeal := fun m g _ =>
  (θ_run Cert.OutLnRefIdeal.defs _ _).mono (fun r h => ⟨fun c => (h c).2.2, sem_eq_zero_of_no_sems (by decide) r.2⟩)
    (Cert.OutLnRefIdeal.Value.run m g)

/-- The reference of the attention's preparation runs and leaves its arguments. -/
theorem frame_MlaPrepRef : quiescent_MlaPrepRefIdeal := fun m g _ =>
  (θ_run Cert.MlaPrepRefIdeal.defs _ _).mono (fun r h => ⟨fun c => (h c).2.2.2, sem_eq_zero_of_no_sems (by decide) r.2⟩)
    (Cert.MlaPrepRefIdeal.Value.run m g)

/-- The reference of the recurrence's last part runs and leaves its arguments. -/
theorem frame_PostRef : quiescent_PostRefIdeal := fun m g _ =>
  (θ_run Cert.PostRefIdeal.defs _ _).mono (fun r h => ⟨fun c => (h c).2, sem_eq_zero_of_no_sems (by decide) r.2⟩)
    (Cert.PostRefIdeal.Value.run m g)

/-- The reference of the convolution runs and leaves its arguments. -/
theorem frame_ConvRef : quiescent_ConvRefIdeal := fun m g _ =>
  (θ_run Cert.ConvRefIdeal.defs _ _).mono (fun r h => ⟨fun c => (h c).2, sem_eq_zero_of_no_sems (by decide) r.2⟩)
    (Cert.ConvRefIdeal.Value.run m g)

/-- The reference of the first layer norm runs and leaves its arguments. -/
theorem frame_LnInRef : quiescent_LnInRefIdeal := fun m g _ =>
  (θ_run Cert.LnInRefIdeal.defs _ _).mono (fun r h => ⟨fun c => (h c).2.2, sem_eq_zero_of_no_sems (by decide) r.2⟩)
    (Cert.LnInRefIdeal.Value.run m g)

/-- The reference of the call before the recurrence runs and leaves its arguments. -/
theorem frame_PrepRef : quiescent_PrepRefIdeal := fun m g _ =>
  (θ_run Cert.PrepRefIdeal.defs _ _).mono (fun r h => ⟨fun c => (h c).2.2.2.2.2.2.2.2.2, sem_eq_zero_of_no_sems (by decide) r.2⟩)
    (Cert.PrepRefIdeal.Value.run m g)

/-- The whole claim: every program runs and leaves its arguments, and every kernel agrees with its reference. -/
theorem claim : Cert.Claim := ⟨Cert.Attn.Gen.facts, Cert.AttnIdeal.Gen.facts, Cert.AttnRefIdeal.Gen.facts, Cert.Ffn.Gen.facts, Cert.FfnIdeal.Gen.facts, Cert.FfnRefIdeal.Gen.facts, Cert.InGate.Gen.facts, Cert.InGateIdeal.Gen.facts, Cert.InGateRefIdeal.Gen.facts, Cert.InConv.Gen.facts, Cert.InConvIdeal.Gen.facts, Cert.InConvRefIdeal.Gen.facts, Cert.InRwkv.Gen.facts, Cert.InRwkvIdeal.Gen.facts, Cert.InRwkvRefIdeal.Gen.facts, Cert.InMla.Gen.facts, Cert.InMlaIdeal.Gen.facts, Cert.InMlaRefIdeal.Gen.facts, Cert.Merge.Gen.facts, Cert.MergeIdeal.Gen.facts, Cert.MergeRefIdeal.Gen.facts, Cert.OutLn.Gen.facts, Cert.OutLnIdeal.Gen.facts, Cert.OutLnRefIdeal.Gen.facts, Cert.MlaPrep.Gen.facts, Cert.MlaPrepIdeal.Gen.facts, Cert.MlaPrepRefIdeal.Gen.facts, Cert.Post.Gen.facts, Cert.PostIdeal.Gen.facts, Cert.PostRefIdeal.Gen.facts, Cert.Conv.Gen.facts, Cert.ConvIdeal.Gen.facts, Cert.ConvRefIdeal.Gen.facts, Cert.LnIn.Gen.facts, Cert.LnInIdeal.Gen.facts, Cert.LnInRefIdeal.Gen.facts, Cert.Prep.Gen.facts, Cert.PrepIdeal.Gen.facts, Cert.PrepRefIdeal.Gen.facts, Cert.Pre_attn_args.Gen.facts, Cert.Pre_in_mla_args.Gen.facts, Cert.Pre_mla_prep_args.Gen.facts, Cert.Pre_rwkv_post_args.Gen.facts, Cert.Pre_rwkv_prep_args.Gen.facts,
  fun m ρ _ => Cert.Attn.Gen.frame m ρ,
  fun m ρ _ => Cert.AttnIdeal.Gen.frame m ρ,
  fun m ρ _ => Cert.AttnIdeal.Gen.frame m ρ,
  frame_AttnRef,
  fun m ρ _ => frame_AttnRef m ρ trivial,
  fun m ρ _ => Cert.Ffn.Gen.frame m ρ,
  fun m ρ _ => Cert.FfnIdeal.Gen.frame m ρ,
  frame_FfnRef,
  fun m ρ _ => Cert.InGate.Gen.frame m ρ,
  fun m ρ _ => Cert.InGateIdeal.Gen.frame m ρ,
  frame_InGateRef,
  fun m ρ _ => Cert.InConv.Gen.frame m ρ,
  fun m ρ _ => Cert.InConvIdeal.Gen.frame m ρ,
  frame_InConvRef,
  fun m ρ _ => Cert.InRwkv.Gen.frame m ρ,
  fun m ρ _ => Cert.InRwkvIdeal.Gen.frame m ρ,
  frame_InRwkvRef,
  fun m ρ _ => Cert.InMla.Gen.frame m ρ,
  fun m ρ _ => Cert.InMlaIdeal.Gen.frame m ρ,
  fun m ρ _ => Cert.InMlaIdeal.Gen.frame m ρ,
  frame_InMlaRef,
  fun m ρ _ => frame_InMlaRef m ρ trivial,
  fun m ρ _ => Cert.Merge.Gen.frame m ρ,
  fun m ρ _ => Cert.MergeIdeal.Gen.frame m ρ,
  frame_MergeRef,
  fun m ρ _ => Cert.OutLn.Gen.frame m ρ,
  fun m ρ _ => Cert.OutLnIdeal.Gen.frame m ρ,
  frame_OutLnRef,
  fun m ρ _ => Cert.MlaPrep.Gen.frame m ρ,
  fun m ρ _ => Cert.MlaPrepIdeal.Gen.frame m ρ,
  fun m ρ _ => Cert.MlaPrepIdeal.Gen.frame m ρ,
  frame_MlaPrepRef,
  fun m ρ _ => frame_MlaPrepRef m ρ trivial,
  fun m ρ _ => Cert.Post.Gen.frame m ρ,
  fun m ρ _ => Cert.PostIdeal.Gen.frame m ρ,
  fun m ρ _ => Cert.PostIdeal.Gen.frame m ρ,
  frame_PostRef,
  fun m ρ _ => frame_PostRef m ρ trivial,
  fun m ρ _ => Cert.Conv.Gen.frame m ρ,
  fun m ρ _ => Cert.ConvIdeal.Gen.frame m ρ,
  frame_ConvRef,
  fun m ρ _ => Cert.LnIn.Gen.frame m ρ,
  fun m ρ _ => Cert.LnInIdeal.Gen.frame m ρ,
  frame_LnInRef,
  fun m ρ _ => Cert.Prep.Gen.frame m ρ,
  fun m ρ _ => Cert.PrepIdeal.Gen.frame m ρ,
  fun m ρ _ => Cert.PrepIdeal.Gen.frame m ρ,
  frame_PrepRef,
  fun m ρ _ => frame_PrepRef m ρ trivial,
  trivial,
  algebraic_Attn,
  preserves_Ffn,
  algebraic_Ffn,
  trivial,
  algebraic_InGate,
  trivial,
  algebraic_InConv,
  trivial,
  algebraic_InRwkv,
  trivial,
  algebraic_InMla,
  trivial,
  algebraic_Merge,
  preserves_OutLn,
  algebraic_OutLn,
  preserves_MlaPrep,
  algebraic_MlaPrep,
  trivial,
  algebraic_Post,
  trivial,
  algebraic_Conv,
  trivial,
  algebraic_LnIn,
  preserves_Prep,
  algebraic_Prep⟩

end Cert.Proof

end
